-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_encoder [hPre_finite_encoder : Cert.Pre_finite_encoder.Facts] (m : (ℓ : Loc Cert.KernelIdeal.nD Cert.KernelIdeal.τ Cert.KernelIdeal.sig) → Buf (Elt Ideal) ℓ) : Prop :=
  ∀ c : Dev Cert.KernelIdeal.nD,
    (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_encoder [hPre_finite_encoder : Cert.Pre_finite_encoder.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_encoder [hKernelIdeal : Cert.KernelIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_encoder m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_encoder [hReferenceIdeal : Cert.ReferenceIdeal.Facts] [hPre_finite_encoder : Cert.Pre_finite_encoder.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_encoder m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_encoder [hKernelIdeal : Cert.KernelIdeal.Facts] [hReferenceIdeal : Cert.ReferenceIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_encoder m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v353)) (v1 : (c : Dev Cert.KernelIdeal.nD) → Buf (Elt Ideal) ((c.tc : Thread Cert.KernelIdeal.nD Cert.KernelIdeal.τ).loc Cert.KernelIdeal.main_v236)) (v2 : (c : Dev Cert.KernelIdeal.nD) → Buf (Elt Ideal) ((c.tc : Thread Cert.KernelIdeal.nD Cert.KernelIdeal.τ).loc Cert.KernelIdeal.main_v239)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v353) = v0 c
          ∧ r.2.mem ((c.tc : Thread Cert.KernelIdeal.nD Cert.KernelIdeal.τ).loc Cert.KernelIdeal.main_v236) = v1 c
          ∧ r.2.mem ((c.tc : Thread Cert.KernelIdeal.nD Cert.KernelIdeal.τ).loc Cert.KernelIdeal.main_v239) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_encoder : Cert.Pre_finite_encoder.Facts),
    quiescent_Kernel (hKernel := hKernel)
    ∧ quiescent_KernelIdeal (hKernelIdeal := hKernelIdeal)
    ∧ quiescent_KernelIdeal_pre_finite_encoder (hKernelIdeal := hKernelIdeal) (hPre_finite_encoder := hPre_finite_encoder)
    ∧ quiescent_ReferenceIdeal (hReferenceIdeal := hReferenceIdeal)
    ∧ quiescent_ReferenceIdeal_pre_finite_encoder (hReferenceIdeal := hReferenceIdeal) (hPre_finite_encoder := hPre_finite_encoder)
    ∧ preserves_Kernel_KernelIdeal
    ∧ algebraic_KernelIdeal_ReferenceIdeal_pre_finite_encoder (hKernelIdeal := hKernelIdeal) (hReferenceIdeal := hReferenceIdeal) (hPre_finite_encoder := hPre_finite_encoder)
-- ==== Pre_finite_encoder.lean ====
abbrev S2x3x224x224 : Shape := ⟨4, ![2, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S128x128x1x1 : Shape := ⟨4, ![128, 128, 1, 1]⟩
abbrev S128x128 : Shape := ⟨2, ![128, 128]⟩
abbrev S3x128x1x1 : Shape := ⟨4, ![3, 128, 1, 1]⟩
abbrev S3 : Shape := ⟨1, ![3]⟩
abbrev S_ : Shape := ⟨0, ![]⟩

class Facts : Prop where
  bcast_S_S2x3x224x224 : S_.BroadcastsInDim S2x3x224x224 (![] : Fin 0 → Fin S2x3x224x224.rank)
  reducesTo_S2x3x224x224_S_d0_1_2_3 : S2x3x224x224.ReducesTo [0, 1, 2, 3] S_
  h_S_ : 0 < S_.numel
  bcast_S_S128x3x4x4 : S_.BroadcastsInDim S128x3x4x4 (![] : Fin 0 → Fin S128x3x4x4.rank)
  reducesTo_S128x3x4x4_S_d0_1_2_3 : S128x3x4x4.ReducesTo [0, 1, 2, 3] S_
  bcast_S_S128 : S_.BroadcastsInDim S128 (![] : Fin 0 → Fin S128.rank)
  reducesTo_S128_S_d0 : S128.ReducesTo [0] S_
  bcast_S_S128x128x4x4 : S_.BroadcastsInDim S128x128x4x4 (![] : Fin 0 → Fin S128x128x4x4.rank)
  reducesTo_S128x128x4x4_S_d0_1_2_3 : S128x128x4x4.ReducesTo [0, 1, 2, 3] S_
  bcast_S_S128x128x1x1 : S_.BroadcastsInDim S128x128x1x1 (![] : Fin 0 → Fin S128x128x1x1.rank)
  reducesTo_S128x128x1x1_S_d0_1_2_3 : S128x128x1x1.ReducesTo [0, 1, 2, 3] S_

variable [Facts]

def fn_part2 {F : FTy → Type} [FloatOps F] (main_arg7 : FVec F S128x128x1x1 .f32) (main_arg8 : FVec F S128 .f32) (main_v33 : IVec S_ 1) : IVec S_ 1 :=
  let main_v34 : FVec F S128x128x1x1 .f32 := Host.absf main_arg7
  let main_cst_12 : FVec F S_ .f32 := constant S_ .f32 0x7F800000#32
  let main_v35 : FVec F S128x128x1x1 .f32 := broadcastInDim S128x128x1x1 ![] bcast_S_S128x128x1x1 main_cst_12
  let main_v36 : IVec S128x128x1x1 1 := cmpf .olt main_v34 main_v35
  let main_c_13 : IVec S_ 1 := constantI S_ 1 1#1
  let main_v37 : IVec S_ 1 := (fun x v => Host.reduce IntOp.andi x v reducesTo_S128x128x1x1_S_d0_1_2_3 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128x4x4 .f32) (main_arg6 : FVec F S128 .f32) (main_arg7 : FVec F S128x128x1x1 .f32) (main_arg8 : FVec F S128 .f32) (main_v13 : IVec S_ 1) (main_v16 : IVec S128x128x4x4 1) : IVec S_ 1 :=
  let main_c_5 : IVec S_ 1 := constantI S_ 1 1#1
  let main_v17 : IVec S_ 1 := (fun x v => Host.reduce IntOp.andi x v reducesTo_S128x128x4x4_S_d0_1_2_3 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128x4x4 .f32 := Host.absf main_arg5
  let main_cst_8 : FVec F S_ .f32 := constant S_ .f32 0x7F800000#32
  let main_v25 : FVec F S128x128x4x4 .f32 := broadcastInDim S128x128x4x4 ![] bcast_S_S128x128x4x4 main_cst_8
  let main_v26 : IVec S128x128x4x4 1 := cmpf .olt main_v24 main_v25
  let main_c_9 : IVec S_ 1 := constantI S_ 1 1#1
  let main_v27 : IVec S_ 1 := (fun x v => Host.reduce IntOp.andi x v reducesTo_S128x128x4x4_S_d0_1_2_3 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S2x3x224x224 .f32) (main_arg1 : FVec F S128x3x4x4 .f32) (main_arg2 : FVec F S128 .f32) (main_arg3 : FVec F S128x128x4x4 .f32) (main_arg4 : FVec F S128 .f32) (main_arg5 : FVec F S128x128x4x4 .f32) (main_arg6 : FVec F S128 .f32) (main_arg7 : FVec F S128x128x1x1 .f32) (main_arg8 : FVec F S128 .f32) (main_arg9 : FVec F S128x128 .f32) (main_arg10 : FVec F S128x128x1x1 .f32) (main_arg11 : FVec F S128 .f32) (main_arg12 : FVec F S128x128x4x4 .f32) (main_arg13 : FVec F S128 .f32) (main_arg14 : FVec F S128x128x4x4 .f32) (main_arg15 : FVec F S128 .f32) (main_arg16 : FVec F S128x128x4x4 .f32) (main_arg17 : FVec F S128 .f32) (main_arg18 : FVec F S3x128x1x1 .f32) (main_arg19 : FVec F S3 .f32) : IVec S_ 1 :=
  let main_v0 : FVec F S2x3x224x224 .f32 := Host.absf main_arg0
  let main_cst : FVec F S_ .f32 := constant S_ .f32 0x7F800000#32
  let main_v1 : FVec F S2x3x224x224 .f32 := broadcastInDim S2x3x224x224 ![] bcast_S_S2x3x224x224 main_cst
  let main_v2 : IVec S2x3x224x224 1 := cmpf .olt main_v0 main_v1
  let main_c : IVec S_ 1 := constantI S_ 1 1#1
  let main_v3 : IVec S_ 1 := (fun x v => Host.reduce IntOp.andi x v reducesTo_S2x3x224x224_S_d0_1_2_3 h_S_) main_v2 main_c
  let main_v4 : FVec F S128x3x4x4 .f32 := Host.absf main_arg1
  let main_cst_0 : FVec F S_ .f32 := constant S_ .f32 0x7F800000#32
  let main_v5 : FVec F S128x3x4x4 .f32 := broadcastInDim S128x3x4x4 ![] bcast_S_S128x3x4x4 main_cst_0
  let main_v6 : IVec S128x3x4x4 1 := cmpf .olt main_v4 main_v5
  let main_c_1 : IVec S_ 1 := constantI S_ 1 1#1
  let main_v7 : IVec S_ 1 := (fun x v => Host.reduce IntOp.andi x v reducesTo_S128x3x4x4_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128x4x4 .f32 := Host.absf main_arg3
  let main_cst_4 : FVec F S_ .f32 := constant S_ .f32 0x7F800000#32
  let main_v15 : FVec F S128x128x4x4 .f32 := broadcastInDim S128x128x4x4 ![] bcast_S_S128x128x4x4 main_cst_4
  let main_v16 : IVec S128x128x4x4 1 := cmpf .olt main_v14 main_v15
  fn_part1 (F := F) main_arg4 main_arg5 main_arg6 main_arg7 main_arg8 main_v13 main_v16
-- ==== Kernel.lean ====
abbrev S2x3x224x224 : Shape := ⟨4, ![2, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S128x128x1x1 : Shape := ⟨4, ![128, 128, 1, 1]⟩
abbrev S128x128 : Shape := ⟨2, ![128, 128]⟩
abbrev S3x128x1x1 : Shape := ⟨4, ![3, 128, 1, 1]⟩
abbrev S3 : Shape := ⟨1, ![3]⟩
abbrev S3x2 : Shape := ⟨2, ![3, 2]⟩
abbrev S_ : Shape := ⟨0, ![]⟩
abbrev S2x3x226x226 : Shape := ⟨4, ![2, 3, 226, 226]⟩
abbrev S2x1x112x112 : Shape := ⟨4, ![2, 1, 112, 112]⟩
abbrev S2x112x112 : Shape := ⟨3, ![2, 112, 112]⟩
abbrev S25088 : Shape := ⟨1, ![25088]⟩
abbrev S1x25088 : Shape := ⟨2, ![1, 25088]⟩
abbrev S16x25088 : Shape := ⟨2, ![16, 25088]⟩
abbrev S48x25088 : Shape := ⟨2, ![48, 25088]⟩
abbrev S4x4x3x128 : Shape := ⟨4, ![4, 4, 3, 128]⟩
abbrev S48x128 : Shape := ⟨2, ![48, 128]⟩
abbrev S1x128 : Shape := ⟨2, ![1, 128]⟩
abbrev S25088x128 : Shape := ⟨2, ![25088, 128]⟩
abbrev S48x3584 : Shape := ⟨2, ![48, 3584]⟩
abbrev S3584x128 : Shape := ⟨2, ![3584, 128]⟩
abbrev S2x112x112x128 : Shape := ⟨4, ![2, 112, 112, 128]⟩
abbrev S2x114x114x128 : Shape := ⟨4, ![2, 114, 114, 128]⟩
abbrev S2x57x2x57x2x128 : Shape := ⟨6, ![2, 57, 2, 57, 2, 128]⟩
abbrev S2x57x1x57x1x128 : Shape := ⟨6, ![2, 57, 1, 57, 1, 128]⟩
abbrev S2x57x57x128 : Shape := ⟨4, ![2, 57, 57, 128]⟩
abbrev S4x4x128x128 : Shape := ⟨4, ![4, 4, 128, 128]⟩
abbrev S2048x128 : Shape := ⟨2, ![2048, 128]⟩
abbrev S2x56x56x128 : Shape := ⟨4, ![2, 56, 56, 128]⟩
abbrev S1x57x57x128 : Shape := ⟨4, ![1, 57, 57, 128]⟩
abbrev S1x56x56x128 : Shape := ⟨4, ![1, 56, 56, 128]⟩
abbrev S3136x128 : Shape := ⟨2, ![3136, 128]⟩
abbrev S56x56x128 : Shape := ⟨3, ![56, 56, 128]⟩
abbrev S3136x256 : Shape := ⟨2, ![3136, 256]⟩
abbrev S256x128 : Shape := ⟨2, ![256, 128]⟩
abbrev S2x58x58x128 : Shape := ⟨4, ![2, 58, 58, 128]⟩
abbrev S2x29x2x29x2x128 : Shape := ⟨6, ![2, 29, 2, 29, 2, 128]⟩
abbrev S2x29x1x29x1x128 : Shape := ⟨6, ![2, 29, 1, 29, 1, 128]⟩
abbrev S2x29x29x128 : Shape := ⟨4, ![2, 29, 29, 128]⟩
abbrev S2x28x28x128 : Shape := ⟨4, ![2, 28, 28, 128]⟩
abbrev S1x29x29x128 : Shape := ⟨4, ![1, 29, 29, 128]⟩
abbrev S1x28x28x128 : Shape := ⟨4, ![1, 28, 28, 128]⟩
abbrev S784x128 : Shape := ⟨2, ![784, 128]⟩
abbrev S28x28x128 : Shape := ⟨3, ![28, 28, 128]⟩
abbrev S784x256 : Shape := ⟨2, ![784, 256]⟩
abbrev S1568x128 : Shape := ⟨2, ![1568, 128]⟩
abbrev S2x128x28x28 : Shape := ⟨4, ![2, 128, 28, 28]⟩
abbrev S392x128 : Shape := ⟨2, ![392, 128]⟩
abbrev S392 : Shape := ⟨1, ![392]⟩
abbrev S392x1 : Shape := ⟨2, ![392, 1]⟩
abbrev S5x5x128x128 : Shape := ⟨4, ![5, 5, 128, 128]⟩
abbrev S3x2x1x1 : Shape := ⟨4, ![3, 2, 1, 1]⟩
abbrev S1x1x3x2 : Shape := ⟨4, ![1, 1, 3, 2]⟩
abbrev S3x2x3x2 : Shape := ⟨4, ![3, 2, 3, 2]⟩
abbrev S3x2x3x2x1 : Shape := ⟨5, ![3, 2, 3, 2, 1]⟩
abbrev S3x2x3x2x2 : Shape := ⟨5, ![3, 2, 3, 2, 2]⟩
abbrev S3x2x3x2x128x128 : Shape := ⟨6, ![3, 2, 3, 2, 128, 128]⟩
abbrev S3x3x128x2x2x128 : Shape := ⟨6, ![3, 3, 128, 2, 2, 128]⟩
abbrev S1152x512 : Shape := ⟨2, ![1152, 512]⟩
abbrev S4x128 : Shape := ⟨2, ![4, 128]⟩
abbrev S512 : Shape := ⟨1, ![512]⟩
abbrev S2x30x30x128 : Shape := ⟨4, ![2, 30, 30, 128]⟩
abbrev S1x512 : Shape := ⟨2, ![1, 512]⟩
abbrev S2x28x28x512 : Shape := ⟨4, ![2, 28, 28, 512]⟩
abbrev S1x30x30x128 : Shape := ⟨4, ![1, 30, 30, 128]⟩
abbrev S1x28x28x512 : Shape := ⟨4, ![1, 28, 28, 512]⟩
abbrev S784x512 : Shape := ⟨2, ![784, 512]⟩
abbrev S128x512 : Shape := ⟨2, ![128, 512]⟩
abbrev S2x28x28x2x2x128 : Shape := ⟨6, ![2, 28, 28, 2, 2, 128]⟩
abbrev S2x28x2x28x2x128 : Shape := ⟨6, ![2, 28, 2, 28, 2, 128]⟩
abbrev S2x56x56x512 : Shape := ⟨4, ![2, 56, 56, 512]⟩
abbrev S1x58x58x128 : Shape := ⟨4, ![1, 58, 58, 128]⟩
abbrev S1x56x56x512 : Shape := ⟨4, ![1, 56, 56, 512]⟩
abbrev S3136x512 : Shape := ⟨2, ![3136, 512]⟩
abbrev S2x56x56x2x2x128 : Shape := ⟨6, ![2, 56, 56, 2, 2, 128]⟩
abbrev S2x56x2x56x2x128 : Shape := ⟨6, ![2, 56, 2, 56, 2, 128]⟩
abbrev S2x112x112x512 : Shape := ⟨4, ![2, 112, 112, 512]⟩
abbrev S1x114x114x128 : Shape := ⟨4, ![1, 114, 114, 128]⟩
abbrev S1x56x112x512 : Shape := ⟨4, ![1, 56, 112, 512]⟩
abbrev S6272x512 : Shape := ⟨2, ![6272, 512]⟩
abbrev S1x56x112x128 : Shape := ⟨4, ![1, 56, 112, 128]⟩
abbrev S56x112x128 : Shape := ⟨3, ![56, 112, 128]⟩
abbrev S6272x128 : Shape := ⟨2, ![6272, 128]⟩
abbrev S2x112x112x2x2x128 : Shape := ⟨6, ![2, 112, 112, 2, 2, 128]⟩
abbrev S2x112x2x112x2x128 : Shape := ⟨6, ![2, 112, 2, 112, 2, 128]⟩
abbrev S2x224x224x128 : Shape := ⟨4, ![2, 224, 224, 128]⟩
abbrev S3x128 : Shape := ⟨2, ![3, 128]⟩
abbrev S128x3 : Shape := ⟨2, ![128, 3]⟩
abbrev S128x8 : Shape := ⟨2, ![128, 8]⟩
abbrev S8 : Shape := ⟨1, ![8]⟩
abbrev S100352x128 : Shape := ⟨2, ![100352, 128]⟩
abbrev S1x8 : Shape := ⟨2, ![1, 8]⟩
abbrev S100352x8 : Shape := ⟨2, ![100352, 8]⟩
abbrev S12544x128 : Shape := ⟨2, ![12544, 128]⟩
abbrev S12544x8 : Shape := ⟨2, ![12544, 8]⟩
abbrev S100352x3 : Shape := ⟨2, ![100352, 3]⟩
abbrev S2x224x224x3 : Shape := ⟨4, ![2, 224, 224, 3]⟩

abbrev nBuf : Space → Nat
  | .hbm => 409
  | .vmem => 67
  | .smem => 0
  | _ => 0

abbrev hbmTy0_0 (i : Nat) : BufTy := match i % 128 with
  | 0 => ⟨S2x3x224x224, .f32⟩
  | 1 => ⟨S128x3x4x4, .f32⟩
  | 2 => ⟨S128, .f32⟩
  | 3 => ⟨S128x128x4x4, .f32⟩
  | 4 => ⟨S128, .f32⟩
  | 5 => ⟨S128x128x4x4, .f32⟩
  | 6 => ⟨S128, .f32⟩
  | 7 => ⟨S128x128x1x1, .f32⟩
  | 8 => ⟨S128, .f32⟩
  | 9 => ⟨S128x128, .f32⟩
  | 10 => ⟨S128x128x1x1, .f32⟩
  | 11 => ⟨S128, .f32⟩
  | 12 => ⟨S128x128x4x4, .f32⟩
  | 13 => ⟨S128, .f32⟩
  | 14 => ⟨S128x128x4x4, .f32⟩
  | 15 => ⟨S128, .f32⟩
  | 16 => ⟨S128x128x4x4, .f32⟩
  | 17 => ⟨S128, .f32⟩
  | 18 => ⟨S3x128x1x1, .f32⟩
  | 19 => ⟨S3, .f32⟩
  | 20 => ⟨S3x2, .i32⟩
  | 21 => ⟨S_, .i32⟩
  | 22 => ⟨S_, .f32⟩
  | 23 => ⟨S2x3x226x226, .f32⟩
  | 24 => ⟨S2x1x112x112, .f32⟩
  | 25 => ⟨S2x112x112, .f32⟩
  | 26 => ⟨S2x1x112x112, .f32⟩
  | 27 => ⟨S2x112x112, .f32⟩
  | 28 => ⟨S2x1x112x112, .f32⟩
  | 29 => ⟨S2x112x112, .f32⟩
  | 30 => ⟨S2x1x112x112, .f32⟩
  | 31 => ⟨S2x112x112, .f32⟩
  | 32 => ⟨S2x1x112x112, .f32⟩
  | 33 => ⟨S2x112x112, .f32⟩
  | 34 => ⟨S2x1x112x112, .f32⟩
  | 35 => ⟨S2x112x112, .f32⟩
  | 36 => ⟨S2x1x112x112, .f32⟩
  | 37 => ⟨S2x112x112, .f32⟩
  | 38 => ⟨S2x1x112x112, .f32⟩
  | 39 => ⟨S2x112x112, .f32⟩
  | 40 => ⟨S2x1x112x112, .f32⟩
  | 41 => ⟨S2x112x112, .f32⟩
  | 42 => ⟨S2x1x112x112, .f32⟩
  | 43 => ⟨S2x112x112, .f32⟩
  | 44 => ⟨S2x1x112x112, .f32⟩
  | 45 => ⟨S2x112x112, .f32⟩
  | 46 => ⟨S2x1x112x112, .f32⟩
  | 47 => ⟨S2x112x112, .f32⟩
  | 48 => ⟨S2x1x112x112, .f32⟩
  | 49 => ⟨S2x112x112, .f32⟩
  | 50 => ⟨S2x1x112x112, .f32⟩
  | 51 => ⟨S2x112x112, .f32⟩
  | 52 => ⟨S2x1x112x112, .f32⟩
  | 53 => ⟨S2x112x112, .f32⟩
  | 54 => ⟨S2x1x112x112, .f32⟩
  | 55 => ⟨S2x112x112, .f32⟩
  | 56 => ⟨S2x1x112x112, .f32⟩
  | 57 => ⟨S2x112x112, .f32⟩
  | 58 => ⟨S2x1x112x112, .f32⟩
  | 59 => ⟨S2x112x112, .f32⟩
  | 60 => ⟨S2x1x112x112, .f32⟩
  | 61 => ⟨S2x112x112, .f32⟩
  | 62 => ⟨S2x1x112x112, .f32⟩
  | 63 => ⟨S2x112x112, .f32⟩
  | 64 => ⟨S2x1x112x112, .f32⟩
  | 65 => ⟨S2x112x112, .f32⟩
  | 66 => ⟨S2x1x112x112, .f32⟩
  | 67 => ⟨S2x112x112, .f32⟩
  | 68 => ⟨S2x1x112x112, .f32⟩
  | 69 => ⟨S2x112x112, .f32⟩
  | 70 => ⟨S2x1x112x112, .f32⟩
  | 71 => ⟨S2x112x112, .f32⟩
  | 72 => ⟨S2x1x112x112, .f32⟩
  | 73 => ⟨S2x112x112, .f32⟩
  | 74 => ⟨S2x1x112x112, .f32⟩
  | 75 => ⟨S2x112x112, .f32⟩
  | 76 => ⟨S2x1x112x112, .f32⟩
  | 77 => ⟨S2x112x112, .f32⟩
  | 78 => ⟨S2x1x112x112, .f32⟩
  | 79 => ⟨S2x112x112, .f32⟩
  | 80 => ⟨S2x1x112x112, .f32⟩
  | 81 => ⟨S2x112x112, .f32⟩
  | 82 => ⟨S2x1x112x112, .f32⟩
  | 83 => ⟨S2x112x112, .f32⟩
  | 84 => ⟨S2x1x112x112, .f32⟩
  | 85 => ⟨S2x112x112, .f32⟩
  | 86 => ⟨S2x1x112x112, .f32⟩
  | 87 => ⟨S2x112x112, .f32⟩
  | 88 => ⟨S2x1x112x112, .f32⟩
  | 89 => ⟨S2x112x112, .f32⟩
  | 90 => ⟨S2x1x112x112, .f32⟩
  | 91 => ⟨S2x112x112, .f32⟩
  | 92 => ⟨S2x1x112x112, .f32⟩
  | 93 => ⟨S2x112x112, .f32⟩
  | 94 => ⟨S2x1x112x112, .f32⟩
  | 95 => ⟨S2x112x112, .f32⟩
  | 96 => ⟨S2x1x112x112, .f32⟩
  | 97 => ⟨S2x112x112, .f32⟩
  | 98 => ⟨S2x1x112x112, .f32⟩
  | 99 => ⟨S2x112x112, .f32⟩
  | 100 => ⟨S2x1x112x112, .f32⟩
  | 101 => ⟨S2x112x112, .f32⟩
  | 102 => ⟨S2x1x112x112, .f32⟩
  | 103 => ⟨S2x112x112, .f32⟩
  | 104 => ⟨S2x1x112x112, .f32⟩
  | 105 => ⟨S2x112x112, .f32⟩
  | 106 => ⟨S2x1x112x112, .f32⟩
  | 107 => ⟨S2x112x112, .f32⟩
  | 108 => ⟨S2x1x112x112, .f32⟩
  | 109 => ⟨S2x112x112, .f32⟩
  | 110 => ⟨S2x1x112x112, .f32⟩
  | 111 => ⟨S2x112x112, .f32⟩
  | 112 => ⟨S2x1x112x112, .f32⟩
  | 113 => ⟨S2x112x112, .f32⟩
  | 114 => ⟨S2x1x112x112, .f32⟩
  | 115 => ⟨S2x112x112, .f32⟩
  | 116 => ⟨S2x1x112x112, .f32⟩
  | 117 => ⟨S2x112x112, .f32⟩
  | 118 => ⟨S2x1x112x112, .f32⟩
  | 119 => ⟨S2x112x112, .f32⟩
  | 120 => ⟨S25088, .f32⟩
  | 121 => ⟨S25088, .f32⟩
  | 122 => ⟨S25088, .f32⟩
  | 123 => ⟨S25088, .f32⟩
  | 124 => ⟨S25088, .f32⟩
  | 125 => ⟨S25088, .f32⟩
  | 126 => ⟨S25088, .f32⟩
  | 127 => ⟨S25088, .f32⟩
  | _ => ⟨S2x3x224x224, .f32⟩

abbrev hbmTy0_1 (i : Nat) : BufTy := match i % 128 with
  | 0 => ⟨S25088, .f32⟩
  | 1 => ⟨S25088, .f32⟩
  | 2 => ⟨S25088, .f32⟩
  | 3 => ⟨S25088, .f32⟩
  | 4 => ⟨S25088, .f32⟩
  | 5 => ⟨S25088, .f32⟩
  | 6 => ⟨S25088, .f32⟩
  | 7 => ⟨S25088, .f32⟩
  | 8 => ⟨S25088, .f32⟩
  | 9 => ⟨S25088, .f32⟩
  | 10 => ⟨S25088, .f32⟩
  | 11 => ⟨S25088, .f32⟩
  | 12 => ⟨S25088, .f32⟩
  | 13 => ⟨S25088, .f32⟩
  | 14 => ⟨S25088, .f32⟩
  | 15 => ⟨S25088, .f32⟩
  | 16 => ⟨S25088, .f32⟩
  | 17 => ⟨S25088, .f32⟩
  | 18 => ⟨S25088, .f32⟩
  | 19 => ⟨S25088, .f32⟩
  | 20 => ⟨S25088, .f32⟩
  | 21 => ⟨S25088, .f32⟩
  | 22 => ⟨S25088, .f32⟩
  | 23 => ⟨S25088, .f32⟩
  | 24 => ⟨S25088, .f32⟩
  | 25 => ⟨S25088, .f32⟩
  | 26 => ⟨S25088, .f32⟩
  | 27 => ⟨S25088, .f32⟩
  | 28 => ⟨S25088, .f32⟩
  | 29 => ⟨S25088, .f32⟩
  | 30 => ⟨S25088, .f32⟩
  | 31 => ⟨S25088, .f32⟩
  | 32 => ⟨S25088, .f32⟩
  | 33 => ⟨S25088, .f32⟩
  | 34 => ⟨S25088, .f32⟩
  | 35 => ⟨S25088, .f32⟩
  | 36 => ⟨S25088, .f32⟩
  | 37 => ⟨S25088, .f32⟩
  | 38 => ⟨S25088, .f32⟩
  | 39 => ⟨S25088, .f32⟩
  | 40 => ⟨S1x25088, .f32⟩
  | 41 => ⟨S1x25088, .f32⟩
  | 42 => ⟨S1x25088, .f32⟩
  | 43 => ⟨S1x25088, .f32⟩
  | 44 => ⟨S1x25088, .f32⟩
  | 45 => ⟨S1x25088, .f32⟩
  | 46 => ⟨S1x25088, .f32⟩
  | 47 => ⟨S1x25088, .f32⟩
  | 48 => ⟨S1x25088, .f32⟩
  | 49 => ⟨S1x25088, .f32⟩
  | 50 => ⟨S1x25088, .f32⟩
  | 51 => ⟨S1x25088, .f32⟩
  | 52 => ⟨S1x25088, .f32⟩
  | 53 => ⟨S1x25088, .f32⟩
  | 54 => ⟨S1x25088, .f32⟩
  | 55 => ⟨S1x25088, .f32⟩
  | 56 => ⟨S1x25088, .f32⟩
  | 57 => ⟨S1x25088, .f32⟩
  | 58 => ⟨S1x25088, .f32⟩
  | 59 => ⟨S1x25088, .f32⟩
  | 60 => ⟨S1x25088, .f32⟩
  | 61 => ⟨S1x25088, .f32⟩
  | 62 => ⟨S1x25088, .f32⟩
  | 63 => ⟨S1x25088, .f32⟩
  | 64 => ⟨S1x25088, .f32⟩
  | 65 => ⟨S1x25088, .f32⟩
  | 66 => ⟨S1x25088, .f32⟩
  | 67 => ⟨S1x25088, .f32⟩
  | 68 => ⟨S1x25088, .f32⟩
  | 69 => ⟨S1x25088, .f32⟩
  | 70 => ⟨S1x25088, .f32⟩
  | 71 => ⟨S1x25088, .f32⟩
  | 72 => ⟨S1x25088, .f32⟩
  | 73 => ⟨S1x25088, .f32⟩
  | 74 => ⟨S1x25088, .f32⟩
  | 75 => ⟨S1x25088, .f32⟩
  | 76 => ⟨S1x25088, .f32⟩
  | 77 => ⟨S1x25088, .f32⟩
  | 78 => ⟨S1x25088, .f32⟩
  | 79 => ⟨S1x25088, .f32⟩
  | 80 => ⟨S1x25088, .f32⟩
  | 81 => ⟨S1x25088, .f32⟩
  | 82 => ⟨S1x25088, .f32⟩
  | 83 => ⟨S1x25088, .f32⟩
  | 84 => ⟨S1x25088, .f32⟩
  | 85 => ⟨S1x25088, .f32⟩
  | 86 => ⟨S1x25088, .f32⟩
  | 87 => ⟨S1x25088, .f32⟩
  | 88 => ⟨S16x25088, .f32⟩
  | 89 => ⟨S16x25088, .f32⟩
  | 90 => ⟨S16x25088, .f32⟩
  | 91 => ⟨S48x25088, .f32⟩
  | 92 => ⟨S4x4x3x128, .f32⟩
  | 93 => ⟨S48x128, .f32⟩
  | 94 => ⟨S1x128, .f32⟩
  | 95 => ⟨S25088x128, .f32⟩
  | 96 => ⟨S2x112x112x128, .f32⟩
  | 97 => ⟨S_, .i32⟩
  | 98 => ⟨S_, .f32⟩
  | 99 => ⟨S2x114x114x128, .f32⟩
  | 100 => ⟨S2x57x2x57x2x128, .f32⟩
  | 101 => ⟨S2x57x1x57x1x128, .f32⟩
  | 102 => ⟨S2x57x57x128, .f32⟩
  | 103 => ⟨S2x57x1x57x1x128, .f32⟩
  | 104 => ⟨S2x57x57x128, .f32⟩
  | 105 => ⟨S2x57x1x57x1x128, .f32⟩
  | 106 => ⟨S2x57x57x128, .f32⟩
  | 107 => ⟨S2x57x1x57x1x128, .f32⟩
  | 108 => ⟨S2x57x57x128, .f32⟩
  | 109 => ⟨S4x4x128x128, .f32⟩
  | 110 => ⟨S2048x128, .f32⟩
  | 111 => ⟨S1x128, .f32⟩
  | 112 => ⟨S2x56x56x128, .f32⟩
  | 113 => ⟨S_, .i32⟩
  | 114 => ⟨S_, .f32⟩
  | 115 => ⟨S2x58x58x128, .f32⟩
  | 116 => ⟨S2x29x2x29x2x128, .f32⟩
  | 117 => ⟨S2x29x1x29x1x128, .f32⟩
  | 118 => ⟨S2x29x29x128, .f32⟩
  | 119 => ⟨S2x29x1x29x1x128, .f32⟩
  | 120 => ⟨S2x29x29x128, .f32⟩
  | 121 => ⟨S2x29x1x29x1x128, .f32⟩
  | 122 => ⟨S2x29x29x128, .f32⟩
  | 123 => ⟨S2x29x1x29x1x128, .f32⟩
  | 124 => ⟨S2x29x29x128, .f32⟩
  | 125 => ⟨S4x4x128x128, .f32⟩
  | 126 => ⟨S2048x128, .f32⟩
  | 127 => ⟨S1x128, .f32⟩
  | _ => ⟨S2x3x224x224, .f32⟩

abbrev hbmTy0_2 (i : Nat) : BufTy := match i % 128 with
  | 0 => ⟨S2x28x28x128, .f32⟩
  | 1 => ⟨S1568x128, .f32⟩
  | 2 => ⟨S128x128, .f32⟩
  | 3 => ⟨S128x128, .f32⟩
  | 4 => ⟨S1x128, .f32⟩
  | 5 => ⟨S1568x128, .f32⟩
  | 6 => ⟨S2x28x28x128, .f32⟩
  | 7 => ⟨S2x128x28x28, .f32⟩
  | 8 => ⟨S1568x128, .f32⟩
  | 9 => ⟨S2x28x28x128, .f32⟩
  | 10 => ⟨S2x128x28x28, .f32⟩
  | 11 => ⟨S1568x128, .bf16⟩
  | 12 => ⟨S128x128, .f32⟩
  | 13 => ⟨S128x128, .f32⟩
  | 14 => ⟨S128x128, .bf16⟩
  | 15 => ⟨S1x128, .f32⟩
  | 16 => ⟨S1568x128, .bf16⟩
  | 17 => ⟨S2x28x28x128, .bf16⟩
  | 18 => ⟨S4x4x128x128, .f32⟩
  | 19 => ⟨S_, .i32⟩
  | 20 => ⟨S_, .f32⟩
  | 21 => ⟨S5x5x128x128, .f32⟩
  | 22 => ⟨S3x2x1x1, .i32⟩
  | 23 => ⟨S1x1x3x2, .i32⟩
  | 24 => ⟨S_, .i32⟩
  | 25 => ⟨S3x2x1x1, .i32⟩
  | 26 => ⟨S3x2x1x1, .i1⟩
  | 27 => ⟨S_, .i32⟩
  | 28 => ⟨S3x2x1x1, .i32⟩
  | 29 => ⟨S3x2x1x1, .i32⟩
  | 30 => ⟨S3x2x1x1, .i32⟩
  | 31 => ⟨S_, .i32⟩
  | 32 => ⟨S1x1x3x2, .i32⟩
  | 33 => ⟨S1x1x3x2, .i1⟩
  | 34 => ⟨S_, .i32⟩
  | 35 => ⟨S1x1x3x2, .i32⟩
  | 36 => ⟨S1x1x3x2, .i32⟩
  | 37 => ⟨S1x1x3x2, .i32⟩
  | 38 => ⟨S3x2x3x2, .i32⟩
  | 39 => ⟨S3x2x3x2, .i32⟩
  | 40 => ⟨S3x2x3x2x1, .i32⟩
  | 41 => ⟨S3x2x3x2x1, .i32⟩
  | 42 => ⟨S3x2x3x2x2, .i32⟩
  | 43 => ⟨S3x2x3x2x128x128, .f32⟩
  | 44 => ⟨S3x3x128x2x2x128, .f32⟩
  | 45 => ⟨S1152x512, .f32⟩
  | 46 => ⟨S1152x512, .bf16⟩
  | 47 => ⟨S1x128, .f32⟩
  | 48 => ⟨S4x128, .f32⟩
  | 49 => ⟨S512, .f32⟩
  | 50 => ⟨S_, .i32⟩
  | 51 => ⟨S_, .bf16⟩
  | 52 => ⟨S2x30x30x128, .bf16⟩
  | 53 => ⟨S1x512, .f32⟩
  | 54 => ⟨S2x28x28x512, .bf16⟩
  | 55 => ⟨S2x28x28x2x2x128, .bf16⟩
  | 56 => ⟨S2x28x2x28x2x128, .bf16⟩
  | 57 => ⟨S2x56x56x128, .bf16⟩
  | 58 => ⟨S4x4x128x128, .f32⟩
  | 59 => ⟨S_, .i32⟩
  | 60 => ⟨S_, .f32⟩
  | 61 => ⟨S5x5x128x128, .f32⟩
  | 62 => ⟨S3x2x1x1, .i32⟩
  | 63 => ⟨S1x1x3x2, .i32⟩
  | 64 => ⟨S_, .i32⟩
  | 65 => ⟨S3x2x1x1, .i32⟩
  | 66 => ⟨S3x2x1x1, .i1⟩
  | 67 => ⟨S_, .i32⟩
  | 68 => ⟨S3x2x1x1, .i32⟩
  | 69 => ⟨S3x2x1x1, .i32⟩
  | 70 => ⟨S3x2x1x1, .i32⟩
  | 71 => ⟨S_, .i32⟩
  | 72 => ⟨S1x1x3x2, .i32⟩
  | 73 => ⟨S1x1x3x2, .i1⟩
  | 74 => ⟨S_, .i32⟩
  | 75 => ⟨S1x1x3x2, .i32⟩
  | 76 => ⟨S1x1x3x2, .i32⟩
  | 77 => ⟨S1x1x3x2, .i32⟩
  | 78 => ⟨S3x2x3x2, .i32⟩
  | 79 => ⟨S3x2x3x2, .i32⟩
  | 80 => ⟨S3x2x3x2x1, .i32⟩
  | 81 => ⟨S3x2x3x2x1, .i32⟩
  | 82 => ⟨S3x2x3x2x2, .i32⟩
  | 83 => ⟨S3x2x3x2x128x128, .f32⟩
  | 84 => ⟨S3x3x128x2x2x128, .f32⟩
  | 85 => ⟨S1152x512, .f32⟩
  | 86 => ⟨S1152x512, .bf16⟩
  | 87 => ⟨S1x128, .f32⟩
  | 88 => ⟨S4x128, .f32⟩
  | 89 => ⟨S512, .f32⟩
  | 90 => ⟨S_, .i32⟩
  | 91 => ⟨S_, .bf16⟩
  | 92 => ⟨S2x58x58x128, .bf16⟩
  | 93 => ⟨S1x512, .f32⟩
  | 94 => ⟨S2x56x56x512, .bf16⟩
  | 95 => ⟨S2x56x56x2x2x128, .bf16⟩
  | 96 => ⟨S2x56x2x56x2x128, .bf16⟩
  | 97 => ⟨S2x112x112x128, .bf16⟩
  | 98 => ⟨S4x4x128x128, .f32⟩
  | 99 => ⟨S_, .i32⟩
  | 100 => ⟨S_, .f32⟩
  | 101 => ⟨S5x5x128x128, .f32⟩
  | 102 => ⟨S3x2x1x1, .i32⟩
  | 103 => ⟨S1x1x3x2, .i32⟩
  | 104 => ⟨S_, .i32⟩
  | 105 => ⟨S3x2x1x1, .i32⟩
  | 106 => ⟨S3x2x1x1, .i1⟩
  | 107 => ⟨S_, .i32⟩
  | 108 => ⟨S3x2x1x1, .i32⟩
  | 109 => ⟨S3x2x1x1, .i32⟩
  | 110 => ⟨S3x2x1x1, .i32⟩
  | 111 => ⟨S_, .i32⟩
  | 112 => ⟨S1x1x3x2, .i32⟩
  | 113 => ⟨S1x1x3x2, .i1⟩
  | 114 => ⟨S_, .i32⟩
  | 115 => ⟨S1x1x3x2, .i32⟩
  | 116 => ⟨S1x1x3x2, .i32⟩
  | 117 => ⟨S1x1x3x2, .i32⟩
  | 118 => ⟨S3x2x3x2, .i32⟩
  | 119 => ⟨S3x2x3x2, .i32⟩
  | 120 => ⟨S3x2x3x2x1, .i32⟩
  | 121 => ⟨S3x2x3x2x1, .i32⟩
  | 122 => ⟨S3x2x3x2x2, .i32⟩
  | 123 => ⟨S3x2x3x2x128x128, .f32⟩
  | 124 => ⟨S3x3x128x2x2x128, .f32⟩
  | 125 => ⟨S1152x512, .f32⟩
  | 126 => ⟨S1152x512, .bf16⟩
  | 127 => ⟨S1x128, .f32⟩
  | _ => ⟨S2x3x224x224, .f32⟩

abbrev hbmTy0_3 (i : Nat) : BufTy := match i % 128 with
  | 0 => ⟨S4x128, .f32⟩
  | 1 => ⟨S512, .f32⟩
  | 2 => ⟨S_, .i32⟩
  | 3 => ⟨S_, .bf16⟩
  | 4 => ⟨S2x114x114x128, .bf16⟩
  | 5 => ⟨S1x512, .f32⟩
  | 6 => ⟨S2x112x112x512, .bf16⟩
  | 7 => ⟨S2x112x112x2x2x128, .bf16⟩
  | 8 => ⟨S2x112x2x112x2x128, .bf16⟩
  | 9 => ⟨S2x224x224x128, .bf16⟩
  | 10 => ⟨S3x128, .f32⟩
  | 11 => ⟨S128x3, .f32⟩
  | 12 => ⟨S_, .i32⟩
  | 13 => ⟨S_, .f32⟩
  | 14 => ⟨S128x8, .f32⟩
  | 15 => ⟨S_, .i32⟩
  | 16 => ⟨S_, .f32⟩
  | 17 => ⟨S8, .f32⟩
  | 18 => ⟨S100352x128, .bf16⟩
  | 19 => ⟨S128x8, .bf16⟩
  | 20 => ⟨S1x8, .f32⟩
  | 21 => ⟨S100352x8, .f32⟩
  | 22 => ⟨S100352x3, .f32⟩
  | 23 => ⟨S2x224x224x3, .f32⟩
  | 24 => ⟨S2x3x224x224, .f32⟩
  | _ => ⟨S2x3x224x224, .f32⟩

abbrev hbmTy (i : Nat) : BufTy := match i / 128 with
  | 0 => hbmTy0_0 i
  | 1 => hbmTy0_1 i
  | 2 => hbmTy0_2 i
  | 3 => hbmTy0_3 i
  | _ => ⟨S2x3x224x224, .f32⟩

abbrev bufTy : (tb : Table) → Fin (tcTables nBuf tb) → BufTy
  | .hbm, ⟨i, _⟩ => hbmTy i
  | .local _ .vmem, ⟨0, _⟩ => ⟨S48x3584, .f32⟩
  | .local _ .vmem, ⟨1, _⟩ => ⟨S48x3584, .f32⟩
  | .local _ .vmem, ⟨2, _⟩ => ⟨S48x128, .f32⟩
  | .local _ .vmem, ⟨3, _⟩ => ⟨S1x128, .f32⟩
  | .local _ .vmem, ⟨4, _⟩ => ⟨S3584x128, .f32⟩
  | .local _ .vmem, ⟨5, _⟩ => ⟨S3584x128, .f32⟩
  | .local _ .vmem, ⟨6, _⟩ => ⟨S1x57x57x128, .f32⟩
  | .local _ .vmem, ⟨7, _⟩ => ⟨S1x57x57x128, .f32⟩
  | .local _ .vmem, ⟨8, _⟩ => ⟨S1x57x57x128, .f32⟩
  | .local _ .vmem, ⟨9, _⟩ => ⟨S1x57x57x128, .f32⟩
  | .local _ .vmem, ⟨10, _⟩ => ⟨S1x57x57x128, .f32⟩
  | .local _ .vmem, ⟨11, _⟩ => ⟨S1x57x57x128, .f32⟩
  | .local _ .vmem, ⟨12, _⟩ => ⟨S1x57x57x128, .f32⟩
  | .local _ .vmem, ⟨13, _⟩ => ⟨S1x57x57x128, .f32⟩
  | .local _ .vmem, ⟨14, _⟩ => ⟨S2048x128, .f32⟩
  | .local _ .vmem, ⟨15, _⟩ => ⟨S1x128, .f32⟩
  | .local _ .vmem, ⟨16, _⟩ => ⟨S1x56x56x128, .f32⟩
  | .local _ .vmem, ⟨17, _⟩ => ⟨S1x56x56x128, .f32⟩
  | .local _ .vmem, ⟨18, _⟩ => ⟨S1x29x29x128, .f32⟩
  | .local _ .vmem, ⟨19, _⟩ => ⟨S1x29x29x128, .f32⟩
  | .local _ .vmem, ⟨20, _⟩ => ⟨S1x29x29x128, .f32⟩
  | .local _ .vmem, ⟨21, _⟩ => ⟨S1x29x29x128, .f32⟩
  | .local _ .vmem, ⟨22, _⟩ => ⟨S1x29x29x128, .f32⟩
  | .local _ .vmem, ⟨23, _⟩ => ⟨S1x29x29x128, .f32⟩
  | .local _ .vmem, ⟨24, _⟩ => ⟨S1x29x29x128, .f32⟩
  | .local _ .vmem, ⟨25, _⟩ => ⟨S1x29x29x128, .f32⟩
  | .local _ .vmem, ⟨26, _⟩ => ⟨S2048x128, .f32⟩
  | .local _ .vmem, ⟨27, _⟩ => ⟨S1x128, .f32⟩
  | .local _ .vmem, ⟨28, _⟩ => ⟨S1x28x28x128, .f32⟩
  | .local _ .vmem, ⟨29, _⟩ => ⟨S1x28x28x128, .f32⟩
  | .local _ .vmem, ⟨30, _⟩ => ⟨S1568x128, .f32⟩
  | .local _ .vmem, ⟨31, _⟩ => ⟨S128x128, .f32⟩
  | .local _ .vmem, ⟨32, _⟩ => ⟨S1x128, .f32⟩
  | .local _ .vmem, ⟨33, _⟩ => ⟨S1568x128, .f32⟩
  | .local _ .vmem, ⟨34, _⟩ => ⟨S392x128, .f32⟩
  | .local _ .vmem, ⟨35, _⟩ => ⟨S392x128, .f32⟩
  | .local _ .vmem, ⟨36, _⟩ => ⟨S128x128, .f32⟩
  | .local _ .vmem, ⟨37, _⟩ => ⟨S392x128, .f32⟩
  | .local _ .vmem, ⟨38, _⟩ => ⟨S392x128, .f32⟩
  | .local _ .vmem, ⟨39, _⟩ => ⟨S1568x128, .bf16⟩
  | .local _ .vmem, ⟨40, _⟩ => ⟨S128x128, .bf16⟩
  | .local _ .vmem, ⟨41, _⟩ => ⟨S1x128, .f32⟩
  | .local _ .vmem, ⟨42, _⟩ => ⟨S1568x128, .bf16⟩
  | .local _ .vmem, ⟨43, _⟩ => ⟨S1x30x30x128, .bf16⟩
  | .local _ .vmem, ⟨44, _⟩ => ⟨S1x30x30x128, .bf16⟩
  | .local _ .vmem, ⟨45, _⟩ => ⟨S1152x512, .bf16⟩
  | .local _ .vmem, ⟨46, _⟩ => ⟨S1x512, .f32⟩
  | .local _ .vmem, ⟨47, _⟩ => ⟨S1x28x28x512, .bf16⟩
  | .local _ .vmem, ⟨48, _⟩ => ⟨S1x28x28x512, .bf16⟩
  | .local _ .vmem, ⟨49, _⟩ => ⟨S1x58x58x128, .bf16⟩
  | .local _ .vmem, ⟨50, _⟩ => ⟨S1x58x58x128, .bf16⟩
  | .local _ .vmem, ⟨51, _⟩ => ⟨S1152x512, .bf16⟩
  | .local _ .vmem, ⟨52, _⟩ => ⟨S1x512, .f32⟩
  | .local _ .vmem, ⟨53, _⟩ => ⟨S1x56x56x512, .bf16⟩
  | .local _ .vmem, ⟨54, _⟩ => ⟨S1x56x56x512, .bf16⟩
  | .local _ .vmem, ⟨55, _⟩ => ⟨S1x114x114x128, .bf16⟩
  | .local _ .vmem, ⟨56, _⟩ => ⟨S1x114x114x128, .bf16⟩
  | .local _ .vmem, ⟨57, _⟩ => ⟨S1152x512, .bf16⟩
  | .local _ .vmem, ⟨58, _⟩ => ⟨S1x512, .f32⟩
  | .local _ .vmem, ⟨59, _⟩ => ⟨S1x56x112x512, .bf16⟩
  | .local _ .vmem, ⟨60, _⟩ => ⟨S1x56x112x512, .bf16⟩
  | .local _ .vmem, ⟨61, _⟩ => ⟨S12544x128, .bf16⟩
  | .local _ .vmem, ⟨62, _⟩ => ⟨S12544x128, .bf16⟩
  | .local _ .vmem, ⟨63, _⟩ => ⟨S128x8, .bf16⟩
  | .local _ .vmem, ⟨64, _⟩ => ⟨S1x8, .f32⟩
  | .local _ .vmem, ⟨65, _⟩ => ⟨S12544x8, .f32⟩
  | .local _ .vmem, ⟨66, _⟩ => ⟨S12544x8, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_c_1 : Ref sig .tc := ⟨.hbm, 225, rfl⟩
abbrev main_call1_v0 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_c_2 : Ref sig .tc := ⟨.hbm, 241, rfl⟩
abbrev main_call2_v0 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_c_3 : Ref sig .tc := ⟨.hbm, 275, rfl⟩
abbrev main_call3_v0 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_c_4 : Ref sig .tc := ⟨.hbm, 280, rfl⟩
abbrev main_v251 : Ref sig .tc := ⟨.hbm, 281, rfl⟩
abbrev main_v252 : Ref sig .tc := ⟨.hbm, 282, rfl⟩
abbrev main_c_5 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_c_6 : Ref sig .tc := ⟨.hbm, 287, rfl⟩
abbrev main_v256 : Ref sig .tc := ⟨.hbm, 288, rfl⟩
abbrev main_v257 : Ref sig .tc := ⟨.hbm, 289, rfl⟩
abbrev main_c_7 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_c_8 : Ref sig .tc := ⟨.hbm, 306, rfl⟩
abbrev main_call4_v0 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_c_9 : Ref sig .tc := ⟨.hbm, 315, rfl⟩
abbrev main_call5_v0 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_c_10 : Ref sig .tc := ⟨.hbm, 320, rfl⟩
abbrev main_v283 : Ref sig .tc := ⟨.hbm, 321, rfl⟩
abbrev main_v284 : Ref sig .tc := ⟨.hbm, 322, rfl⟩
abbrev main_c_11 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_c_12 : Ref sig .tc := ⟨.hbm, 327, rfl⟩
abbrev main_v288 : Ref sig .tc := ⟨.hbm, 328, rfl⟩
abbrev main_v289 : Ref sig .tc := ⟨.hbm, 329, rfl⟩
abbrev main_c_13 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_c_14 : Ref sig .tc := ⟨.hbm, 346, rfl⟩
abbrev main_call6_v0 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_c_15 : Ref sig .tc := ⟨.hbm, 355, rfl⟩
abbrev main_call7_v0 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_c_16 : Ref sig .tc := ⟨.hbm, 360, rfl⟩
abbrev main_v315 : Ref sig .tc := ⟨.hbm, 361, rfl⟩
abbrev main_v316 : Ref sig .tc := ⟨.hbm, 362, rfl⟩
abbrev main_c_17 : Ref sig .tc := ⟨.hbm, 363, rfl⟩
abbrev main_v317 : Ref sig .tc := ⟨.hbm, 364, rfl⟩
abbrev main_v318 : Ref sig .tc := ⟨.hbm, 365, rfl⟩
abbrev main_v319 : Ref sig .tc := ⟨.hbm, 366, rfl⟩
abbrev main_c_18 : Ref sig .tc := ⟨.hbm, 367, rfl⟩
abbrev main_v320 : Ref sig .tc := ⟨.hbm, 368, rfl⟩
abbrev main_v321 : Ref sig .tc := ⟨.hbm, 369, rfl⟩
abbrev main_c_19 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_c_20 : Ref sig .tc := ⟨.hbm, 386, rfl⟩
abbrev main_call8_v0 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_c_21 : Ref sig .tc := ⟨.hbm, 396, rfl⟩
abbrev main_call9_v0 : Ref sig .tc := ⟨.hbm, 397, rfl⟩
abbrev main_v345 : Ref sig .tc := ⟨.hbm, 398, rfl⟩
abbrev main_c_22 : Ref sig .tc := ⟨.hbm, 399, rfl⟩
abbrev main_call10_v0 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg3_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg3_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc5_sem0_0 : DmaSem sig := 39
abbrev cc5_sem1_0 : DmaSem sig := 40
abbrev cc5_sem2_0 : DmaSem sig := 41
abbrev cc5_sem3_0 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem3_0 : DmaSem sig := 53
abbrev cc7_sem3_1 : DmaSem sig := 54
abbrev cc8_sem0_0 : DmaSem sig := 55
abbrev cc8_sem0_1 : DmaSem sig := 56
abbrev cc8_sem1_0 : DmaSem sig := 57
abbrev cc8_sem2_0 : DmaSem sig := 58
abbrev cc8_sem3_0 : DmaSem sig := 59
abbrev cc8_sem3_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem3_0 : DmaSem sig := 65
abbrev cc9_sem3_1 : DmaSem sig := 66

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S48x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 1], ![false, false]⟩

def k1_off1 (i : grid1.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let v3 : Index := Scalar.indexCast v2
  let c0_0 : Index := 0#32
  let c0_1 : Index := 0#32
  ![0, v3.toNat, 0, 0]
def k1_off2 (i : grid1.Coords) (c0_i32_11 : BitVec 32) : Fin 4 → Nat :=
  let c0_12 : Index := 0#32
  let arg1 : BitVec 32 := BitVec.ofNat 32 (i 1).val
  let c56_i32_10 : BitVec 32 := 56#32
  let v18 : BitVec 32 := Scalar.muli arg1 c56_i32_10
  let v19 : BitVec 32 := Scalar.addi v18 c0_i32_11
  let v20 : Index := Scalar.indexCast v19
  let c1 : Index := 1#32
  let c0_13 : Index := 0#32
  ![0, v20.toNat, 1, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x57x57x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x57x57x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x57x57x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x57x57x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x56x56x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 1], ![false, false]⟩

def k2_off1 (i : grid2.Coords) (c0_i32 : BitVec 32) : Fin 4 → Nat :=
  let c0 : Index := 0#32
  let arg1 : BitVec 32 := BitVec.ofNat 32 (i 1).val
  let c28_i32 : BitVec 32 := 28#32
  let v1 : BitVec 32 := Scalar.muli arg1 c28_i32
  let v2 : BitVec 32 := Scalar.addi v1 c0_i32
  let v3 : Index := Scalar.indexCast v2
  let c0_0 : Index := 0#32
  let c0_1 : Index := 0#32
  ![0, v3.toNat, 0, 0]
def k2_off2 (i : grid2.Coords) (c0_i32_11 : BitVec 32) : Fin 4 → Nat :=
  let c0_12 : Index := 0#32
  let arg1 : BitVec 32 := BitVec.ofNat 32 (i 1).val
  let c28_i32_10 : BitVec 32 := 28#32
  let v18 : BitVec 32 := Scalar.muli arg1 c28_i32_10
  let v19 : BitVec 32 := Scalar.addi v18 c0_i32_11
  let v20 : Index := Scalar.indexCast v19
  let c1 : Index := 1#32
  let c0_13 : Index := 0#32
  ![0, v20.toNat, 1, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x29x29x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x29x29x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x29x29x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x29x29x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S2048x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x28x28x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1568x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1568x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S392x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S392x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1568x128 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1568x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev grid6 : Pipeline.Grid := ⟨2, ![2, 1], ![false, false]⟩

def k6_off1 (i : grid6.Coords) (c0_i32 : BitVec 32) : Fin 4 → Nat :=
  let c0 : Index := 0#32
  let arg1 : BitVec 32 := BitVec.ofNat 32 (i 1).val
  let c28_i32 : BitVec 32 := 28#32
  let v1 : BitVec 32 := Scalar.muli arg1 c28_i32
  let v2 : BitVec 32 := Scalar.addi v1 c0_i32
  let v3 : Index := Scalar.indexCast v2
  let c0_0 : Index := 0#32
  let c0_1 : Index := 0#32
  ![0, v3.toNat, 0, 0]
def k6_off2 (i : grid6.Coords) (c0_i32_6 : BitVec 32) : Fin 4 → Nat :=
  let c0_7 : Index := 0#32
  let arg1 : BitVec 32 := BitVec.ofNat 32 (i 1).val
  let c28_i32_5 : BitVec 32 := 28#32
  let v11 : BitVec 32 := Scalar.muli arg1 c28_i32_5
  let v12 : BitVec 32 := Scalar.addi v11 c0_i32_6
  let v13 : Index := Scalar.indexCast v12
  let c1 : Index := 1#32
  let c0_8 : Index := 0#32
  ![0, v13.toNat, 1, 0]
def k6_off3 (i : grid6.Coords) (c0_i32_12 : BitVec 32) : Fin 4 → Nat :=
  let c0_13 : Index := 0#32
  let arg1 : BitVec 32 := BitVec.ofNat 32 (i 1).val
  let c28_i32_11 : BitVec 32 := 28#32
  let v21 : BitVec 32 := Scalar.muli arg1 c28_i32_11
  let v22 : BitVec 32 := Scalar.addi v21 c0_i32_12
  let v23 : Index := Scalar.indexCast v22
  let c2 : Index := 2#32
  let c0_14 : Index := 0#32
  ![0, v23.toNat, 2, 0]
def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x30x30x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S1152x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1x28x28x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![2, 1], ![false, false]⟩

def k7_off1 (i : grid7.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let v3 : Index := Scalar.indexCast v2
  let c0_0 : Index := 0#32
  let c0_1 : Index := 0#32
  ![0, v3.toNat, 0, 0]
def k7_off2 (i : grid7.Coords) (c0_i32_6 : BitVec 32) : Fin 4 → Nat :=
  let c0_7 : Index := 0#32
  let arg1 : BitVec 32 := BitVec.ofNat 32 (i 1).val
  let c56_i32_5 : BitVec 32 := 56#32
  let v11 : BitVec 32 := Scalar.muli arg1 c56_i32_5
  let v12 : BitVec 32 := Scalar.addi v11 c0_i32_6
  let v13 : Index := Scalar.indexCast v12
  let c1 : Index := 1#32
  let c0_8 : Index := 0#32
  ![0, v13.toNat, 1, 0]
def k7_off3 (i : grid7.Coords) (c0_i32_12 : BitVec 32) : Fin 4 → Nat :=
  let c0_13 : Index := 0#32
  let arg1 : BitVec 32 := BitVec.ofNat 32 (i 1).val
  let c56_i32_11 : BitVec 32 := 56#32
  let v21 : BitVec 32 := Scalar.muli arg1 c56_i32_11
  let v22 : BitVec 32 := Scalar.addi v21 c0_i32_12
  let v23 : Index := Scalar.indexCast v22
  let c2 : Index := 2#32
  let c0_14 : Index := 0#32
  ![0, v23.toNat, 2, 0]
def cc7_transform_0 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x58x58x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S1152x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1x56x56x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![2, 2], ![false, false]⟩

def k8_off1 (i : grid8.Coords) (c0_i32 : BitVec 32) : Fin 4 → Nat :=
  let c0 : Index := 0#32
  let arg1 : BitVec 32 := BitVec.ofNat 32 (i 1).val
  let c56_i32 : BitVec 32 := 56#32
  let v1 : BitVec 32 := Scalar.muli arg1 c56_i32
  let v2 : BitVec 32 := Scalar.addi v1 c0_i32
  let v3 : Index := Scalar.indexCast v2
  let c0_0 : Index := 0#32
  let c0_1 : Index := 0#32
  ![0, v3.toNat, 0, 0]
def k8_off2 (i : grid8.Coords) (c0_i32_6 : BitVec 32) : Fin 4 → Nat :=
  let c0_7 : Index := 0#32
  let arg1 : BitVec 32 := BitVec.ofNat 32 (i 1).val
  let c56_i32_5 : BitVec 32 := 56#32
  let v11 : BitVec 32 := Scalar.muli arg1 c56_i32_5
  let v12 : BitVec 32 := Scalar.addi v11 c0_i32_6
  let v13 : Index := Scalar.indexCast v12
  let c1 : Index := 1#32
  let c0_8 : Index := 0#32
  ![0, v13.toNat, 1, 0]
def k8_off3 (i : grid8.Coords) (c0_i32_12 : BitVec 32) : Fin 4 → Nat :=
  let c0_13 : Index := 0#32
  let arg1 : BitVec 32 := BitVec.ofNat 32 (i 1).val
  let c56_i32_11 : BitVec 32 := 56#32
  let v21 : BitVec 32 := Scalar.muli arg1 c56_i32_11
  let v22 : BitVec 32 := Scalar.addi v21 c0_i32_12
  let v23 : Index := Scalar.indexCast v22
  let c2 : Index := 2#32
  let c0_14 : Index := 0#32
  ![0, v23.toNat, 2, 0]
def cc8_transform_0 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x114x114x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S1152x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1x56x112x512 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S12544x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x8 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x8 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S12544x8 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]
-- ==== ReferenceIdeal.lean ====
abbrev S2x3x224x224 : Shape := ⟨4, ![2, 3, 224, 224]⟩
abbrev S128x3x4x4 : Shape := ⟨4, ![128, 3, 4, 4]⟩
abbrev S128 : Shape := ⟨1, ![128]⟩
abbrev S128x128x4x4 : Shape := ⟨4, ![128, 128, 4, 4]⟩
abbrev S128x128x1x1 : Shape := ⟨4, ![128, 128, 1, 1]⟩
abbrev S128x128 : Shape := ⟨2, ![128, 128]⟩
abbrev S3x128x1x1 : Shape := ⟨4, ![3, 128, 1, 1]⟩
abbrev S3 : Shape := ⟨1, ![3]⟩
abbrev S_ : Shape := ⟨0, ![]⟩
abbrev S2x224x224x3 : Shape := ⟨4, ![2, 224, 224, 3]⟩
abbrev S2x226x226x3 : Shape := ⟨4, ![2, 226, 226, 3]⟩
abbrev S112x1 : Shape := ⟨2, ![112, 1]⟩
abbrev S2x112x4x226x3 : Shape := ⟨5, ![2, 112, 4, 226, 3]⟩
abbrev S2x112x4x112x4x3 : Shape := ⟨6, ![2, 112, 4, 112, 4, 3]⟩
abbrev S2x112x112x128 : Shape := ⟨4, ![2, 112, 112, 128]⟩
abbrev S2x114x114x128 : Shape := ⟨4, ![2, 114, 114, 128]⟩
abbrev S56x1 : Shape := ⟨2, ![56, 1]⟩
abbrev S2x56x4x114x128 : Shape := ⟨5, ![2, 56, 4, 114, 128]⟩
abbrev S2x56x4x56x4x128 : Shape := ⟨6, ![2, 56, 4, 56, 4, 128]⟩
abbrev S2x56x56x128 : Shape := ⟨4, ![2, 56, 56, 128]⟩
abbrev S2x58x58x128 : Shape := ⟨4, ![2, 58, 58, 128]⟩
abbrev S28x1 : Shape := ⟨2, ![28, 1]⟩
abbrev S2x28x4x58x128 : Shape := ⟨5, ![2, 28, 4, 58, 128]⟩
abbrev S2x28x4x28x4x128 : Shape := ⟨6, ![2, 28, 4, 28, 4, 128]⟩
abbrev S2x28x28x128 : Shape := ⟨4, ![2, 28, 28, 128]⟩
abbrev S2x28x28 : Shape := ⟨3, ![2, 28, 28]⟩
abbrev S2x28x28x1 : Shape := ⟨4, ![2, 28, 28, 1]⟩
abbrev S2x59x59x128 : Shape := ⟨4, ![2, 59, 59, 128]⟩
abbrev S2x56x4x59x128 : Shape := ⟨5, ![2, 56, 4, 59, 128]⟩
abbrev S2x115x115x128 : Shape := ⟨4, ![2, 115, 115, 128]⟩
abbrev S2x112x4x115x128 : Shape := ⟨5, ![2, 112, 4, 115, 128]⟩
abbrev S2x112x4x112x4x128 : Shape := ⟨6, ![2, 112, 4, 112, 4, 128]⟩
abbrev S2x227x227x128 : Shape := ⟨4, ![2, 227, 227, 128]⟩
abbrev S224x1 : Shape := ⟨2, ![224, 1]⟩
abbrev S2x224x4x227x128 : Shape := ⟨5, ![2, 224, 4, 227, 128]⟩
abbrev S2x224x4x224x4x128 : Shape := ⟨6, ![2, 224, 4, 224, 4, 128]⟩
abbrev S2x224x224x128 : Shape := ⟨4, ![2, 224, 224, 128]⟩
abbrev S3x128 : Shape := ⟨2, ![3, 128]⟩
abbrev S2x128x28x28 : Shape := ⟨4, ![2, 128, 28, 28]⟩

abbrev nBuf : Space → Nat
  | .hbm => 126
  | .vmem => 0
  | .smem => 0
  | _ => 0

abbrev bufTy : (tb : Table) → Fin (tcTables nBuf tb) → BufTy
  | .hbm, ⟨0, _⟩ => ⟨S2x3x224x224, .f32⟩
  | .hbm, ⟨1, _⟩ => ⟨S128x3x4x4, .f32⟩
  | .hbm, ⟨2, _⟩ => ⟨S128, .f32⟩
  | .hbm, ⟨3, _⟩ => ⟨S128x128x4x4, .f32⟩
  | .hbm, ⟨4, _⟩ => ⟨S128, .f32⟩
  | .hbm, ⟨5, _⟩ => ⟨S128x128x4x4, .f32⟩
  | .hbm, ⟨6, _⟩ => ⟨S128, .f32⟩
  | .hbm, ⟨7, _⟩ => ⟨S128x128x1x1, .f32⟩
  | .hbm, ⟨8, _⟩ => ⟨S128, .f32⟩
  | .hbm, ⟨9, _⟩ => ⟨S128x128, .f32⟩
  | .hbm, ⟨10, _⟩ => ⟨S128x128x1x1, .f32⟩
  | .hbm, ⟨11, _⟩ => ⟨S128, .f32⟩
  | .hbm, ⟨12, _⟩ => ⟨S128x128x4x4, .f32⟩
  | .hbm, ⟨13, _⟩ => ⟨S128, .f32⟩
  | .hbm, ⟨14, _⟩ => ⟨S128x128x4x4, .f32⟩
  | .hbm, ⟨15, _⟩ => ⟨S128, .f32⟩
  | .hbm, ⟨16, _⟩ => ⟨S128x128x4x4, .f32⟩
  | .hbm, ⟨17, _⟩ => ⟨S128, .f32⟩
  | .hbm, ⟨18, _⟩ => ⟨S3x128x1x1, .f32⟩
  | .hbm, ⟨19, _⟩ => ⟨S3, .f32⟩
  | .hbm, ⟨20, _⟩ => ⟨S_, .f32⟩
  | .hbm, ⟨21, _⟩ => ⟨S2x224x224x3, .f32⟩
  | .hbm, ⟨22, _⟩ => ⟨S2x226x226x3, .f32⟩
  | .hbm, ⟨23, _⟩ => ⟨S112x1, .i32⟩
  | .hbm, ⟨24, _⟩ => ⟨S112x1, .i32⟩
  | .hbm, ⟨25, _⟩ => ⟨S2x112x4x226x3, .f32⟩
  | .hbm, ⟨26, _⟩ => ⟨S2x112x4x112x4x3, .f32⟩
  | .hbm, ⟨27, _⟩ => ⟨S2x112x112x128, .f32⟩
  | .hbm, ⟨28, _⟩ => ⟨S2x112x112x128, .f32⟩
  | .hbm, ⟨29, _⟩ => ⟨S2x112x112x128, .f32⟩
  | .hbm, ⟨30, _⟩ => ⟨S2x112x112x128, .f32⟩
  | .hbm, ⟨31, _⟩ => ⟨S2x112x112x128, .f32⟩
  | .hbm, ⟨32, _⟩ => ⟨S2x114x114x128, .f32⟩
  | .hbm, ⟨33, _⟩ => ⟨S56x1, .i32⟩
  | .hbm, ⟨34, _⟩ => ⟨S56x1, .i32⟩
  | .hbm, ⟨35, _⟩ => ⟨S2x56x4x114x128, .f32⟩
  | .hbm, ⟨36, _⟩ => ⟨S2x56x4x56x4x128, .f32⟩
  | .hbm, ⟨37, _⟩ => ⟨S2x56x56x128, .f32⟩
  | .hbm, ⟨38, _⟩ => ⟨S2x56x56x128, .f32⟩
  | .hbm, ⟨39, _⟩ => ⟨S2x56x56x128, .f32⟩
  | .hbm, ⟨40, _⟩ => ⟨S2x56x56x128, .f32⟩
  | .hbm, ⟨41, _⟩ => ⟨S2x56x56x128, .f32⟩
  | .hbm, ⟨42, _⟩ => ⟨S2x58x58x128, .f32⟩
  | .hbm, ⟨43, _⟩ => ⟨S28x1, .i32⟩
  | .hbm, ⟨44, _⟩ => ⟨S28x1, .i32⟩
  | .hbm, ⟨45, _⟩ => ⟨S2x28x4x58x128, .f32⟩
  | .hbm, ⟨46, _⟩ => ⟨S2x28x4x28x4x128, .f32⟩
  | .hbm, ⟨47, _⟩ => ⟨S2x28x28x128, .f32⟩
  | .hbm, ⟨48, _⟩ => ⟨S2x28x28x128, .f32⟩
  | .hbm, ⟨49, _⟩ => ⟨S2x28x28x128, .f32⟩
  | .hbm, ⟨50, _⟩ => ⟨S2x28x28x128, .f32⟩
  | .hbm, ⟨51, _⟩ => ⟨S2x28x28x128, .f32⟩
  | .hbm, ⟨52, _⟩ => ⟨S128x128, .f32⟩
  | .hbm, ⟨53, _⟩ => ⟨S2x28x28x128, .f32⟩
  | .hbm, ⟨54, _⟩ => ⟨S2x28x28x128, .f32⟩
  | .hbm, ⟨55, _⟩ => ⟨S2x28x28x128, .f32⟩
  | .hbm, ⟨56, _⟩ => ⟨S128x128, .f32⟩
  | .hbm, ⟨57, _⟩ => ⟨S_, .f32⟩
  | .hbm, ⟨58, _⟩ => ⟨S128, .f32⟩
  | .hbm, ⟨59, _⟩ => ⟨S2x28x28x128, .f32⟩
  | .hbm, ⟨60, _⟩ => ⟨S2x28x28x128, .f32⟩
  | .hbm, ⟨61, _⟩ => ⟨S_, .f32⟩
  | .hbm, ⟨62, _⟩ => ⟨S2x28x28, .f32⟩
  | .hbm, ⟨63, _⟩ => ⟨S2x28x28x128, .f32⟩
  | .hbm, ⟨64, _⟩ => ⟨S2x28x28x128, .f32⟩
  | .hbm, ⟨65, _⟩ => ⟨S2x28x28x128, .f32⟩
  | .hbm, ⟨66, _⟩ => ⟨S_, .f32⟩
  | .hbm, ⟨67, _⟩ => ⟨S2x28x28x128, .f32⟩
  | .hbm, ⟨68, _⟩ => ⟨S2x28x28x128, .f32⟩
  | .hbm, ⟨69, _⟩ => ⟨S2x28x28x128, .f32⟩
  | .hbm, ⟨70, _⟩ => ⟨S2x28x28x128, .i32⟩
  | .hbm, ⟨71, _⟩ => ⟨S_, .f32⟩
  | .hbm, ⟨72, _⟩ => ⟨S_, .i32⟩
  | .hbm, ⟨73, _⟩ => ⟨S2x28x28, .f32⟩
  | .hbm, ⟨74, _⟩ => ⟨S2x28x28, .i32⟩
  | .hbm, ⟨75, _⟩ => ⟨S2x28x28x1, .i32⟩
  | .hbm, ⟨76, _⟩ => ⟨S2x28x28x128, .f32⟩
  | .hbm, ⟨77, _⟩ => ⟨S2x28x28x128, .f32⟩
  | .hbm, ⟨78, _⟩ => ⟨S2x28x28x128, .f32⟩
  | .hbm, ⟨79, _⟩ => ⟨S128x128, .f32⟩
  | .hbm, ⟨80, _⟩ => ⟨S2x28x28x128, .f32⟩
  | .hbm, ⟨81, _⟩ => ⟨S2x28x28x128, .f32⟩
  | .hbm, ⟨82, _⟩ => ⟨S2x28x28x128, .f32⟩
  | .hbm, ⟨83, _⟩ => ⟨S2x59x59x128, .f32⟩
  | .hbm, ⟨84, _⟩ => ⟨S56x1, .i32⟩
  | .hbm, ⟨85, _⟩ => ⟨S2x56x4x59x128, .f32⟩
  | .hbm, ⟨86, _⟩ => ⟨S2x56x4x56x4x128, .f32⟩
  | .hbm, ⟨87, _⟩ => ⟨S128x128x4x4, .f32⟩
  | .hbm, ⟨88, _⟩ => ⟨S2x56x56x128, .f32⟩
  | .hbm, ⟨89, _⟩ => ⟨S2x56x56x128, .f32⟩
  | .hbm, ⟨90, _⟩ => ⟨S2x56x56x128, .f32⟩
  | .hbm, ⟨91, _⟩ => ⟨S2x56x56x128, .f32⟩
  | .hbm, ⟨92, _⟩ => ⟨S2x56x56x128, .f32⟩
  | .hbm, ⟨93, _⟩ => ⟨S2x115x115x128, .f32⟩
  | .hbm, ⟨94, _⟩ => ⟨S112x1, .i32⟩
  | .hbm, ⟨95, _⟩ => ⟨S2x112x4x115x128, .f32⟩
  | .hbm, ⟨96, _⟩ => ⟨S2x112x4x112x4x128, .f32⟩
  | .hbm, ⟨97, _⟩ => ⟨S128x128x4x4, .f32⟩
  | .hbm, ⟨98, _⟩ => ⟨S2x112x112x128, .f32⟩
  | .hbm, ⟨99, _⟩ => ⟨S2x112x112x128, .f32⟩
  | .hbm, ⟨100, _⟩ => ⟨S2x112x112x128, .f32⟩
  | .hbm, ⟨101, _⟩ => ⟨S2x112x112x128, .f32⟩
  | .hbm, ⟨102, _⟩ => ⟨S2x112x112x128, .f32⟩
  | .hbm, ⟨103, _⟩ => ⟨S2x227x227x128, .f32⟩
  | .hbm, ⟨104, _⟩ => ⟨S224x1, .i32⟩
  | .hbm, ⟨105, _⟩ => ⟨S2x224x4x227x128, .f32⟩
  | .hbm, ⟨106, _⟩ => ⟨S2x224x4x224x4x128, .f32⟩
  | .hbm, ⟨107, _⟩ => ⟨S128x128x4x4, .f32⟩
  | .hbm, ⟨108, _⟩ => ⟨S2x224x224x128, .f32⟩
  | .hbm, ⟨109, _⟩ => ⟨S2x224x224x128, .f32⟩
  | .hbm, ⟨110, _⟩ => ⟨S2x224x224x128, .f32⟩
  | .hbm, ⟨111, _⟩ => ⟨S2x224x224x128, .f32⟩
  | .hbm, ⟨112, _⟩ => ⟨S2x224x224x128, .f32⟩
  | .hbm, ⟨113, _⟩ => ⟨S3x128, .f32⟩
  | .hbm, ⟨114, _⟩ => ⟨S2x224x224x3, .f32⟩
  | .hbm, ⟨115, _⟩ => ⟨S2x224x224x3, .f32⟩
  | .hbm, ⟨116, _⟩ => ⟨S2x224x224x3, .f32⟩
  | .hbm, ⟨117, _⟩ => ⟨S_, .f32⟩
  | .hbm, ⟨118, _⟩ => ⟨S2x224x224x3, .f32⟩
  | .hbm, ⟨119, _⟩ => ⟨S2x224x224x3, .f32⟩
  | .hbm, ⟨120, _⟩ => ⟨S2x224x224x3, .f32⟩
  | .hbm, ⟨121, _⟩ => ⟨S2x224x224x3, .f32⟩
  | .hbm, ⟨122, _⟩ => ⟨S2x224x224x3, .f32⟩
  | .hbm, ⟨123, _⟩ => ⟨S2x3x224x224, .f32⟩
  | .hbm, ⟨124, _⟩ => ⟨S2x128x28x28, .f32⟩
  | .hbm, ⟨125, _⟩ => ⟨S2x128x28x28, .f32⟩
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call0_v0 : Ref sig .tc := ⟨.hbm, 70, rfl⟩
abbrev main_call0_cst : Ref sig .tc := ⟨.hbm, 71, rfl⟩
abbrev main_call0_c : Ref sig .tc := ⟨.hbm, 72, rfl⟩
abbrev main_call0_v1_0 : Ref sig .tc := ⟨.hbm, 73, rfl⟩
abbrev main_v46 : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_3 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]
-- ==== Proof.RefFacts.lean ====
/- The side conditions that the printed reference and the printed precondition state: each is decided. -/
module

public import proofs.«01_k».proof.ReferenceIdeal
public import proofs.«01_k».proof.Pre_finite_encoder
public import Idealize.ShloMosaic.Lib.Decide

@[expose] public section

set_option maxRecDepth 16384
set_option Elab.async false

namespace Cert.Own

open Idealize.ShloMosaic

/-- Every stated side condition of the reference's shapes holds. -/
theorem refFacts₀ : Cert.ReferenceIdeal.Facts₀ := by constructor <;> decide

/-- The reference's facts, as an instance. -/
instance refFacts : Cert.ReferenceIdeal.Facts := { toFacts₀ := refFacts₀ }

/-- Every stated side condition of the precondition's shapes holds. -/
instance preFacts : Cert.Pre_finite_encoder.Facts := by constructor <;> decide

end Cert.Own
-- ==== Proof.RefFrame.lean ====
/- The reference's frame: its run ends with every argument unchanged and every semaphore zero. -/
module

public import proofs.«01_k».proof.Defs
public import proofs.«01_k».proof.Proof.RefFacts
public import Idealize.ShloMosaic.Lib.Claim
public import Idealize.ShloMosaic.Lib.Quiescent

@[expose] public section

set_option maxRecDepth 16384

noncomputable section

namespace Cert.Own

open Idealize.ShloMosaic Idealize.ShloMosaic.TcCoe Idealize.SL.Sem

set_option maxHeartbeats 2000000 in
/-- The reference ends with its arguments unchanged and its semaphores at zero. -/
theorem frame_ref : Cert.quiescent_ReferenceIdeal := by
  intro m g _
  hlo_run
  · intro _; simp
  · exact sem_eq_zero_of_no_sems (sig := Cert.ReferenceIdeal.sig) (by decide) _

end Cert.Own
end
-- ==== Proof.Spec.lean ====
/- The mathematics both programs compute, on arrays over the extended reals: a convolution with stride two, its transpose,
   a one-by-one convolution, and the block forms the kernel's launches leave. -/
module

public import Idealize.ShloMosaic.Lib.Pointwise

@[expose] public section

set_option maxRecDepth 16384

noncomputable section

namespace Cert.Own

open Idealize.ShloMosaic Idealize.ShloMosaic.TcCoe Idealize.SL.Sem

/-- A rank-four array read at row and column numbers: its entry inside, zero outside. -/
def at4 {N H W C : ℕ} (A : (⟨4, ![N, H, W, C]⟩ : Shape).Idx → EReal) (n : Fin N) (r s : ℕ) (c : Fin C) : EReal :=
  if h : r < H ∧ s < W then A (ix4 n ⟨r, h.1⟩ ⟨s, h.2⟩ c) else 0

/-- Inside the array, `at4` is the entry. -/
theorem at4_lt {N H W C : ℕ} (A : (⟨4, ![N, H, W, C]⟩ : Shape).Idx → EReal) (n : Fin N) (r s : ℕ) (c : Fin C) (h1 : r < H) (h2 : s < W) : at4 A n r s c = A (ix4 n ⟨r, h1⟩ ⟨s, h2⟩ c) := dif_pos ⟨h1, h2⟩

/-- One tap of a 3-by-3 window over a zero-padded array, against the 128 weight rows from row `q`. -/
def tap3 {N H W O : ℕ} (A : (⟨4, ![N, H, W, 128]⟩ : Shape).Idx → EReal) (w : (⟨2, ![1152, O]⟩ : Shape).Idx → EReal)
    (n : Fin N) (r s : ℕ) (o : Fin O) (q : ℕ) (hq : q + 128 ≤ 1152) : EReal :=
  ∑ x : Fin 128, at4 A n r s x * w (ix2 ⟨q + x.val, by omega⟩ o)

/-- The nine taps of a 3-by-3 window, the bias and the maximum with zero. -/
def conv9 {N H W O : ℕ} (A : (⟨4, ![N, H, W, 128]⟩ : Shape).Idx → EReal) (w : (⟨2, ![1152, O]⟩ : Shape).Idx → EReal)
    (b : (⟨2, ![1, O]⟩ : Shape).Idx → EReal) (n : Fin N) (r s : ℕ) (o : Fin O) : EReal :=
  max (tap3 A w n (r + 0) (s + 0) o 0 (by omega) + tap3 A w n (r + 0) (s + 1) o 128 (by omega) + tap3 A w n (r + 0) (s + 2) o 256 (by omega)
    + tap3 A w n (r + 1) (s + 0) o 384 (by omega) + tap3 A w n (r + 1) (s + 1) o 512 (by omega) + tap3 A w n (r + 1) (s + 2) o 640 (by omega)
    + tap3 A w n (r + 2) (s + 0) o 768 (by omega) + tap3 A w n (r + 2) (s + 1) o 896 (by omega) + tap3 A w n (r + 2) (s + 2) o 1024 (by omega)
    + b (ix2 0 o)) 0

/-- `conv9` at every index of an array. -/
def conv9G {N H W O X Y : ℕ} (A : (⟨4, ![N, H, W, 128]⟩ : Shape).Idx → EReal) (w : (⟨2, ![1152, O]⟩ : Shape).Idx → EReal)
    (b : (⟨2, ![1, O]⟩ : Shape).Idx → EReal) (y : (⟨4, ![N, X, Y, O]⟩ : Shape).Idx) : EReal := conv9 A w b (y 0) (y 1).val (y 2).val (y 3)

/-- `conv9G` at coordinates. -/
theorem conv9G_ix4 {N H W O X Y : ℕ} (A : (⟨4, ![N, H, W, 128]⟩ : Shape).Idx → EReal) (w : (⟨2, ![1152, O]⟩ : Shape).Idx → EReal)
    (b : (⟨2, ![1, O]⟩ : Shape).Idx → EReal) (n : Fin N) (r : Fin X) (s : Fin Y) (o : Fin O) : conv9G A w b (ix4 n r s o) = conv9 A w b n r.val s.val o := rfl

/-- The array bordered by one row and one column of zeros, read at row `r` and column `s`. -/
def pad1 {N H W C : ℕ} (A : (⟨4, ![N, H, W, C]⟩ : Shape).Idx → EReal) (n : Fin N) (r s : ℕ) (c : Fin C) : EReal :=
  if 0 < r ∧ 0 < s then at4 A n (r - 1) (s - 1) c else 0

/-- The array with a zero between neighbouring entries and bordered by two zeros, read at row `r` and column `s`. -/
def dil1 {N H W C : ℕ} (A : (⟨4, ![N, H, W, C]⟩ : Shape).Idx → EReal) (n : Fin N) (r s : ℕ) (c : Fin C) : EReal :=
  if r % 2 = 0 ∧ s % 2 = 0 then pad1 A n (r / 2) (s / 2) c else 0

/-- One entry of a four-by-four convolution with stride two and border one, its bias and the maximum with zero. -/
def convAt {N H W C O : ℕ} (x : (⟨4, ![N, H, W, C]⟩ : Shape).Idx → EReal) (w : (⟨4, ![O, C, 4, 4]⟩ : Shape).Idx → EReal)
    (b : (⟨1, ![O]⟩ : Shape).Idx → EReal) (n : Fin N) (i j : ℕ) (o : Fin O) : EReal :=
  max ((∑ kh : Fin 4, ∑ kw : Fin 4, ∑ c : Fin C, pad1 x n (2 * i + kh.val) (2 * j + kw.val) c * w (ix4 o c kh kw)) + b (ix1 o)) 0

/-- The convolution as an array. -/
def convS {N H W C O : ℕ} (P Q : ℕ) (x : (⟨4, ![N, H, W, C]⟩ : Shape).Idx → EReal) (w : (⟨4, ![O, C, 4, 4]⟩ : Shape).Idx → EReal)
    (b : (⟨1, ![O]⟩ : Shape).Idx → EReal) (y : (⟨4, ![N, P, Q, O]⟩ : Shape).Idx) : EReal := convAt x w b (y 0) (y 1).val (y 2).val (y 3)

/-- One entry of the transposed convolution: the four-by-four window over the spread array against the reversed weights. -/
def convTAt {N H W C O : ℕ} (x : (⟨4, ![N, H, W, C]⟩ : Shape).Idx → EReal) (w : (⟨4, ![C, O, 4, 4]⟩ : Shape).Idx → EReal)
    (b : (⟨1, ![O]⟩ : Shape).Idx → EReal) (n : Fin N) (p q : ℕ) (o : Fin O) : EReal :=
  max ((∑ kh : Fin 4, ∑ kw : Fin 4, ∑ c : Fin C, dil1 x n (p + kh.val) (q + kw.val) c * w (ix4 c o kh.rev kw.rev)) + b (ix1 o)) 0

/-- The transposed convolution as an array. -/
def convTS {N H W C O : ℕ} (P Q : ℕ) (x : (⟨4, ![N, H, W, C]⟩ : Shape).Idx → EReal) (w : (⟨4, ![C, O, 4, 4]⟩ : Shape).Idx → EReal)
    (b : (⟨1, ![O]⟩ : Shape).Idx → EReal) (y : (⟨4, ![N, P, Q, O]⟩ : Shape).Idx) : EReal := convTAt x w b (y 0) (y 1).val (y 2).val (y 3)

/-- An array with its channels moved to the end. -/
def nhwc {N C H W : ℕ} (x : (⟨4, ![N, C, H, W]⟩ : Shape).Idx → EReal) (y : (⟨4, ![N, H, W, C]⟩ : Shape).Idx) : EReal := x (ix4 (y 0) (y 3) (y 1) (y 2))

/-- An array with its channels moved to the second axis. -/
def nchw {N C H W : ℕ} (x : (⟨4, ![N, H, W, C]⟩ : Shape).Idx → EReal) (y : (⟨4, ![N, C, H, W]⟩ : Shape).Idx) : EReal := x (ix4 (y 0) (y 2) (y 3) (y 1))

/-- A one-by-one convolution and its bias. -/
def dense {N H W C O : ℕ} (x : (⟨4, ![N, H, W, C]⟩ : Shape).Idx → EReal) (w : (⟨4, ![O, C, 1, 1]⟩ : Shape).Idx → EReal)
    (b : (⟨1, ![O]⟩ : Shape).Idx → EReal) (y : (⟨4, ![N, H, W, O]⟩ : Shape).Idx) : EReal :=
  (∑ c : Fin C, x (ix4 (y 0) (y 1) (y 2) c) * w (ix4 (y 3) c 0 0)) + b (ix1 (y 3))

/-- Two neighbouring taps of the stride-two window, read from two planes, against the 256 weight rows from row `q`. -/
def tapPair {N H W O : ℕ} (A B : (⟨4, ![N, H, W, 128]⟩ : Shape).Idx → EReal) (w : (⟨2, ![2048, O]⟩ : Shape).Idx → EReal)
    (n : Fin N) (r s : ℕ) (o : Fin O) (q : ℕ) (hq : q + 256 ≤ 2048) : EReal :=
  (∑ x : Fin 128, at4 A n r s x * w (ix2 ⟨q + x.val, by omega⟩ o)) + ∑ x : Fin 128, at4 B n r s x * w (ix2 ⟨q + (128 + x.val), by omega⟩ o)

/-- The sixteen taps of the stride-two window over the four planes, the bias and the maximum with zero. -/
def conv16 {N H W O : ℕ} (A B C D : (⟨4, ![N, H, W, 128]⟩ : Shape).Idx → EReal) (w : (⟨2, ![2048, O]⟩ : Shape).Idx → EReal)
    (b : (⟨2, ![1, O]⟩ : Shape).Idx → EReal) (n : Fin N) (r s : ℕ) (o : Fin O) : EReal :=
  max (tapPair A B w n (r + 0) (s + 0) o 0 (by omega) + tapPair A B w n (r + 0) (s + 1) o 256 (by omega)
    + tapPair C D w n (r + 0) (s + 0) o 512 (by omega) + tapPair C D w n (r + 0) (s + 1) o 768 (by omega)
    + tapPair A B w n (r + 1) (s + 0) o 1024 (by omega) + tapPair A B w n (r + 1) (s + 1) o 1280 (by omega)
    + tapPair C D w n (r + 1) (s + 0) o 1536 (by omega) + tapPair C D w n (r + 1) (s + 1) o 1792 (by omega)
    + b (ix2 0 o)) 0

/-- `conv16` at every index of an array. -/
def conv16G {N H W O X Y : ℕ} (A B C D : (⟨4, ![N, H, W, 128]⟩ : Shape).Idx → EReal) (w : (⟨2, ![2048, O]⟩ : Shape).Idx → EReal)
    (b : (⟨2, ![1, O]⟩ : Shape).Idx → EReal) (y : (⟨4, ![N, X, Y, O]⟩ : Shape).Idx) : EReal := conv16 A B C D w b (y 0) (y 1).val (y 2).val (y 3)

/-- `conv16G` at coordinates. -/
theorem conv16G_ix4 {N H W O X Y : ℕ} (A B C D : (⟨4, ![N, H, W, 128]⟩ : Shape).Idx → EReal) (w : (⟨2, ![2048, O]⟩ : Shape).Idx → EReal)
    (b : (⟨2, ![1, O]⟩ : Shape).Idx → EReal) (n : Fin N) (r : Fin X) (s : Fin Y) (o : Fin O) :
    conv16G A B C D w b (ix4 n r s o) = conv16 A B C D w b n r.val s.val o := rfl

/-- Rows times a matrix, plus a bias row. -/
def mmG {M K O : ℕ} (A : (⟨2, ![M, K]⟩ : Shape).Idx → EReal) (w : (⟨2, ![K, O]⟩ : Shape).Idx → EReal)
    (b : (⟨2, ![1, O]⟩ : Shape).Idx → EReal) (y : (⟨2, ![M, O]⟩ : Shape).Idx) : EReal :=
  (∑ k : Fin K, A (ix2 (y 0) k) * w (ix2 k (y 1))) + b (ix2 0 (y 1))

/-- Columns times a matrix, plus a bias row, and the maximum with zero. -/
def mmtG {M K O : ℕ} (A : (⟨2, ![K, M]⟩ : Shape).Idx → EReal) (w : (⟨2, ![K, O]⟩ : Shape).Idx → EReal)
    (b : (⟨2, ![1, O]⟩ : Shape).Idx → EReal) (y : (⟨2, ![M, O]⟩ : Shape).Idx) : EReal :=
  max ((∑ k : Fin K, A (ix2 k (y 0)) * w (ix2 k (y 1))) + b (ix2 0 (y 1))) 0

/-- `mmG` and the logistic function of it. -/
def mmsG {M K O : ℕ} (A : (⟨2, ![M, K]⟩ : Shape).Idx → EReal) (w : (⟨2, ![K, O]⟩ : Shape).Idx → EReal)
    (b : (⟨2, ![1, O]⟩ : Shape).Idx → EReal) (y : (⟨2, ![M, O]⟩ : Shape).Idx) : EReal :=
  Idealize.ShloMosaic.Ideal.logistic (mmG A w b y)

/-- `mmsG` at coordinates. -/
theorem mmsG_ix2 {M K O : ℕ} (A : (⟨2, ![M, K]⟩ : Shape).Idx → EReal) (w : (⟨2, ![K, O]⟩ : Shape).Idx → EReal)
    (b : (⟨2, ![1, O]⟩ : Shape).Idx → EReal) (r : Fin M) (o : Fin O) :
    mmsG A w b (ix2 r o) = Idealize.ShloMosaic.Ideal.logistic ((∑ k : Fin K, A (ix2 r k) * w (ix2 k o)) + b (ix2 0 o)) := rfl

/-- The number two as both programs write it. -/
def two32 : EReal := Idealize.ShloMosaic.Ideal.ofBits .f32 1073741824#32

/-- The distance the codebook rows are compared by, of a vector `f` to row `k`. -/
def vqDist (f : Fin 128 → EReal) (cb : (⟨2, ![128, 128]⟩ : Shape).Idx → EReal) (k : Fin 128) : EReal :=
  ∑ x : Fin 128, cb (ix2 k x) * cb (ix2 k x) + ∑ x : Fin 128, f x * f x - two32 * ∑ x : Fin 128, f x * cb (ix2 k x)

/-- The lane the kernel picks: the lowest one whose distance is the smallest. -/
def vqLane (d : Fin 128 → EReal) : BitVec 32 :=
  Finset.fold IntOp.minsi 2147483647#32 (fun k : Fin 128 => if d k = Finset.fold min (Idealize.ShloMosaic.Ideal.ofBits .f32 2139095040#32) d Finset.univ then BitVec.ofNat 32 k.val else 128#32) Finset.univ

/-- The codebook row of the picked lane, as a product with a row that is one there and zero elsewhere. -/
def vqG {M : ℕ} (A : (⟨2, ![M, 128]⟩ : Shape).Idx → EReal) (cb : (⟨2, ![128, 128]⟩ : Shape).Idx → EReal) (y : (⟨2, ![M, 128]⟩ : Shape).Idx) : EReal :=
  ∑ k : Fin 128, (FloatOps.sitofp (F := Ideal) .f32 (BitVec.setWidth 32 (IntOp.cmpi .eq (BitVec.ofNat 32 k.val) (vqLane (vqDist (fun x => A (ix2 (y 0) x)) cb)))) : EReal) * cb (ix2 k (y 1))

/-- `vqG` at one entry depends only on that row and the codebook. -/
theorem vqG_congr {M M' : ℕ} (A : (⟨2, ![M, 128]⟩ : Shape).Idx → EReal) (A' : (⟨2, ![M', 128]⟩ : Shape).Idx → EReal) (cb cb' : (⟨2, ![128, 128]⟩ : Shape).Idx → EReal)
    (r : Fin M) (r' : Fin M') (o : Fin 128) (h : ∀ x, A (ix2 r x) = A' (ix2 r' x)) (hb : cb = cb') : vqG A cb (ix2 r o) = vqG A' cb' (ix2 r' o) := by
  subst hb
  have e : (fun x => A (ix2 r x)) = fun x => A' (ix2 r' x) := funext h
  show (∑ k : Fin 128, (FloatOps.sitofp (F := Ideal) .f32 (BitVec.setWidth 32 (IntOp.cmpi .eq (BitVec.ofNat 32 k.val) (vqLane (vqDist (fun x => A (ix2 r x)) cb)))) : EReal) * cb (ix2 k o)) = _
  rw [e]
  rfl

/-- `mmG` at coordinates. -/
theorem mmG_ix2 {M K O : ℕ} (A : (⟨2, ![M, K]⟩ : Shape).Idx → EReal) (w : (⟨2, ![K, O]⟩ : Shape).Idx → EReal)
    (b : (⟨2, ![1, O]⟩ : Shape).Idx → EReal) (r : Fin M) (o : Fin O) :
    mmG A w b (ix2 r o) = (∑ k : Fin K, A (ix2 r k) * w (ix2 k o)) + b (ix2 0 o) := rfl

/-- `mmtG` at coordinates. -/
theorem mmtG_ix2 {M K O : ℕ} (A : (⟨2, ![K, M]⟩ : Shape).Idx → EReal) (w : (⟨2, ![K, O]⟩ : Shape).Idx → EReal)
    (b : (⟨2, ![1, O]⟩ : Shape).Idx → EReal) (r : Fin M) (o : Fin O) :
    mmtG A w b (ix2 r o) = max ((∑ k : Fin K, A (ix2 k r) * w (ix2 k o)) + b (ix2 0 o)) 0 := rfl

end Cert.Own
end
-- ==== Proof.Vq.lean ====
/- The nearest codebook row: the lane the kernel's fold finds and the index a lexicographic fold finds are the same. -/
module

public import proofs.«01_k».proof.Proof.Spec
public import proofs.«01_k».proof.ReferenceIdeal
public import Idealize.ShloMosaic.Lib.Pointwise
public import Idealize.ShloMosaic.Lib.StableHlo.Predicate

@[expose] public section

set_option maxRecDepth 16384

noncomputable section

namespace Cert.Own

open Idealize.ShloMosaic Idealize.ShloMosaic.TcCoe Idealize.SL.Sem

/-- `k` is the lowest index at which `d` is smallest. -/
def IsPick (d : Fin 128 → EReal) (k : Fin 128) : Prop := (∀ l, d k ≤ d l) ∧ ∀ l, l < k → d k < d l

/-- Such an index exists. -/
theorem exists_pick (d : Fin 128 → EReal) : ∃ k, IsPick d k := by
  obtain ⟨m, -, hm⟩ := Finset.exists_min_image Finset.univ d ⟨0, Finset.mem_univ _⟩
  have hne : (Finset.univ.filter fun l => d l = d m).Nonempty := ⟨m, by simp⟩
  refine ⟨(Finset.univ.filter fun l => d l = d m).min' hne, ?_, ?_⟩
  · intro l
    have := (Finset.mem_filter.1 (Finset.min'_mem _ hne)).2
    rw [this]
    exact hm l (Finset.mem_univ _)
  · intro l hl
    have h1 := (Finset.mem_filter.1 (Finset.min'_mem _ hne)).2
    rw [h1]
    refine lt_of_le_of_ne (hm l (Finset.mem_univ _)) fun e => ?_
    exact absurd (Finset.min'_le _ l (by simp [e])) (not_le.2 hl)

/-- The least of the values, folded from infinity. -/
theorem fold_min_pick (d : Fin 128 → EReal) (k : Fin 128) (h : IsPick d k) :
    Finset.fold min (Idealize.ShloMosaic.Ideal.ofBits .f32 2139095040#32) d Finset.univ = d k := by
  have ht : (Idealize.ShloMosaic.Ideal.ofBits .f32 2139095040#32 : EReal) = ⊤ := by simp [Idealize.ShloMosaic.Ideal.ofBits, Idealize.ShloMosaic.Ideal.ieee]
  rw [ht]
  refine le_antisymm ?_ ?_
  · exact (Finset.fold_min_le _).2 (Or.inr ⟨k, Finset.mem_univ _, le_rfl⟩)
  · exact (Finset.le_fold_min _).2 ⟨le_top, fun l _ => h.1 l⟩

/-- The signed value of the smaller of two words. -/
theorem minsi_toInt (x y : BitVec 32) : (IntOp.minsi x y).toInt = min x.toInt y.toInt := by
  unfold IntOp.minsi
  by_cases h : x.slt y = true
  · rw [if_pos h]
    rw [BitVec.slt_iff_toInt_lt] at h
    omega
  · rw [if_neg h]
    rw [BitVec.slt_iff_toInt_lt] at h
    omega

/-- The lane the kernel picks. -/
theorem vqLane_pick (d : Fin 128 → EReal) (k : Fin 128) (h : IsPick d k) : vqLane d = BitVec.ofNat 32 k.val := by
  unfold vqLane
  rw [fold_min_pick d k h]
  apply BitVec.eq_of_toInt_eq
  rw [← Finset.fold_hom (op' := min) (m := BitVec.toInt) minsi_toInt]
  have hn : ∀ l : Fin 128, (BitVec.ofNat 32 l.val).toInt = l.val := fun l => by
    have := l.isLt
    exact StableHlo.Predicate.toInt_ofNat_small _ (by omega)
  rw [hn]
  refine le_antisymm ((Finset.fold_min_le _).2 (Or.inr ⟨k, Finset.mem_univ _, ?_⟩)) ((Finset.le_fold_min _).2 ⟨?_, fun l _ => ?_⟩)
  · rw [if_pos rfl, hn]
  · have := k.isLt
    show (k.val : ℤ) ≤ 2147483647
    omega
  · by_cases e : d l = d k
    · rw [if_pos e, hn]
      have : ¬ l < k := fun hl => absurd (h.2 l hl) (by rw [e]; exact lt_irrefl _)
      rw [Fin.lt_def] at this
      omega
    · rw [if_neg e]
      have := k.isLt
      show (k.val : ℤ) ≤ 128
      omega

/-- The kernel's product with the one-hot row is the picked codebook row. -/
theorem vqG_pick {M : ℕ} (A : (⟨2, ![M, 128]⟩ : Shape).Idx → EReal) (cb : (⟨2, ![128, 128]⟩ : Shape).Idx → EReal) (r : Fin M) (o k : Fin 128)
    (h : IsPick (vqDist (fun x => A (ix2 r x)) cb) k) : vqG A cb (ix2 r o) = cb (ix2 k o) := by
  show (∑ l : Fin 128, (FloatOps.sitofp (F := Ideal) .f32 (BitVec.setWidth 32 (IntOp.cmpi .eq (BitVec.ofNat 32 l.val) (vqLane (vqDist (fun x => A (ix2 r x)) cb)))) : EReal) * cb (ix2 l o)) = _
  rw [vqLane_pick _ k h]
  refine (Finset.sum_eq_single k (fun l _ hl => ?_) (fun hk => absurd (Finset.mem_univ _) hk)).trans ?_
  · have e : IntOp.cmpi .eq (BitVec.ofNat 32 l.val) (BitVec.ofNat 32 k.val) = 0#1 := by
      unfold IntOp.cmpi
      have : BitVec.ofNat 32 l.val ≠ BitVec.ofNat 32 k.val := fun e => hl (Fin.ext (by
        have := congrArg BitVec.toNat e
        simp only [BitVec.toNat_ofNat] at this
        omega))
      show BitVec.ofBool (BitVec.ofNat 32 l.val == BitVec.ofNat 32 k.val) = 0#1
      rw [beq_eq_false_iff_ne.2 this]
      rfl
    rw [e]
    have z : (FloatOps.sitofp (F := Ideal) .f32 (BitVec.setWidth 32 (0#1)) : EReal) = 0 := by
      show ((((BitVec.setWidth 32 (0#1)).toInt : ℤ) : ℝ) : EReal) = 0
      simp
    rw [z, zero_mul]
  · have e : IntOp.cmpi .eq (BitVec.ofNat 32 k.val) (BitVec.ofNat 32 k.val) = 1#1 := by
      unfold IntOp.cmpi
      simp
    rw [e]
    have z : (FloatOps.sitofp (F := Ideal) .f32 (BitVec.setWidth 32 (1#1)) : EReal) = 1 := by
      show ((((BitVec.setWidth 32 (1#1)).toInt : ℤ) : ℝ) : EReal) = 1
      have : (BitVec.setWidth 32 (1#1)).toInt = 1 := by decide
      rw [this]
      simp
    rw [z, one_mul]

/-- One pair comes before another: a smaller value, or the same value and no larger a word. -/
def Before (p q : EReal × BitVec 32) : Prop := p.1 < q.1 ∨ (p.1 = q.1 ∧ p.2.toInt ≤ q.2.toInt)

/-- `Before` is transitive. -/
theorem Before.trans {p q r : EReal × BitVec 32} (h : Before p q) (h' : Before q r) : Before p r := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

/-- The reference's comparison of two pairs keeps one that comes before both. -/
theorem reducer_spec (a b : EReal × BitVec 32) :
    (Cert.ReferenceIdeal.reducer_argmin_f32_i32 (F := Ideal) a b = a ∨ Cert.ReferenceIdeal.reducer_argmin_f32_i32 (F := Ideal) a b = b)
      ∧ Before (Cert.ReferenceIdeal.reducer_argmin_f32_i32 (F := Ideal) a b) a ∧ Before (Cert.ReferenceIdeal.reducer_argmin_f32_i32 (F := Ideal) a b) b := by
  obtain ⟨a1, a2⟩ := a
  obtain ⟨b1, b2⟩ := b
  have key : Cert.ReferenceIdeal.reducer_argmin_f32_i32 (F := Ideal) (a1, a2) (b1, b2)
      = if a1 < b1 ∨ (a1 = b1 ∧ a2.toInt < b2.toInt) then (a1, a2) else (b1, b2) := by
    have c1 : FloatOps.cmpf (F := Ideal) (φ := .f32) .olt a1 b1 = BitVec.ofBool (decide (a1 < b1)) := rfl
    have c2 : FloatOps.cmpf (F := Ideal) (φ := .f32) .une a1 a1 = BitVec.ofBool (decide (a1 ≠ a1)) := rfl
    have c3 : FloatOps.cmpf (F := Ideal) (φ := .f32) .oeq a1 b1 = BitVec.ofBool (decide (a1 = b1)) := rfl
    have c4 : IntOp.cmpi .slt a2 b2 = BitVec.ofBool (a2.slt b2) := rfl
    unfold Cert.ReferenceIdeal.reducer_argmin_f32_i32
    dsimp only
    rw [c1, c2, c3, c4]
    have c5 : a2.slt b2 = decide (a2.toInt < b2.toInt) := rfl
    rw [c5]
    by_cases h1 : a1 < b1
    · simp [h1, h1.ne, Scalar.select, IntOp.ori, IntOp.andi]
    · by_cases h2 : a1 = b1
      · by_cases h3 : a2.toInt < b2.toInt
        · simp [h2, h3, Scalar.select, IntOp.ori, IntOp.andi]
        · simp [h2, h3, Scalar.select, IntOp.ori, IntOp.andi]
      · simp [h1, h2, Scalar.select, IntOp.ori, IntOp.andi]
  rw [key]
  split_ifs with hc
  · refine ⟨Or.inl rfl, Or.inr ⟨rfl, le_rfl⟩, ?_⟩
    rcases hc with h | ⟨h, g⟩
    · exact Or.inl h
    · exact Or.inr ⟨h, g.le⟩
  · refine ⟨Or.inr rfl, ?_, Or.inr ⟨rfl, le_rfl⟩⟩
    rcases lt_trichotomy b1 a1 with h | h | h
    · exact Or.inl h
    · exact Or.inr ⟨h, by by_contra g; exact hc (Or.inr ⟨h.symm, not_le.1 g⟩)⟩
    · exact absurd (Or.inl h) hc

/-- A fold of the comparison over a list keeps a pair of the list, or the initial one, that comes before all of them. -/
theorem foldl_spec (L : List (EReal × BitVec 32)) (a : EReal × BitVec 32) :
    (L.foldl (Cert.ReferenceIdeal.reducer_argmin_f32_i32 (F := Ideal)) a = a ∨ L.foldl (Cert.ReferenceIdeal.reducer_argmin_f32_i32 (F := Ideal)) a ∈ L)
      ∧ Before (L.foldl (Cert.ReferenceIdeal.reducer_argmin_f32_i32 (F := Ideal)) a) a
      ∧ ∀ p ∈ L, Before (L.foldl (Cert.ReferenceIdeal.reducer_argmin_f32_i32 (F := Ideal)) a) p := by
  induction L generalizing a with
  | nil => exact ⟨Or.inl rfl, Or.inr ⟨rfl, le_rfl⟩, fun p hp => absurd hp List.not_mem_nil⟩
  | cons q L ih =>
    obtain ⟨h1, h2, h3⟩ := ih (Cert.ReferenceIdeal.reducer_argmin_f32_i32 (F := Ideal) a q)
    obtain ⟨g1, g2, g3⟩ := reducer_spec a q
    rw [List.foldl_cons]
    refine ⟨?_, h2.trans g2, fun p hp => ?_⟩
    · rcases h1 with h | h
      · rw [h]
        rcases g1 with g | g
        · exact Or.inl g
        · rw [g]; exact Or.inr List.mem_cons_self
      · exact Or.inr (List.mem_cons_of_mem _ h)
    · rcases List.mem_cons.1 hp with rfl | hp
      · exact h2.trans g3
      · exact h3 p hp

/-- A fold over the pairs of distances and indices, from infinity and zero, finds the picked index. -/
theorem foldl_pick (d : Fin 128 → EReal) (k : Fin 128) (h : IsPick d k) (L : List (EReal × BitVec 32))
    (hL : ∀ p, p ∈ L ↔ ∃ l : Fin 128, p = (d l, BitVec.ofNat 32 l.val)) :
    (L.foldl (Cert.ReferenceIdeal.reducer_argmin_f32_i32 (F := Ideal)) (⊤, 0#32)).2 = BitVec.ofNat 32 k.val := by
  obtain ⟨h1, h2, h3⟩ := foldl_spec L (⊤, 0#32)
  have hk := h3 (d k, BitVec.ofNat 32 k.val) ((hL _).2 ⟨k, rfl⟩)
  have hn : ∀ l : Fin 128, (BitVec.ofNat 32 l.val).toInt = l.val := fun l => by
    have := l.isLt
    exact StableHlo.Predicate.toInt_ofNat_small _ (by omega)
  rcases h1 with e | e
  · rw [e] at hk ⊢
    rcases hk with g | ⟨g, -⟩
    · exact absurd g not_top_lt
    · have : k = 0 := by
        by_contra hne
        have := h.2 0 (Fin.pos_iff_ne_zero.2 hne)
        exact absurd this (by rw [← (show (⊤ : EReal) = d k from g)]; exact not_top_lt)
      subst this
      rfl
  · obtain ⟨l, hl⟩ := (hL _).1 e
    rw [hl] at hk ⊢
    rcases hk with g | ⟨g, g'⟩
    · exact absurd (show d l < d k from g) (not_lt.2 (h.1 l))
    · have g2 : (BitVec.ofNat 32 l.val).toInt ≤ (BitVec.ofNat 32 k.val).toInt := g'
      rw [hn, hn] at g2
      have : ¬ l < k := fun hlt => absurd (h.2 l hlt) (by rw [show d l = d k from g]; exact lt_irrefl _)
      rw [Fin.lt_def] at this
      have : l = k := Fin.ext (by omega)
      rw [this]

end Cert.Own
end
-- ==== Proof.Net.lean ====
/- The whole network, as arrays of its arguments: the latent, the nearest codes, the decoded image. -/
module

public import proofs.«01_k».proof.Proof.Vq

@[expose] public section

set_option maxRecDepth 16384

noncomputable section

namespace Cert.Own

open Idealize.ShloMosaic Idealize.ShloMosaic.TcCoe Idealize.SL.Sem

/-- An array of images, channels last. -/
abbrev Pix (h w c : ℕ) := (⟨4, ![2, h, w, c]⟩ : Shape).Idx → EReal

/-- The weights of a four-by-four convolution between `c` channels and `o`. -/
abbrev Wt (o c : ℕ) := (⟨4, ![o, c, 4, 4]⟩ : Shape).Idx → EReal

/-- The weights of a one-by-one convolution. -/
abbrev Wd (o c : ℕ) := (⟨4, ![o, c, 1, 1]⟩ : Shape).Idx → EReal

/-- A bias. -/
abbrev Bs (o : ℕ) := (⟨1, ![o]⟩ : Shape).Idx → EReal

/-- The latent: three convolutions and a one-by-one convolution. -/
def latent (x : (⟨4, ![2, 3, 224, 224]⟩ : Shape).Idx → EReal) (w1 : Wt 128 3) (b1 : Bs 128) (w2 : Wt 128 128) (b2 : Bs 128)
    (w3 : Wt 128 128) (b3 : Bs 128) (w4 : Wd 128 128) (b4 : Bs 128) : Pix 28 28 128 :=
  dense (convS 28 28 (convS 56 56 (convS 112 112 (nhwc x) w1 b1 : Pix 112 112 128) w2 b2 : Pix 56 56 128) w3 b3 : Pix 28 28 128) w4 b4

/-- The index of the codebook row nearest to the latent's pixel. -/
def pickOf (z : Pix 28 28 128) (cb : (⟨2, ![128, 128]⟩ : Shape).Idx → EReal) (n : Fin 2) (i j : Fin 28) : Fin 128 :=
  Classical.choose (exists_pick (vqDist (fun x => z (ix4 n i j x)) cb))

/-- `pickOf` is the nearest row, the lowest of equally near ones. -/
theorem pickOf_spec (z : Pix 28 28 128) (cb : (⟨2, ![128, 128]⟩ : Shape).Idx → EReal) (n : Fin 2) (i j : Fin 28) :
    IsPick (vqDist (fun x => z (ix4 n i j x)) cb) (pickOf z cb n i j) := Classical.choose_spec (exists_pick (vqDist (fun x => z (ix4 n i j x)) cb))

/-- The codes: at every pixel the nearest codebook row. -/
def codesOf (z : Pix 28 28 128) (cb : (⟨2, ![128, 128]⟩ : Shape).Idx → EReal) : Pix 28 28 128 :=
  fun y => cb (ix2 (pickOf z cb (y 0) (y 1) (y 2)) (y 3))

/-- The decoded image of a latent: a one-by-one convolution, three transposed convolutions, and the logistic function of a one-by-one convolution. -/
def decoded (q : Pix 28 28 128) (w1 : Wd 128 128) (b1 : Bs 128) (w2 : Wt 128 128) (b2 : Bs 128)
    (w3 : Wt 128 128) (b3 : Bs 128) (w4 : Wt 128 128) (b4 : Bs 128) (w5 : Wd 3 128) (b5 : Bs 3) : Pix 224 224 3 :=
  fun y => Idealize.ShloMosaic.Ideal.logistic
    (dense (convTS 224 224 (convTS 112 112 (convTS 56 56 (dense q w1 b1 : Pix 28 28 128) w2 b2 : Pix 56 56 128) w3 b3 : Pix 112 112 128) w4 b4 : Pix 224 224 128) w5 b5 y)

/-- The straight-through sum of finite numbers and any others is the others. -/
theorem straight (z q : EReal) (h1 : z ≠ ⊤) (h2 : z ≠ ⊥) : z + (q - z) = q := by
  lift z to ℝ using ⟨h1, h2⟩
  induction q with
  | bot => rfl
  | top => rfl
  | coe r => rw [← EReal.coe_sub, ← EReal.coe_add]; congr 1; ring

end Cert.Own
end
-- ==== Proof.Finite.lean ====
/- What the precondition says of the arguments, and that the latent of finite arguments is finite. -/
module

public import proofs.«01_k».proof.Proof.Net
public import proofs.«01_k».proof.Proof.RefFacts
public import Idealize.ShloMosaic.Lib.ReduceAll
public import Idealize.ShloMosaic.Lib.Affine
public import Idealize.ShloMosaic.Lib.KernelVsHost

@[expose] public section

set_option maxRecDepth 16384

noncomputable section

namespace Cert.Own

open Idealize.ShloMosaic Idealize.ShloMosaic.TcCoe Idealize.SL.Sem

/-- Neither infinity. -/
def Real1 (x : EReal) : Prop := x ≠ ⊤ ∧ x ≠ ⊥

/-- A number that is neither infinity is a real. -/
theorem Real1.exists {x : EReal} (h : Real1 x) : ∃ r : ℝ, x = (r : EReal) := by
  lift x to ℝ using h
  exact ⟨x, rfl⟩

/-- A real is neither infinity. -/
theorem real1_coe (r : ℝ) : Real1 (r : EReal) := ⟨EReal.coe_ne_top r, EReal.coe_ne_bot r⟩

/-- Zero is a real. -/
theorem real1_zero : Real1 0 := real1_coe 0

/-- Sums of reals are real. -/
theorem Real1.add {x y : EReal} (hx : Real1 x) (hy : Real1 y) : Real1 (x + y) := by
  obtain ⟨r, rfl⟩ := hx.exists
  obtain ⟨s, rfl⟩ := hy.exists
  rw [← EReal.coe_add]
  exact real1_coe _

/-- Products of reals are real. -/
theorem Real1.mul {x y : EReal} (hx : Real1 x) (hy : Real1 y) : Real1 (x * y) := by
  obtain ⟨r, rfl⟩ := hx.exists
  obtain ⟨s, rfl⟩ := hy.exists
  rw [← EReal.coe_mul]
  exact real1_coe _

/-- The greater of a real and zero is real. -/
theorem Real1.max0 {x : EReal} (hx : Real1 x) : Real1 (max x 0) := by
  rcases max_choice x 0 with h | h <;> rw [h]
  · exact hx
  · exact real1_zero

/-- Finite sums of reals are real. -/
theorem Real1.sum {n : ℕ} {f : Fin n → EReal} (h : ∀ k, Real1 (f k)) : Real1 (∑ k, f k) :=
  Finset.sum_induction f Real1 (fun _ _ => Real1.add) real1_zero fun k _ => h k

/-- The bordered array of reals is real. -/
theorem pad1_real {N H W C : ℕ} {x : (⟨4, ![N, H, W, C]⟩ : Shape).Idx → EReal} (hx : ∀ y, Real1 (x y)) (n : Fin N) (r s : ℕ) (c : Fin C) : Real1 (pad1 x n r s c) := by
  unfold pad1 at4
  split_ifs
  · exact hx _
  · exact real1_zero
  · exact real1_zero

/-- The convolution of reals is real. -/
theorem convS_real {N H W C O P Q : ℕ} {x : (⟨4, ![N, H, W, C]⟩ : Shape).Idx → EReal} {w : (⟨4, ![O, C, 4, 4]⟩ : Shape).Idx → EReal}
    {b : (⟨1, ![O]⟩ : Shape).Idx → EReal} (hx : ∀ y, Real1 (x y)) (hw : ∀ y, Real1 (w y)) (hb : ∀ y, Real1 (b y)) (y : (⟨4, ![N, P, Q, O]⟩ : Shape).Idx) :
    Real1 (convS P Q x w b y) := by
  unfold convS convAt
  exact ((Real1.sum fun kh => Real1.sum fun kw => Real1.sum fun c => (pad1_real hx _ _ _ _).mul (hw _)).add (hb _)).max0

/-- The latent of reals is real. -/
theorem latent_real {x : (⟨4, ![2, 3, 224, 224]⟩ : Shape).Idx → EReal} {w1 : Wt 128 3} {b1 : Bs 128} {w2 : Wt 128 128} {b2 : Bs 128}
    {w3 : Wt 128 128} {b3 : Bs 128} {w4 : Wd 128 128} {b4 : Bs 128} (hx : ∀ y, Real1 (x y)) (h1 : ∀ y, Real1 (w1 y)) (g1 : ∀ y, Real1 (b1 y))
    (h2 : ∀ y, Real1 (w2 y)) (g2 : ∀ y, Real1 (b2 y)) (h3 : ∀ y, Real1 (w3 y)) (g3 : ∀ y, Real1 (b3 y)) (h4 : ∀ y, Real1 (w4 y)) (g4 : ∀ y, Real1 (b4 y))
    (y : (⟨4, ![2, 28, 28, 128]⟩ : Shape).Idx) : Real1 (latent x w1 b1 w2 b2 w3 b3 w4 b4 y) := by
  unfold latent dense
  exact (Real1.sum fun c => (convS_real (convS_real (convS_real (fun _ => hx _) h1 g1) h2 g2) h3 g3 _).mul (h4 _)).add (g4 _)

/-- A number whose absolute value is below the positive infinity is real. -/
theorem real1_of_abs (x : EReal) (h : FloatOps.cmpf (F := Ideal) (φ := .f32) .olt (FloatOps.hostAbsf (F := Ideal) (φ := .f32) x) (FloatOps.ofBits (F := Ideal) .f32 0x7F800000#32) = 1#1) : Real1 x := by
  rw [← Ideal.xori_weird_eq_hostAbsf_olt_inf] at h
  change IntOp.xori (BitVec.ofBool (decide (x = ⊤ ∨ x = ⊥))) 1#1 = 1#1 at h
  by_cases g : x = ⊤ ∨ x = ⊥
  · rw [decide_eq_true g] at h
    exact absurd h (by decide)
  · exact ⟨fun e => g (Or.inl e), fun e => g (Or.inr e)⟩

open Cert.Pre_finite_encoder in
/-- The precondition makes every argument of the encoder real. -/
theorem pre_real (a0 : FVec Ideal S2x3x224x224 .f32) (a1 : FVec Ideal S128x3x4x4 .f32) (a2 : FVec Ideal S128 .f32) (a3 : FVec Ideal S128x128x4x4 .f32) (a4 : FVec Ideal S128 .f32)
    (a5 : FVec Ideal S128x128x4x4 .f32) (a6 : FVec Ideal S128 .f32) (a7 : FVec Ideal S128x128x1x1 .f32) (a8 : FVec Ideal S128 .f32) (a9 : FVec Ideal S128x128 .f32)
    (a10 : FVec Ideal S128x128x1x1 .f32) (a11 : FVec Ideal S128 .f32) (a12 : FVec Ideal S128x128x4x4 .f32) (a13 : FVec Ideal S128 .f32) (a14 : FVec Ideal S128x128x4x4 .f32)
    (a15 : FVec Ideal S128 .f32) (a16 : FVec Ideal S128x128x4x4 .f32) (a17 : FVec Ideal S128 .f32) (a18 : FVec Ideal S3x128x1x1 .f32) (a19 : FVec Ideal S3 .f32)
    (h : fn (F := Ideal) a0 a1 a2 a3 a4 a5 a6 a7 a8 a9 a10 a11 a12 a13 a14 a15 a16 a17 a18 a19 = fun _ => 1#1) :
    (∀ y, Real1 (a0 y)) ∧ (∀ y, Real1 (a1 y)) ∧ (∀ y, Real1 (a2 y)) ∧ (∀ y, Real1 (a3 y)) ∧ (∀ y, Real1 (a4 y)) ∧ (∀ y, Real1 (a5 y)) ∧ (∀ y, Real1 (a6 y)) ∧ (∀ y, Real1 (a7 y)) ∧ (∀ y, Real1 (a8 y)) := by
  have hs : Subsingleton S_.Idx := ⟨fun a b => funext fun k => k.elim0⟩
  replace h := congrFun h (fun k => k.elim0)
  unfold fn fn_part1 fn_part2 at h
  dsimp only at h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨fun y => real1_of_abs _ (Host.reduce_andi_all _ _ _ _ _ e0 y), fun y => real1_of_abs _ (Host.reduce_andi_all _ _ _ _ _ e1 y), fun y => real1_of_abs _ (Host.reduce_andi_all _ _ _ _ _ e2 y),
    fun y => real1_of_abs _ (Host.reduce_andi_all _ _ _ _ _ e3 y), fun y => real1_of_abs _ (Host.reduce_andi_all _ _ _ _ _ e4 y), fun y => real1_of_abs _ (Host.reduce_andi_all _ _ _ _ _ e5 y),
    fun y => real1_of_abs _ (Host.reduce_andi_all _ _ _ _ _ e6 y), fun y => real1_of_abs _ (Host.reduce_andi_all _ _ _ _ _ e7 y), fun y => real1_of_abs _ (Host.reduce_andi_all _ _ _ _ _ e8 y)⟩

end Cert.Own
-- ==== Proof.RefLine.lean ====
/- The reference's operations, in the order it runs them, one list per stage. -/
module

public import proofs.«01_k».proof.ReferenceIdeal
public import proofs.«01_k».proof.Proof.RefFacts
public import Idealize.ShloMosaic.Lib.StableHlo.RunHlo
public import Idealize.ShloMosaic.Lib.Pointwise

@[expose] public section

set_option maxRecDepth 16384

noncomputable section

namespace Cert.Own.Ref

open Idealize.ShloMosaic Idealize.ShloMosaic.TcCoe Idealize.SL.Sem
open Cert.ReferenceIdeal Cert.ReferenceIdeal.Facts₀

variable {F : FTy → Type} [FloatOps F]

/-- The operations of the first convolution. -/
abbrev ops0 : List (HloOp τ sig (Elt F)) :=
  [ StableHlo.nullary main_cst (constant S_ .f32 0x00000000#32),
    StableHlo.unary main_arg0 main_v0 ((transpose S2x224x224x3 [0, 2, 3, 1] · transposes_S2x3x224x224_S2x224x224x3_0_2_3_1) : (⟨S2x3x224x224, .f32⟩ : BufTy).Contents (Elt F) → (⟨S2x224x224x3, .f32⟩ : BufTy).Contents (Elt F)),
    StableHlo.binary main_v0 main_cst main_v1 ((fun x v => pad S2x226x226x3 ![0, 1, 1, 0] ![0, 1, 1, 0] ![0, 0, 0, 0] x v pads_S2x224x224x3_S2x226x226x3_000_110_110_000 h_S_) : (⟨S2x224x224x3, .f32⟩ : BufTy).Contents (Elt F) → (⟨S_, .f32⟩ : BufTy).Contents (Elt F) → (⟨S2x226x226x3, .f32⟩ : BufTy).Contents (Elt F)),
    StableHlo.nullary main_v2 (iotaInDim S112x1 32 0),
    StableHlo.binary main_v2 main_v2 main_v3 (addi : (⟨S112x1, .i32⟩ : BufTy).Contents (Elt F) → (⟨S112x1, .i32⟩ : BufTy).Contents (Elt F) → (⟨S112x1, .i32⟩ : BufTy).Contents (Elt F)),
    StableHlo.binary main_v1 main_v3 main_v4 ((fun x i => Host.gather gather_S2x226x226x3_S112x1_S2x112x4x226x3_0234_n_n_n_1_1_242263 x i) : (⟨S2x226x226x3, .f32⟩ : BufTy).Contents (Elt F) → (⟨S112x1, .i32⟩ : BufTy).Contents (Elt F) → (⟨S2x112x4x226x3, .f32⟩ : BufTy).Contents (Elt F)),
    StableHlo.binary main_v4 main_v3 main_v5 ((fun x i => Host.gather gather_S2x112x4x226x3_S112x1_S2x112x4x112x4x3_01245_n_n_n_3_1_2112443 x i) : (⟨S2x112x4x226x3, .f32⟩ : BufTy).Contents (Elt F) → (⟨S112x1, .i32⟩ : BufTy).Contents (Elt F) → (⟨S2x112x4x112x4x3, .f32⟩ : BufTy).Contents (Elt F)),
    StableHlo.binary main_v5 main_arg1 main_v6 ((fun l r => Host.dotGeneral dot_S2x112x4x112x4x3_S128x3x4x4_S2x112x112x128_245_231_013_0_n_n none l r) : (⟨S2x112x4x112x4x3, .f32⟩ : BufTy).Contents (Elt F) → (⟨S128x3x4x4, .f32⟩ : BufTy).Contents (Elt F) → (⟨S2x112x112x128, .f32⟩ : BufTy).Contents (Elt F)),
    StableHlo.unary main_arg2 main_v7 (broadcastInDim S2x112x112x128 ![3] bcast_S128_S2x112x112x128_3 : (⟨S128, .f32⟩ : BufTy).Contents (Elt F) → (⟨S2x112x112x128, .f32⟩ : BufTy).Contents (Elt F)),
    StableHlo.binary main_v6 main_v7 main_v8 (addf : (⟨S2x112x112x128, .f32⟩ : BufTy).Contents (Elt F) → (⟨S2x112x112x128, .f32⟩ : BufTy).Contents (Elt F) → (⟨S2x112x112x128, .f32⟩ : BufTy).Contents (Elt F)),
    StableHlo.unary main_cst main_v9 (broadcastInDim S2x112x112x128 ![] bcast_S_S2x112x112x128 : (⟨S_, .f32⟩ : BufTy).Contents (Elt F) → (⟨S2x112x112x128, .f32⟩ : BufTy).Contents (Elt F)),
    StableHlo.binary main_v8 main_v9 main_v10 (maximumf : (⟨S2x112x112x128, .f32⟩ : BufTy).Contents (Elt F) → (⟨S2x112x112x128, .f32⟩ : BufTy).Contents (Elt F) → (⟨S2x112x112x128, .f32⟩ : BufTy).Contents (Elt F)) ]

/-- The operations of the second convolution. -/
abbrev ops1 : List (HloOp τ sig (Elt F)) :=
  [ StableHlo.binary main_v10 main_cst main_v11 ((fun x v => pad S2x114x114x128 ![0, 1, 1, 0] ![0, 1, 1, 0] ![0, 0, 0, 0] x v pads_S2x112x112x128_S2x114x114x128_000_110_110_000 h_S_) : (⟨S2x112x112x128, .f32⟩ : BufTy).Contents (Elt F) → (⟨S_, .f32⟩ : BufTy).Contents (Elt F) → (⟨S2x114x114x128, .f32⟩ : BufTy).Contents (Elt F)),
    StableHlo.nullary main_v12 (iotaInDim S56x1 32 0),
    StableHlo.binary main_v12 main_v12 main_v13 (addi : (⟨S56x1, .i32⟩ : BufTy).Contents (Elt F) → (⟨S56x1, .i32⟩ : BufTy).Contents (Elt F) → (⟨S56x1, .i32⟩ : BufTy).Contents (Elt F)),
    StableHlo.binary main_v11 main_v13 main_v14 ((fun x i => Host.gather gather_S2x114x114x128_S56x1_S2x56x4x114x128_0234_n_n_n_1_1_24114128 x i) : (⟨S2x114x114x128, .f32⟩ : BufTy).Contents (Elt F) → (⟨S56x1, .i32⟩ : BufTy).Contents (Elt F) → (⟨S2x56x4x114x128, .f32⟩ : BufTy).Contents (Elt F)),
    StableHlo.binary main_v14 main_v13 main_v15 ((fun x i => Host.gather gather_S2x56x4x114x128_S56x1_S2x56x4x56x4x128_01245_n_n_n_3_1_25644128 x i) : (⟨S2x56x4x114x128, .f32⟩ : BufTy).Contents (Elt F) → (⟨S56x1, .i32⟩ : BufTy).Contents (Elt F) → (⟨S2x56x4x56x4x128, .f32⟩ : BufTy).Contents (Elt F)),
    StableHlo.binary main_v15 main_arg3 main_v16 ((fun l r => Host.dotGeneral dot_S2x56x4x56x4x128_S128x128x4x4_S2x56x56x128_245_231_013_0_n_n none l r) : (⟨S2x56x4x56x4x128, .f32⟩ : BufTy).Contents (Elt F) → (⟨S128x128x4x4, .f32⟩ : BufTy).Contents (Elt F) → (⟨S2x56x56x128, .f32⟩ : BufTy).Contents (Elt F)),
    StableHlo.unary main_arg4 main_v17 (broadcastInDim S2x56x56x128 ![3] bcast_S128_S2x56x56x128_3 : (⟨S128, .f32⟩ : BufTy).Contents (Elt F) → (⟨S2x56x56x128, .f32⟩ : BufTy).Contents (Elt F)),
    StableHlo.binary main_v16 main_v17 main_v18 (addf : (⟨S2x56x56x128, .f32⟩ : BufTy).Contents (Elt F) → (⟨S2x56x56x128, .f32⟩ : BufTy).Contents (Elt F) → (⟨S2x56x56x128, .f32⟩ : BufTy).Contents (Elt F)),
    StableHlo.unary main_cst main_v19 (broadcastInDim S2x56x56x128 ![] bcast_S_S2x56x56x128 : (⟨S_, .f32⟩ : BufTy).Contents (Elt F) → (⟨S2x56x56x128, .f32⟩ : BufTy).Contents (Elt F)),
    StableHlo.binary main_v18 main_v19 main_v20 (maximumf : (⟨S2x56x56x128, .f32⟩ : BufTy).Contents (Elt F) → (⟨S2x56x56x128, .f32⟩ : BufTy).Contents (Elt F) → (⟨S2x56x56x128, .f32⟩ : BufTy).Contents (Elt F)) ]

/-- The operations of the third convolution. -/
abbrev ops2 : List (HloOp τ sig (Elt F)) :=
  [ StableHlo.binary main_v20 main_cst main_v21 ((fun x v => pad S2x58x58x128 ![0, 1, 1, 0] ![0, 1, 1, 0] ![0, 0, 0, 0] x v pads_S2x56x56x128_S2x58x58x128_000_110_110_000 h_S_) : (⟨S2x56x56x128, .f32⟩ : BufTy).Contents (Elt F) → (⟨S_, .f32⟩ : BufTy).Contents (Elt F) → (⟨S2x58x58x128, .f32⟩ : BufTy).Contents (Elt F)),
    StableHlo.nullary main_v22 (iotaInDim S28x1 32 0),
    StableHlo.binary main_v22 main_v22 main_v23 (addi : (⟨S28x1, .i32⟩ : BufTy).Contents (Elt F) → (⟨S28x1, .i32⟩ : BufTy).Contents (Elt F) → (⟨S28x1, .i32⟩ : BufTy).Contents (Elt F)),
    StableHlo.binary main_v21 main_v23 main_v24 ((fun x i => Host.gather gather_S2x58x58x128_S28x1_S2x28x4x58x128_0234_n_n_n_1_1_2458128 x i) : (⟨S2x58x58x128, .f32⟩ : BufTy).Contents (Elt F) → (⟨S28x1, .i32⟩ : BufTy).Contents (Elt F) → (⟨S2x28x4x58x128, .f32⟩ : BufTy).Contents (Elt F)),
    StableHlo.binary main_v24 main_v23 main_v25 ((fun x i => Host.gather gather_S2x28x4x58x128_S28x1_S2x28x4x28x4x128_01245_n_n_n_3_1_22844128 x i) : (⟨S2x28x4x58x128, .f32⟩ : BufTy).Contents (Elt F) → (⟨S28x1, .i32⟩ : BufTy).Contents (Elt F) → (⟨S2x28x4x28x4x128, .f32⟩ : BufTy).Contents (Elt F)),
    StableHlo.binary main_v25 main_arg5 main_v26 ((fun l r => Host.dotGeneral dot_S2x28x4x28x4x128_S128x128x4x4_S2x28x28x128_245_231_013_0_n_n none l r) : (⟨S2x28x4x28x4x128, .f32⟩ : BufTy).Contents (Elt F) → (⟨S128x128x4x4, .f32⟩ : BufTy).Contents (Elt F) → (⟨S2x28x28x128, .f32⟩ : BufTy).Contents (Elt F)),
    StableHlo.unary main_arg6 main_v27 (broadcastInDim S2x28x28x128 ![3] bcast_S128_S2x28x28x128_3 : (⟨S128, .f32⟩ : BufTy).Contents (Elt F) → (⟨S2x28x28x128, .f32⟩ : BufTy).Contents (Elt F)),
    StableHlo.binary main_v26 main_v27 main_v28 (addf : (⟨S2x28x28x128, .f32⟩ : BufTy).Contents (Elt F) → (⟨S2x28x28x128, .f32⟩ : BufTy).Contents (Elt F) → (⟨S2x28x28x128, .f32⟩ : BufTy).Contents (Elt F)),
    StableHlo.unary main_cst main_v29 (broadcastInDim S2x28x28x128 ![] bcast_S_S2x28x28x128 : (⟨S_, .f32⟩ : BufTy).Contents (Elt F) → (⟨S2x28x28x128, .f32⟩ : BufTy).Contents (Elt F)),
    StableHlo.binary main_v28 main_v29 main_v30 (maximumf : (⟨S2x28x28x128, .f32⟩ : BufTy).Contents (Elt F) → (⟨S2x28x28x128, .f32⟩ : BufTy).Contents (Elt F) → (⟨S2x28x28x128, .f32⟩ : BufTy).Contents (Elt F)) ]

/-- The operations of the encoder's last convolution. -/
abbrev ops3 : List (HloOp τ sig (Elt F)) :=
  [ StableHlo.reshape main_arg7 main_v31 (rfl : (.f32 : EltTy) = .f32) shapeCasts_S128x128x1x1_S128x128,
    StableHlo.binary main_v30 main_v31 main_v32 ((fun l r => Host.dotGeneral dot_S2x28x28x128_S128x128_S2x28x28x128_3_1_012_0_n_n none l r) : (⟨S2x28x28x128, .f32⟩ : BufTy).Contents (Elt F) → (⟨S128x128, .f32⟩ : BufTy).Contents (Elt F) → (⟨S2x28x28x128, .f32⟩ : BufTy).Contents (Elt F)),
    StableHlo.unary main_arg8 main_v33 (broadcastInDim S2x28x28x128 ![3] bcast_S128_S2x28x28x128_3 : (⟨S128, .f32⟩ : BufTy).Contents (Elt F) → (⟨S2x28x28x128, .f32⟩ : BufTy).Contents (Elt F)),
    StableHlo.binary main_v32 main_v33 main_v34 (addf : (⟨S2x28x28x128, .f32⟩ : BufTy).Contents (Elt F) → (⟨S2x28x28x128, .f32⟩ : BufTy).Contents (Elt F) → (⟨S2x28x28x128, .f32⟩ : BufTy).Contents (Elt F)) ]

/-- The operations of the codebook. -/
abbrev ops4 : List (HloOp τ sig (Elt F)) :=
  [ StableHlo.binary main_arg9 main_arg9 main_v35 (mulf : (⟨S128x128, .f32⟩ : BufTy).Contents (Elt F) → (⟨S128x128, .f32⟩ : BufTy).Contents (Elt F) → (⟨S128x128, .f32⟩ : BufTy).Contents (Elt F)),
    StableHlo.nullary main_cst_0 (constant S_ .f32 0x00000000#32),
    StableHlo.binary main_v35 main_cst_0 main_v36 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v36 main_v37 (broadcastInDim S2x28x28x128 ![3] bcast_S128_S2x28x28x128_3 : (⟨S128, .f32⟩ : BufTy).Contents (Elt F) → (⟨S2x28x28x128, .f32⟩ : BufTy).Contents (Elt F)),
    StableHlo.binary main_v34 main_v34 main_v38 (mulf : (⟨S2x28x28x128, .f32⟩ : BufTy).Contents (Elt F) → (⟨S2x28x28x128, .f32⟩ : BufTy).Contents (Elt F) → (⟨S2x28x28x128, .f32⟩ : BufTy).Contents (Elt F)),
    StableHlo.nullary main_cst_1 (constant S_ .f32 0x00000000#32),
    StableHlo.binary main_v38 main_cst_1 main_v39 ((fun x v => Host.reduceAdd x v reducesTo_S2x28x28x128_S2x28x28_d3 h_S_) : (⟨S2x28x28x128, .f32⟩ : BufTy).Contents (Elt F) → (⟨S_, .f32⟩ : BufTy).Contents (Elt F) → (⟨S2x28x28, .f32⟩ : BufTy).Contents (Elt F)),
    StableHlo.unary main_v39 main_v40 (broadcastInDim S2x28x28x128 ![0, 1, 2] bcast_S2x28x28_S2x28x28x128_0_1_2 : (⟨S2x28x28, .f32⟩ : BufTy).Contents (Elt F) → (⟨S2x28x28x128, .f32⟩ : BufTy).Contents (Elt F)),
    StableHlo.binary main_v34 main_arg9 main_v41 ((fun l r => Host.dotGeneral dot_S2x28x28x128_S128x128_S2x28x28x128_3_1_012_0_n_n none l r) : (⟨S2x28x28x128, .f32⟩ : BufTy).Contents (Elt F) → (⟨S128x128, .f32⟩ : BufTy).Contents (Elt F) → (⟨S2x28x28x128, .f32⟩ : BufTy).Contents (Elt F)),
    StableHlo.binary main_v37 main_v40 main_v42 (addf : (⟨S2x28x28x128, .f32⟩ : BufTy).Contents (Elt F) → (⟨S2x28x28x128, .f32⟩ : BufTy).Contents (Elt F) → (⟨S2x28x28x128, .f32⟩ : BufTy).Contents (Elt F)),
    StableHlo.nullary main_cst_2 (constant S_ .f32 0x40000000#32),
    StableHlo.unary main_cst_2 main_v43 (broadcastInDim S2x28x28x128 ![] bcast_S_S2x28x28x128 : (⟨S_, .f32⟩ : BufTy).Contents (Elt F) → (⟨S2x28x28x128, .f32⟩ : BufTy).Contents (Elt F)),
    StableHlo.binary main_v43 main_v41 main_v44 (mulf : (⟨S2x28x28x128, .f32⟩ : BufTy).Contents (Elt F) → (⟨S2x28x28x128, .f32⟩ : BufTy).Contents (Elt F) → (⟨S2x28x28x128, .f32⟩ : BufTy).Contents (Elt F)),
    StableHlo.binary main_v42 main_v44 main_v45 (subf : (⟨S2x28x28x128, .f32⟩ : BufTy).Contents (Elt F) → (⟨S2x28x28x128, .f32⟩ : BufTy).Contents (Elt F) → (⟨S2x28x28x128, .f32⟩ : BufTy).Contents (Elt F)),
    StableHlo.TRef.nullary main_call0.v0 (iotaInDim S2x28x28x128 32 3),
    StableHlo.TRef.nullary main_call0.cst (constant S_ .f32 0x7F800000#32),
    StableHlo.TRef.nullary main_call0.c (constantI S_ 32 0#32),
    StableHlo.TRef.quaternary (.of main_v45 : StableHlo.TRef sig ⟨S2x28x28x128, .f32⟩) main_call0.v0 main_call0.cst main_call0.c main_call0.v1_0 (fun x y u v j => (Host.argReduce reducer_argmin_f32_i32 x y u v reducesTo_S2x28x28x128_S2x28x28_d3 h_S_ j).1),
    StableHlo.TRef.quaternary (.of main_v45 : StableHlo.TRef sig ⟨S2x28x28x128, .f32⟩) main_call0.v0 main_call0.cst main_call0.c main_call0.v1_1 (fun x y u v j => (Host.argReduce reducer_argmin_f32_i32 x y u v reducesTo_S2x28x28x128_S2x28x28_d3 h_S_ j).2),
    StableHlo.TRef.unary (.of main_v46 : StableHlo.TRef sig ⟨S2x28x28, .i32⟩) main_call1.v0 (broadcastInDim S2x28x28x1 ![0, 1, 2] bcast_S2x28x28_S2x28x28x1_0_1_2),
    StableHlo.TRef.binary (.of main_arg9 : StableHlo.TRef sig ⟨S128x128, .f32⟩) main_call1.v0 main_call1.v1 (fun x i => Host.gather gather_S128x128_S2x28x28x1_S2x28x28x128_3_0_n_n_0_3_1128 x i),
    StableHlo.binary main_v47 main_v34 main_v48 (subf : (⟨S2x28x28x128, .f32⟩ : BufTy).Contents (Elt F) → (⟨S2x28x28x128, .f32⟩ : BufTy).Contents (Elt F) → (⟨S2x28x28x128, .f32⟩ : BufTy).Contents (Elt F)),
    StableHlo.binary main_v34 main_v48 main_v49 (addf : (⟨S2x28x28x128, .f32⟩ : BufTy).Contents (Elt F) → (⟨S2x28x28x128, .f32⟩ : BufTy).Contents (Elt F) → (⟨S2x28x28x128, .f32⟩ : BufTy).Contents (Elt F)) ]

/-- The operations of the decoder's first convolution. -/
abbrev ops5 : List (HloOp τ sig (Elt F)) :=
  [ StableHlo.reshape main_arg10 main_v50 (rfl : (.f32 : EltTy) = .f32) shapeCasts_S128x128x1x1_S128x128,
    StableHlo.binary main_v49 main_v50 main_v51 ((fun l r => Host.dotGeneral dot_S2x28x28x128_S128x128_S2x28x28x128_3_1_012_0_n_n none l r) : (⟨S2x28x28x128, .f32⟩ : BufTy).Contents (Elt F) → (⟨S128x128, .f32⟩ : BufTy).Contents (Elt F) → (⟨S2x28x28x128, .f32⟩ : BufTy).Contents (Elt F)),
    StableHlo.unary main_arg11 main_v52 (broadcastInDim S2x28x28x128 ![3] bcast_S128_S2x28x28x128_3 : (⟨S128, .f32⟩ : BufTy).Contents (Elt F) → (⟨S2x28x28x128, .f32⟩ : BufTy).Contents (Elt F)),
    StableHlo.binary main_v51 main_v52 main_v53 (addf : (⟨S2x28x28x128, .f32⟩ : BufTy).Contents (Elt F) → (⟨S2x28x28x128, .f32⟩ : BufTy).Contents (Elt F) → (⟨S2x28x28x128, .f32⟩ : BufTy).Contents (Elt F)) ]

/-- The operations of the first transposed convolution. -/
abbrev ops6 : List (HloOp τ sig (Elt F)) :=
  [ StableHlo.binary main_v53 main_cst main_v54 ((fun x v => pad S2x59x59x128 ![0, 2, 2, 0] ![0, 2, 2, 0] ![0, 1, 1, 0] x v pads_S2x28x28x128_S2x59x59x128_000_221_221_000 h_S_) : (⟨S2x28x28x128, .f32⟩ : BufTy).Contents (Elt F) → (⟨S_, .f32⟩ : BufTy).Contents (Elt F) → (⟨S2x59x59x128, .f32⟩ : BufTy).Contents (Elt F)),
    StableHlo.nullary main_v55 (iotaInDim S56x1 32 0),
    StableHlo.binary main_v54 main_v55 main_v56 ((fun x i => Host.gather gather_S2x59x59x128_S56x1_S2x56x4x59x128_0234_n_n_n_1_1_2459128 x i) : (⟨S2x59x59x128, .f32⟩ : BufTy).Contents (Elt F) → (⟨S56x1, .i32⟩ : BufTy).Contents (Elt F) → (⟨S2x56x4x59x128, .f32⟩ : BufTy).Contents (Elt F)),
    StableHlo.binary main_v56 main_v55 main_v57 ((fun x i => Host.gather gather_S2x56x4x59x128_S56x1_S2x56x4x56x4x128_01245_n_n_n_3_1_25644128 x i) : (⟨S2x56x4x59x128, .f32⟩ : BufTy).Contents (Elt F) → (⟨S56x1, .i32⟩ : BufTy).Contents (Elt F) → (⟨S2x56x4x56x4x128, .f32⟩ : BufTy).Contents (Elt F)),
    StableHlo.unary main_arg12 main_v58 (Host.reverse [2, 3] : (⟨S128x128x4x4, .f32⟩ : BufTy).Contents (Elt F) → (⟨S128x128x4x4, .f32⟩ : BufTy).Contents (Elt F)),
    StableHlo.binary main_v57 main_v58 main_v59 ((fun l r => Host.dotGeneral dot_S2x56x4x56x4x128_S128x128x4x4_S2x56x56x128_245_230_013_1_n_n none l r) : (⟨S2x56x4x56x4x128, .f32⟩ : BufTy).Contents (Elt F) → (⟨S128x128x4x4, .f32⟩ : BufTy).Contents (Elt F) → (⟨S2x56x56x128, .f32⟩ : BufTy).Contents (Elt F)),
    StableHlo.unary main_arg13 main_v60 (broadcastInDim S2x56x56x128 ![3] bcast_S128_S2x56x56x128_3 : (⟨S128, .f32⟩ : BufTy).Contents (Elt F) → (⟨S2x56x56x128, .f32⟩ : BufTy).Contents (Elt F)),
    StableHlo.binary main_v59 main_v60 main_v61 (addf : (⟨S2x56x56x128, .f32⟩ : BufTy).Contents (Elt F) → (⟨S2x56x56x128, .f32⟩ : BufTy).Contents (Elt F) → (⟨S2x56x56x128, .f32⟩ : BufTy).Contents (Elt F)),
    StableHlo.unary main_cst main_v62 (broadcastInDim S2x56x56x128 ![] bcast_S_S2x56x56x128 : (⟨S_, .f32⟩ : BufTy).Contents (Elt F) → (⟨S2x56x56x128, .f32⟩ : BufTy).Contents (Elt F)),
    StableHlo.binary main_v61 main_v62 main_v63 (maximumf : (⟨S2x56x56x128, .f32⟩ : BufTy).Contents (Elt F) → (⟨S2x56x56x128, .f32⟩ : BufTy).Contents (Elt F) → (⟨S2x56x56x128, .f32⟩ : BufTy).Contents (Elt F)) ]

/-- The operations of the second transposed convolution. -/
abbrev ops7 : List (HloOp τ sig (Elt F)) :=
  [ StableHlo.binary main_v63 main_cst main_v64 ((fun x v => pad S2x115x115x128 ![0, 2, 2, 0] ![0, 2, 2, 0] ![0, 1, 1, 0] x v pads_S2x56x56x128_S2x115x115x128_000_221_221_000 h_S_) : (⟨S2x56x56x128, .f32⟩ : BufTy).Contents (Elt F) → (⟨S_, .f32⟩ : BufTy).Contents (Elt F) → (⟨S2x115x115x128, .f32⟩ : BufTy).Contents (Elt F)),
    StableHlo.nullary main_v65 (iotaInDim S112x1 32 0),
    StableHlo.binary main_v64 main_v65 main_v66 ((fun x i => Host.gather gather_S2x115x115x128_S112x1_S2x112x4x115x128_0234_n_n_n_1_1_24115128 x i) : (⟨S2x115x115x128, .f32⟩ : BufTy).Contents (Elt F) → (⟨S112x1, .i32⟩ : BufTy).Contents (Elt F) → (⟨S2x112x4x115x128, .f32⟩ : BufTy).Contents (Elt F)),
    StableHlo.binary main_v66 main_v65 main_v67 ((fun x i => Host.gather gather_S2x112x4x115x128_S112x1_S2x112x4x112x4x128_01245_n_n_n_3_1_211244128 x i) : (⟨S2x112x4x115x128, .f32⟩ : BufTy).Contents (Elt F) → (⟨S112x1, .i32⟩ : BufTy).Contents (Elt F) → (⟨S2x112x4x112x4x128, .f32⟩ : BufTy).Contents (Elt F)),
    StableHlo.unary main_arg14 main_v68 (Host.reverse [2, 3] : (⟨S128x128x4x4, .f32⟩ : BufTy).Contents (Elt F) → (⟨S128x128x4x4, .f32⟩ : BufTy).Contents (Elt F)),
    StableHlo.binary main_v67 main_v68 main_v69 ((fun l r => Host.dotGeneral dot_S2x112x4x112x4x128_S128x128x4x4_S2x112x112x128_245_230_013_1_n_n none l r) : (⟨S2x112x4x112x4x128, .f32⟩ : BufTy).Contents (Elt F) → (⟨S128x128x4x4, .f32⟩ : BufTy).Contents (Elt F) → (⟨S2x112x112x128, .f32⟩ : BufTy).Contents (Elt F)),
    StableHlo.unary main_arg15 main_v70 (broadcastInDim S2x112x112x128 ![3] bcast_S128_S2x112x112x128_3 : (⟨S128, .f32⟩ : BufTy).Contents (Elt F) → (⟨S2x112x112x128, .f32⟩ : BufTy).Contents (Elt F)),
    StableHlo.binary main_v69 main_v70 main_v71 (addf : (⟨S2x112x112x128, .f32⟩ : BufTy).Contents (Elt F) → (⟨S2x112x112x128, .f32⟩ : BufTy).Contents (Elt F) → (⟨S2x112x112x128, .f32⟩ : BufTy).Contents (Elt F)),
    StableHlo.unary main_cst main_v72 (broadcastInDim S2x112x112x128 ![] bcast_S_S2x112x112x128 : (⟨S_, .f32⟩ : BufTy).Contents (Elt F) → (⟨S2x112x112x128, .f32⟩ : BufTy).Contents (Elt F)),
    StableHlo.binary main_v71 main_v72 main_v73 (maximumf : (⟨S2x112x112x128, .f32⟩ : BufTy).Contents (Elt F) → (⟨S2x112x112x128, .f32⟩ : BufTy).Contents (Elt F) → (⟨S2x112x112x128, .f32⟩ : BufTy).Contents (Elt F)) ]

/-- The operations of the third transposed convolution. -/
abbrev ops8 : List (HloOp τ sig (Elt F)) :=
  [ StableHlo.binary main_v73 main_cst main_v74 ((fun x v => pad S2x227x227x128 ![0, 2, 2, 0] ![0, 2, 2, 0] ![0, 1, 1, 0] x v pads_S2x112x112x128_S2x227x227x128_000_221_221_000 h_S_) : (⟨S2x112x112x128, .f32⟩ : BufTy).Contents (Elt F) → (⟨S_, .f32⟩ : BufTy).Contents (Elt F) → (⟨S2x227x227x128, .f32⟩ : BufTy).Contents (Elt F)),
    StableHlo.nullary main_v75 (iotaInDim S224x1 32 0),
    StableHlo.binary main_v74 main_v75 main_v76 ((fun x i => Host.gather gather_S2x227x227x128_S224x1_S2x224x4x227x128_0234_n_n_n_1_1_24227128 x i) : (⟨S2x227x227x128, .f32⟩ : BufTy).Contents (Elt F) → (⟨S224x1, .i32⟩ : BufTy).Contents (Elt F) → (⟨S2x224x4x227x128, .f32⟩ : BufTy).Contents (Elt F)),
    StableHlo.binary main_v76 main_v75 main_v77 ((fun x i => Host.gather gather_S2x224x4x227x128_S224x1_S2x224x4x224x4x128_01245_n_n_n_3_1_222444128 x i) : (⟨S2x224x4x227x128, .f32⟩ : BufTy).Contents (Elt F) → (⟨S224x1, .i32⟩ : BufTy).Contents (Elt F) → (⟨S2x224x4x224x4x128, .f32⟩ : BufTy).Contents (Elt F)),
    StableHlo.unary main_arg16 main_v78 (Host.reverse [2, 3] : (⟨S128x128x4x4, .f32⟩ : BufTy).Contents (Elt F) → (⟨S128x128x4x4, .f32⟩ : BufTy).Contents (Elt F)),
    StableHlo.binary main_v77 main_v78 main_v79 ((fun l r => Host.dotGeneral dot_S2x224x4x224x4x128_S128x128x4x4_S2x224x224x128_245_230_013_1_n_n none l r) : (⟨S2x224x4x224x4x128, .f32⟩ : BufTy).Contents (Elt F) → (⟨S128x128x4x4, .f32⟩ : BufTy).Contents (Elt F) → (⟨S2x224x224x128, .f32⟩ : BufTy).Contents (Elt F)),
    StableHlo.unary main_arg17 main_v80 (broadcastInDim S2x224x224x128 ![3] bcast_S128_S2x224x224x128_3 : (⟨S128, .f32⟩ : BufTy).Contents (Elt F) → (⟨S2x224x224x128, .f32⟩ : BufTy).Contents (Elt F)),
    StableHlo.binary main_v79 main_v80 main_v81 (addf : (⟨S2x224x224x128, .f32⟩ : BufTy).Contents (Elt F) → (⟨S2x224x224x128, .f32⟩ : BufTy).Contents (Elt F) → (⟨S2x224x224x128, .f32⟩ : BufTy).Contents (Elt F)),
    StableHlo.unary main_cst main_v82 (broadcastInDim S2x224x224x128 ![] bcast_S_S2x224x224x128 : (⟨S_, .f32⟩ : BufTy).Contents (Elt F) → (⟨S2x224x224x128, .f32⟩ : BufTy).Contents (Elt F)),
    StableHlo.binary main_v81 main_v82 main_v83 (maximumf : (⟨S2x224x224x128, .f32⟩ : BufTy).Contents (Elt F) → (⟨S2x224x224x128, .f32⟩ : BufTy).Contents (Elt F) → (⟨S2x224x224x128, .f32⟩ : BufTy).Contents (Elt F)) ]

/-- The operations of the output convolution and the three results. -/
abbrev ops9 : List (HloOp τ sig (Elt F)) :=
  [ StableHlo.reshape main_arg18 main_v84 (rfl : (.f32 : EltTy) = .f32) shapeCasts_S3x128x1x1_S3x128,
    StableHlo.binary main_v83 main_v84 main_v85 ((fun l r => Host.dotGeneral dot_S2x224x224x128_S3x128_S2x224x224x3_3_1_012_0_n_n none l r) : (⟨S2x224x224x128, .f32⟩ : BufTy).Contents (Elt F) → (⟨S3x128, .f32⟩ : BufTy).Contents (Elt F) → (⟨S2x224x224x3, .f32⟩ : BufTy).Contents (Elt F)),
    StableHlo.unary main_arg19 main_v86 (broadcastInDim S2x224x224x3 ![3] bcast_S3_S2x224x224x3_3 : (⟨S3, .f32⟩ : BufTy).Contents (Elt F) → (⟨S2x224x224x3, .f32⟩ : BufTy).Contents (Elt F)),
    StableHlo.binary main_v85 main_v86 main_v87 (addf : (⟨S2x224x224x3, .f32⟩ : BufTy).Contents (Elt F) → (⟨S2x224x224x3, .f32⟩ : BufTy).Contents (Elt F) → (⟨S2x224x224x3, .f32⟩ : BufTy).Contents (Elt F)),
    StableHlo.nullary main_cst_3 (constant S_ .f32 0x3F800000#32),
    StableHlo.unary main_cst_3 main_v88 (broadcastInDim S2x224x224x3 ![] bcast_S_S2x224x224x3 : (⟨S_, .f32⟩ : BufTy).Contents (Elt F) → (⟨S2x224x224x3, .f32⟩ : BufTy).Contents (Elt F)),
    StableHlo.unary main_v87 main_v89 (Host.negf : (⟨S2x224x224x3, .f32⟩ : BufTy).Contents (Elt F) → (⟨S2x224x224x3, .f32⟩ : BufTy).Contents (Elt F)),
    StableHlo.unary main_v89 main_v90 (Host.exp : (⟨S2x224x224x3, .f32⟩ : BufTy).Contents (Elt F) → (⟨S2x224x224x3, .f32⟩ : BufTy).Contents (Elt F)),
    StableHlo.binary main_v88 main_v90 main_v91 (addf : (⟨S2x224x224x3, .f32⟩ : BufTy).Contents (Elt F) → (⟨S2x224x224x3, .f32⟩ : BufTy).Contents (Elt F) → (⟨S2x224x224x3, .f32⟩ : BufTy).Contents (Elt F)),
    StableHlo.binary main_v88 main_v91 main_v92 (Host.divf : (⟨S2x224x224x3, .f32⟩ : BufTy).Contents (Elt F) → (⟨S2x224x224x3, .f32⟩ : BufTy).Contents (Elt F) → (⟨S2x224x224x3, .f32⟩ : BufTy).Contents (Elt F)),
    StableHlo.unary main_v92 main_v93 ((transpose S2x3x224x224 [0, 3, 1, 2] · transposes_S2x224x224x3_S2x3x224x224_0_3_1_2) : (⟨S2x224x224x3, .f32⟩ : BufTy).Contents (Elt F) → (⟨S2x3x224x224, .f32⟩ : BufTy).Contents (Elt F)),
    StableHlo.unary main_v34 main_v94 ((transpose S2x128x28x28 [0, 3, 1, 2] · transposes_S2x28x28x128_S2x128x28x28_0_3_1_2) : (⟨S2x28x28x128, .f32⟩ : BufTy).Contents (Elt F) → (⟨S2x128x28x28, .f32⟩ : BufTy).Contents (Elt F)),
    StableHlo.unary main_v47 main_v95 ((transpose S2x128x28x28 [0, 3, 1, 2] · transposes_S2x28x28x128_S2x128x28x28_0_3_1_2) : (⟨S2x28x28x128, .f32⟩ : BufTy).Contents (Elt F) → (⟨S2x128x28x28, .f32⟩ : BufTy).Contents (Elt F)) ]

end Cert.Own.Ref
end
-- ==== Proof.RefOps.lean ====
/- Windows, zero borders and three-axis contractions, entry by entry. -/
module

public import proofs.«01_k».proof.Proof.Spec
public import Idealize.ShloMosaic.Lib.Pointwise

@[expose] public section

set_option maxRecDepth 16384

noncomputable section

namespace Cert.Own

open Idealize.ShloMosaic Idealize.ShloMosaic.TcCoe Idealize.SL.Sem

/-- A border of one zero around an array, at an entry. -/
theorem pad_border {N H W C H' W' : ℕ} (A : (⟨4, ![N, H, W, C]⟩ : Shape).Idx → EReal) {u : Shape} (v : u.Idx → EReal)
    (h : (⟨4, ![N, H, W, C]⟩ : Shape).Pads ![0, 1, 1, 0] ![0, 1, 1, 0] ![0, 0, 0, 0] (⟨4, ![N, H', W', C]⟩ : Shape)) (hu : 0 < u.numel)
    (hv : v (Shape.Idx.first hu) = 0) (n : Fin N) (r : Fin H') (s : Fin W') (c : Fin C) :
    pad (⟨4, ![N, H', W', C]⟩ : Shape) ![0, 1, 1, 0] ![0, 1, 1, 0] ![0, 0, 0, 0] A v h hu (ix4 n r s c) = pad1 A n r.val s.val c := by
  unfold pad pad1 at4
  by_cases hr : 0 < r.val ∧ 0 < s.val
  · rw [if_pos hr]
    by_cases h2 : r.val - 1 < H ∧ s.val - 1 < W
    · have hin : ∀ a : Fin 4, (![0, 1, 1, 0] : Fin 4 → ℕ) a ≤ ((ix4 n r s c : (⟨4, ![N, H', W', C]⟩ : Shape).Idx) a).val
          ∧ (((ix4 n r s c : (⟨4, ![N, H', W', C]⟩ : Shape).Idx) a).val - (![0, 1, 1, 0] : Fin 4 → ℕ) a) % ((![0, 0, 0, 0] : Fin 4 → ℕ) a + 1) = 0
          ∧ (((ix4 n r s c : (⟨4, ![N, H', W', C]⟩ : Shape).Idx) a).val - (![0, 1, 1, 0] : Fin 4 → ℕ) a) / ((![0, 0, 0, 0] : Fin 4 → ℕ) a + 1) < (![N, H, W, C] : Fin 4 → ℕ) a := by
        intro a
        have := n.isLt
        have := c.isLt
        fin_cases a <;> simp <;> omega
      rw [dif_pos h2]
      refine (dif_pos hin).trans (congrArg A (funext fun a => Fin.ext ?_))
      fin_cases a <;> simp
    · rw [dif_neg h2]
      refine (dif_neg fun hin => h2 ?_).trans hv
      have h1 := (hin 1).2.2
      have h3 := (hin 2).2.2
      simp at h1 h3
      exact ⟨h1, h3⟩
  · rw [if_neg hr]
    refine (dif_neg fun hin => hr ?_).trans hv
    have h1 := (hin 1).1
    have h3 := (hin 2).1
    simp at h1 h3
    omega

/-- A zero between neighbouring entries and a border of two zeros, at an entry. -/
theorem pad_dil {N H W C H' W' : ℕ} (A : (⟨4, ![N, H, W, C]⟩ : Shape).Idx → EReal) {u : Shape} (v : u.Idx → EReal)
    (h : (⟨4, ![N, H, W, C]⟩ : Shape).Pads ![0, 2, 2, 0] ![0, 2, 2, 0] ![0, 1, 1, 0] (⟨4, ![N, H', W', C]⟩ : Shape)) (hu : 0 < u.numel)
    (hv : v (Shape.Idx.first hu) = 0) (n : Fin N) (r : Fin H') (s : Fin W') (c : Fin C) :
    pad (⟨4, ![N, H', W', C]⟩ : Shape) ![0, 2, 2, 0] ![0, 2, 2, 0] ![0, 1, 1, 0] A v h hu (ix4 n r s c) = dil1 A n r.val s.val c := by
  unfold pad dil1 pad1 at4
  by_cases hp : (r.val % 2 = 0 ∧ s.val % 2 = 0) ∧ (0 < r.val / 2 ∧ 0 < s.val / 2) ∧ (r.val / 2 - 1 < H ∧ s.val / 2 - 1 < W)
  · obtain ⟨he, hr, h2⟩ := hp
    rw [if_pos he, if_pos hr, dif_pos h2]
    have hin : ∀ a : Fin 4, (![0, 2, 2, 0] : Fin 4 → ℕ) a ≤ ((ix4 n r s c : (⟨4, ![N, H', W', C]⟩ : Shape).Idx) a).val
          ∧ (((ix4 n r s c : (⟨4, ![N, H', W', C]⟩ : Shape).Idx) a).val - (![0, 2, 2, 0] : Fin 4 → ℕ) a) % ((![0, 1, 1, 0] : Fin 4 → ℕ) a + 1) = 0
          ∧ (((ix4 n r s c : (⟨4, ![N, H', W', C]⟩ : Shape).Idx) a).val - (![0, 2, 2, 0] : Fin 4 → ℕ) a) / ((![0, 1, 1, 0] : Fin 4 → ℕ) a + 1) < (![N, H, W, C] : Fin 4 → ℕ) a := by
      intro a
      have := n.isLt
      have := c.isLt
      fin_cases a <;> simp <;> omega
    refine (dif_pos hin).trans (congrArg A (funext fun a => Fin.ext ?_))
    fin_cases a <;> simp <;> omega
  · refine (dif_neg fun hin => hp ?_).trans (hv.trans ?_)
    · have h1 := hin 1
      have h3 := hin 2
      simp at h1 h3
      omega
    · split_ifs <;> first | rfl | (exfalso; omega)

/-- A window of four rows from each start, at an entry. -/
theorem gather_rows {N H W C I : ℕ} (d : GatherDims (⟨4, ![N, H, W, C]⟩ : Shape) ⟨2, ![I, 1]⟩ ⟨5, ![N, I, 4, W, C]⟩) (h1 : d.offsetDims = [0, 2, 3, 4])
    (h2 : d.collapsedSliceDims = []) (h3 : d.operandBatchingDims = []) (h4 : d.startIndicesBatchingDims = []) (h5 : d.startIndexMap = [1])
    (h6 : d.indexVectorDim = 1) (h7 : d.sliceSizes = ![N, 4, W, C]) (x : (⟨4, ![N, H, W, C]⟩ : Shape).Idx → EReal) (idx : IVec ⟨2, ![I, 1]⟩ 32)
    (n : Fin N) (i : Fin I) (k : Fin 4) (w : Fin W) (c : Fin C) (q : ℕ) (hq : (idx (ix2 i 0)).toInt.toNat = q) (hqH : q + 4 ≤ H) :
    Host.gather d x idx (ix5 n i k w c) = x (ix4 n ⟨q + k.val, by omega⟩ w c) := by
  obtain ⟨e1, e2, e3, e4, e5, e6, e7, wf⟩ := d
  dsimp only at h1 h2 h3 h4 h5 h6 h7
  subst h1 h2 h3 h4 h5 h6 h7
  refine congrArg x (funext fun a => Fin.ext ?_)
  have hs : ∀ j, min (idx j).toInt.toNat (H - 4) = min (idx j).toInt.toNat (H - 4) := fun _ => rfl
  match a with
  | ⟨0, _⟩ => exact (Nat.zero_add _).trans rfl
  | ⟨1, _⟩ =>
    show min (idx _).toInt.toNat (H - 4) + 0 + k.val = q + k.val
    have : idx (ix2 i 0) = idx (ix2 i 0) := rfl
    rw [show ∀ j, j = ix2 i 0 → min (idx j).toInt.toNat (H - 4) + 0 + k.val = q + k.val from fun j hj => by rw [hj, hq]; omega]
    funext b
    match b with
    | ⟨0, _⟩ => rfl
    | ⟨1, _⟩ => rfl
  | ⟨2, _⟩ => exact (Nat.zero_add _).trans rfl
  | ⟨3, _⟩ => exact (Nat.zero_add _).trans rfl

/-- A window of four columns from each start, at an entry. -/
theorem gather_cols {N H W C I : ℕ} (d : GatherDims (⟨5, ![N, H, 4, W, C]⟩ : Shape) ⟨2, ![I, 1]⟩ ⟨6, ![N, H, 4, I, 4, C]⟩) (h1 : d.offsetDims = [0, 1, 2, 4, 5])
    (h2 : d.collapsedSliceDims = []) (h3 : d.operandBatchingDims = []) (h4 : d.startIndicesBatchingDims = []) (h5 : d.startIndexMap = [3])
    (h6 : d.indexVectorDim = 1) (h7 : d.sliceSizes = ![N, H, 4, 4, C]) (x : (⟨5, ![N, H, 4, W, C]⟩ : Shape).Idx → EReal) (idx : IVec ⟨2, ![I, 1]⟩ 32)
    (n : Fin N) (r : Fin H) (e : Fin 4) (i : Fin I) (k : Fin 4) (c : Fin C) (q : ℕ) (hq : (idx (ix2 i 0)).toInt.toNat = q) (hqW : q + 4 ≤ W) :
    Host.gather d x idx (ix6 n r e i k c) = x (ix5 n r e ⟨q + k.val, by omega⟩ c) := by
  obtain ⟨e1, e2, e3, e4, e5, e6, e7, wf⟩ := d
  dsimp only at h1 h2 h3 h4 h5 h6 h7
  subst h1 h2 h3 h4 h5 h6 h7
  refine congrArg x (funext fun a => Fin.ext ?_)
  match a with
  | ⟨0, _⟩ => exact (Nat.zero_add _).trans rfl
  | ⟨1, _⟩ => exact (Nat.zero_add _).trans rfl
  | ⟨2, _⟩ => exact (Nat.zero_add _).trans rfl
  | ⟨3, _⟩ =>
    show min (idx _).toInt.toNat (W - 4) + 0 + k.val = q + k.val
    rw [show ∀ j, j = ix2 i 0 → min (idx j).toInt.toNat (W - 4) + 0 + k.val = q + k.val from fun j hj => by rw [hj, hq]; omega]
    funext b
    match b with
    | ⟨0, _⟩ => rfl
    | ⟨1, _⟩ => rfl
  | ⟨4, _⟩ => exact (Nat.zero_add _).trans rfl

/-- The sizes of a contraction's three axes. -/
theorem size_contr3 {sl sr so : Shape} (d : DotDims sl sr so) {a b c : Fin sl.rank} (hc : d.lhsContracting = [a, b, c]) {A B C : ℕ} (hA : sl.size a = A)
    (hB : sl.size b = B) (hC : sl.size c = C) (p : Fin d.contr.rank) : (if p.val = 0 then A else if p.val = 1 then B else C) = d.contr.size p := by
  subst hA hB hC
  have : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  exact this _ hc p

/-- A contraction's index from its three coordinates. -/
def contrIdx3 {sl sr so : Shape} (d : DotDims sl sr so) {a b c : Fin sl.rank} (hc : d.lhsContracting = [a, b, c]) {A B C : ℕ} (hA : sl.size a = A)
    (hB : sl.size b = B) (hC : sl.size c = C) (u : Fin A) (v : Fin B) (w : Fin C) : d.contr.Idx :=
  fun p => if h : p.val = 0 then u.cast (by rw [← size_contr3 d hc hA hB hC p, if_pos h])
    else if h' : p.val = 1 then v.cast (by rw [← size_contr3 d hc hA hB hC p, if_neg h, if_pos h'])
    else w.cast (by rw [← size_contr3 d hc hA hB hC p, if_neg h, if_neg h'])

/-- A contraction over three axes has rank three. -/
theorem rank_contr3 {sl sr so : Shape} (d : DotDims sl sr so) {a b c : Fin sl.rank} (hc : d.lhsContracting = [a, b, c]) : d.contr.rank = 3 := by
  rw [d.rank_contr, hc]; rfl

/-- A contraction's indices are the triples of coordinates. -/
def contrEquiv3 {sl sr so : Shape} (d : DotDims sl sr so) {a b c : Fin sl.rank} (hc : d.lhsContracting = [a, b, c]) {A B C : ℕ} (hA : sl.size a = A)
    (hB : sl.size b = B) (hC : sl.size c = C) : Fin A × Fin B × Fin C ≃ d.contr.Idx where
  toFun p := contrIdx3 d hc hA hB hC p.1 p.2.1 p.2.2
  invFun k :=
    ((k ⟨0, by rw [rank_contr3 d hc]; omega⟩).cast (size_contr3 d hc hA hB hC _).symm,
     (k ⟨1, by rw [rank_contr3 d hc]; omega⟩).cast (size_contr3 d hc hA hB hC _).symm,
     (k ⟨2, by rw [rank_contr3 d hc]; omega⟩).cast (size_contr3 d hc hA hB hC _).symm)
  left_inv _ := rfl
  right_inv k := by
    funext p
    have : p = ⟨0, by rw [rank_contr3 d hc]; omega⟩ ∨ p = ⟨1, by rw [rank_contr3 d hc]; omega⟩ ∨ p = ⟨2, by rw [rank_contr3 d hc]; omega⟩ := by
      have := rank_contr3 d hc
      rcases p with ⟨p, hp⟩
      simp only [Fin.mk.injEq]; omega
    rcases this with rfl | rfl | rfl <;> rfl

/-- A sum over a contraction's indices is the triple sum over the coordinates. -/
theorem sum_contr3 {sl sr so : Shape} (d : DotDims sl sr so) {a b c : Fin sl.rank} (hc : d.lhsContracting = [a, b, c]) {A B C : ℕ} (hA : sl.size a = A)
    (hB : sl.size b = B) (hC : sl.size c = C) (f : d.contr.Idx → EReal) :
    ∑ k : d.contr.Idx, f k = ∑ u : Fin A, ∑ v : Fin B, ∑ w : Fin C, f (contrIdx3 d hc hA hB hC u v w) := by
  rw [← Fintype.sum_equiv (contrEquiv3 d hc hA hB hC) (fun p => f (contrIdx3 d hc hA hB hC p.1 p.2.1 p.2.2)) f fun _ => rfl]
  simp only [Fintype.sum_prod_type]

/-- The contraction of windows with weights whose outputs come first. -/
theorem dot3_first {N H W C O : ℕ} (d : DotDims (⟨6, ![N, H, 4, W, 4, C]⟩ : Shape) ⟨4, ![O, C, 4, 4]⟩ ⟨4, ![N, H, W, O]⟩)
    (h1 : d.lhsContracting = [2, 4, 5]) (h2 : d.rhsContracting = [2, 3, 1]) (h3 : d.lhsNonContracting = [0, 1, 3]) (h4 : d.rhsNonContracting = [0])
    (h5 : d.lhsBatch = []) (h6 : d.rhsBatch = []) (x : (⟨6, ![N, H, 4, W, 4, C]⟩ : Shape).Idx → EReal) (w : (⟨4, ![O, C, 4, 4]⟩ : Shape).Idx → EReal)
    (n : Fin N) (i : Fin H) (j : Fin W) (o : Fin O) :
    (∑ k : d.contr.Idx, x (d.lhsIdx (ix4 n i j o) k) * w (d.rhsIdx (ix4 n i j o) k))
      = ∑ kh : Fin 4, ∑ kw : Fin 4, ∑ c : Fin C, x (ix6 n i kh j kw c) * w (ix4 o c kh kw) := by
  obtain ⟨e1, e2, e3, e4, e5, e6, wf⟩ := d
  dsimp only at h1 h2 h3 h4 h5 h6
  subst h1 h2 h3 h4 h5 h6
  refine (sum_contr3 _ rfl (A := 4) (B := 4) (C := C) rfl rfl rfl _).trans ?_
  refine Finset.sum_congr rfl fun kh _ => Finset.sum_congr rfl fun kw _ => Finset.sum_congr rfl fun c _ => ?_
  refine congrArg₂ (· * ·) (congrArg x (funext fun a => ?_)) (congrArg w (funext fun a => ?_))
  · match a with
    | ⟨0, _⟩ => rfl
    | ⟨1, _⟩ => rfl
    | ⟨2, _⟩ => rfl
    | ⟨3, _⟩ => rfl
    | ⟨4, _⟩ => rfl
    | ⟨5, _⟩ => rfl
  · match a with
    | ⟨0, _⟩ => rfl
    | ⟨1, _⟩ => rfl
    | ⟨2, _⟩ => rfl
    | ⟨3, _⟩ => rfl

/-- The contraction of windows with weights whose inputs come first. -/
theorem dot3_second {N H W C O : ℕ} (d : DotDims (⟨6, ![N, H, 4, W, 4, C]⟩ : Shape) ⟨4, ![C, O, 4, 4]⟩ ⟨4, ![N, H, W, O]⟩)
    (h1 : d.lhsContracting = [2, 4, 5]) (h2 : d.rhsContracting = [2, 3, 0]) (h3 : d.lhsNonContracting = [0, 1, 3]) (h4 : d.rhsNonContracting = [1])
    (h5 : d.lhsBatch = []) (h6 : d.rhsBatch = []) (x : (⟨6, ![N, H, 4, W, 4, C]⟩ : Shape).Idx → EReal) (w : (⟨4, ![C, O, 4, 4]⟩ : Shape).Idx → EReal)
    (n : Fin N) (i : Fin H) (j : Fin W) (o : Fin O) :
    (∑ k : d.contr.Idx, x (d.lhsIdx (ix4 n i j o) k) * w (d.rhsIdx (ix4 n i j o) k))
      = ∑ kh : Fin 4, ∑ kw : Fin 4, ∑ c : Fin C, x (ix6 n i kh j kw c) * w (ix4 c o kh kw) := by
  obtain ⟨e1, e2, e3, e4, e5, e6, wf⟩ := d
  dsimp only at h1 h2 h3 h4 h5 h6
  subst h1 h2 h3 h4 h5 h6
  refine (sum_contr3 _ rfl (A := 4) (B := 4) (C := C) rfl rfl rfl _).trans ?_
  refine Finset.sum_congr rfl fun kh _ => Finset.sum_congr rfl fun kw _ => Finset.sum_congr rfl fun c _ => ?_
  refine congrArg₂ (· * ·) (congrArg x (funext fun a => ?_)) (congrArg w (funext fun a => ?_))
  · match a with
    | ⟨0, _⟩ => rfl
    | ⟨1, _⟩ => rfl
    | ⟨2, _⟩ => rfl
    | ⟨3, _⟩ => rfl
    | ⟨4, _⟩ => rfl
    | ⟨5, _⟩ => rfl
  · match a with
    | ⟨0, _⟩ => rfl
    | ⟨1, _⟩ => rfl
    | ⟨2, _⟩ => rfl
    | ⟨3, _⟩ => rfl

/-- The windows, the contraction, the bias and the maximum are the convolution of the bordered array. -/
theorem conv_ref {N H W C O I H' W' : ℕ} (g₁ : GatherDims (⟨4, ![N, H', W', C]⟩ : Shape) ⟨2, ![I, 1]⟩ ⟨5, ![N, I, 4, W', C]⟩)
    (g₂ : GatherDims (⟨5, ![N, I, 4, W', C]⟩ : Shape) ⟨2, ![I, 1]⟩ ⟨6, ![N, I, 4, I, 4, C]⟩)
    (d : DotDims (⟨6, ![N, I, 4, I, 4, C]⟩ : Shape) ⟨4, ![O, C, 4, 4]⟩ ⟨4, ![N, I, I, O]⟩)
    (hg₁ : g₁.offsetDims = [0, 2, 3, 4] ∧ g₁.collapsedSliceDims = [] ∧ g₁.operandBatchingDims = [] ∧ g₁.startIndicesBatchingDims = [] ∧ g₁.startIndexMap = [1]
      ∧ g₁.indexVectorDim = 1 ∧ g₁.sliceSizes = ![N, 4, W', C])
    (hg₂ : g₂.offsetDims = [0, 1, 2, 4, 5] ∧ g₂.collapsedSliceDims = [] ∧ g₂.operandBatchingDims = [] ∧ g₂.startIndicesBatchingDims = [] ∧ g₂.startIndexMap = [3]
      ∧ g₂.indexVectorDim = 1 ∧ g₂.sliceSizes = ![N, I, 4, 4, C])
    (hd : d.lhsContracting = [2, 4, 5] ∧ d.rhsContracting = [2, 3, 1] ∧ d.lhsNonContracting = [0, 1, 3] ∧ d.rhsNonContracting = [0] ∧ d.lhsBatch = [] ∧ d.rhsBatch = [])
    (X : FVec Ideal (⟨4, ![N, H', W', C]⟩ : Shape) .f32) (idx : IVec ⟨2, ![I, 1]⟩ 32) (w' : FVec Ideal (⟨4, ![O, C, 4, 4]⟩ : Shape) .f32) (B Z : FVec Ideal (⟨4, ![N, I, I, O]⟩ : Shape) .f32)
    (A : (⟨4, ![N, H, W, C]⟩ : Shape).Idx → EReal) (w : (⟨4, ![O, C, 4, 4]⟩ : Shape).Idx → EReal) (b : (⟨1, ![O]⟩ : Shape).Idx → EReal)
    (hX : ∀ n r s c, X (ix4 n r s c) = pad1 A n r.val s.val c) (hidx : ∀ i : Fin I, (idx (ix2 i 0)).toInt.toNat = 2 * i.val)
    (hH : ∀ i : Fin I, 2 * i.val + 4 ≤ H') (hW : ∀ i : Fin I, 2 * i.val + 4 ≤ W')
    (hw : ∀ o c kh kw, w' (ix4 o c kh kw) = w (ix4 o c kh kw)) (hB : ∀ n i j o, B (ix4 n i j o) = b (ix1 o)) (hZ : ∀ y, Z y = 0) :
    maximumf (addf (Host.dotGeneral d none (Host.gather g₂ (Host.gather g₁ X idx) idx) w') B) Z = convS I I A w b := by
  funext y
  obtain ⟨n, i, j, o, rfl⟩ : ∃ n i j o, y = ix4 n i j o := ⟨y 0, y 1, y 2, y 3, by funext a; match a with | ⟨0, _⟩ => rfl | ⟨1, _⟩ => rfl | ⟨2, _⟩ => rfl | ⟨3, _⟩ => rfl⟩
  obtain ⟨a1, a2, a3, a4, a5, a6, a7⟩ := hg₁
  obtain ⟨b1, b2, b3, b4, b5, b6, b7⟩ := hg₂
  obtain ⟨d1, d2, d3, d4, d5, d6⟩ := hd
  show max ((Host.dotGeneral (F := Ideal) (φ₁ := .f32) (φ₂ := .f32) d none (Host.gather g₂ (Host.gather g₁ X idx) idx) w' (ix4 n i j o) : EReal) + B (ix4 n i j o)) (Z (ix4 n i j o)) = max _ 0
  rw [hB, hZ]
  refine congrArg (fun e : EReal => max (e + b (ix1 o)) 0) ?_
  refine (Ideal.dotGeneral_apply d none _ _ _ _).trans ?_
  rw [dot3_first d d1 d2 d3 d4 d5 d6]
  refine Finset.sum_congr rfl fun kh _ => Finset.sum_congr rfl fun kw _ => Finset.sum_congr rfl fun c _ => ?_
  rw [gather_cols g₂ b1 b2 b3 b4 b5 b6 b7 _ idx n i kh j kw c (2 * j.val) (hidx j) (hW j),
    gather_rows g₁ a1 a2 a3 a4 a5 a6 a7 X idx n i kh _ c (2 * i.val) (hidx i) (hH i), hX, hw]
  rfl

/-- The windows, the contraction with reversed weights, the bias and the maximum are the transposed convolution. -/
theorem convT_ref {N H W C O I H' W' : ℕ} (g₁ : GatherDims (⟨4, ![N, H', W', C]⟩ : Shape) ⟨2, ![I, 1]⟩ ⟨5, ![N, I, 4, W', C]⟩)
    (g₂ : GatherDims (⟨5, ![N, I, 4, W', C]⟩ : Shape) ⟨2, ![I, 1]⟩ ⟨6, ![N, I, 4, I, 4, C]⟩)
    (d : DotDims (⟨6, ![N, I, 4, I, 4, C]⟩ : Shape) ⟨4, ![C, O, 4, 4]⟩ ⟨4, ![N, I, I, O]⟩)
    (hg₁ : g₁.offsetDims = [0, 2, 3, 4] ∧ g₁.collapsedSliceDims = [] ∧ g₁.operandBatchingDims = [] ∧ g₁.startIndicesBatchingDims = [] ∧ g₁.startIndexMap = [1]
      ∧ g₁.indexVectorDim = 1 ∧ g₁.sliceSizes = ![N, 4, W', C])
    (hg₂ : g₂.offsetDims = [0, 1, 2, 4, 5] ∧ g₂.collapsedSliceDims = [] ∧ g₂.operandBatchingDims = [] ∧ g₂.startIndicesBatchingDims = [] ∧ g₂.startIndexMap = [3]
      ∧ g₂.indexVectorDim = 1 ∧ g₂.sliceSizes = ![N, I, 4, 4, C])
    (hd : d.lhsContracting = [2, 4, 5] ∧ d.rhsContracting = [2, 3, 0] ∧ d.lhsNonContracting = [0, 1, 3] ∧ d.rhsNonContracting = [1] ∧ d.lhsBatch = [] ∧ d.rhsBatch = [])
    (X : FVec Ideal (⟨4, ![N, H', W', C]⟩ : Shape) .f32) (idx : IVec ⟨2, ![I, 1]⟩ 32) (w' : FVec Ideal (⟨4, ![C, O, 4, 4]⟩ : Shape) .f32) (B Z : FVec Ideal (⟨4, ![N, I, I, O]⟩ : Shape) .f32)
    (A : (⟨4, ![N, H, W, C]⟩ : Shape).Idx → EReal) (w : (⟨4, ![C, O, 4, 4]⟩ : Shape).Idx → EReal) (b : (⟨1, ![O]⟩ : Shape).Idx → EReal)
    (hX : ∀ n r s c, X (ix4 n r s c) = dil1 A n r.val s.val c) (hidx : ∀ i : Fin I, (idx (ix2 i 0)).toInt.toNat = i.val)
    (hH : ∀ i : Fin I, i.val + 4 ≤ H') (hW : ∀ i : Fin I, i.val + 4 ≤ W')
    (hw : ∀ c o kh kw, w' (ix4 c o kh kw) = w (ix4 c o kh.rev kw.rev)) (hB : ∀ n i j o, B (ix4 n i j o) = b (ix1 o)) (hZ : ∀ y, Z y = 0) :
    maximumf (addf (Host.dotGeneral d none (Host.gather g₂ (Host.gather g₁ X idx) idx) w') B) Z = convTS I I A w b := by
  funext y
  obtain ⟨n, i, j, o, rfl⟩ : ∃ n i j o, y = ix4 n i j o := ⟨y 0, y 1, y 2, y 3, by funext a; match a with | ⟨0, _⟩ => rfl | ⟨1, _⟩ => rfl | ⟨2, _⟩ => rfl | ⟨3, _⟩ => rfl⟩
  obtain ⟨a1, a2, a3, a4, a5, a6, a7⟩ := hg₁
  obtain ⟨b1, b2, b3, b4, b5, b6, b7⟩ := hg₂
  obtain ⟨d1, d2, d3, d4, d5, d6⟩ := hd
  show max ((Host.dotGeneral (F := Ideal) (φ₁ := .f32) (φ₂ := .f32) d none (Host.gather g₂ (Host.gather g₁ X idx) idx) w' (ix4 n i j o) : EReal) + B (ix4 n i j o)) (Z (ix4 n i j o)) = max _ 0
  rw [hB, hZ]
  refine congrArg (fun e : EReal => max (e + b (ix1 o)) 0) ?_
  refine (Ideal.dotGeneral_apply d none _ _ _ _).trans ?_
  rw [dot3_second d d1 d2 d3 d4 d5 d6]
  refine Finset.sum_congr rfl fun kh _ => Finset.sum_congr rfl fun kw _ => Finset.sum_congr rfl fun c _ => ?_
  rw [gather_cols g₂ b1 b2 b3 b4 b5 b6 b7 _ idx n i kh j kw c (j.val) (hidx j) (hW j),
    gather_rows g₁ a1 a2 a3 a4 a5 a6 a7 X idx n i kh _ c (i.val) (hidx i) (hH i), hX, hw]
  rfl

end Cert.Own
end
-- ==== Proof.RefStage.lean ====
/- What each stage of the reference leaves, as an array of what it starts from. -/
module

public import proofs.«01_k».proof.Proof.RefLine
public import proofs.«01_k».proof.Proof.RefOps
public import Idealize.ShloMosaic.Lib.StableHlo.RunRead
public import Idealize.ShloMosaic.Lib.StableHlo.Predicate

@[expose] public section

set_option maxRecDepth 16384

noncomputable section

namespace Cert.Own.Ref

open Idealize.ShloMosaic Idealize.ShloMosaic.TcCoe Idealize.SL.Sem Idealize.ShloMosaic.StableHlo
open Cert.ReferenceIdeal Cert.ReferenceIdeal.Facts₀

variable (V : Valuation τ sig (Elt Ideal))

/-- The first entry of the zero constant. -/
theorem zero_first : (constant (F := Ideal) S_ FTy.f32 0#32) (Shape.Idx.first h_S_) = (0 : EReal) := by pointwise []

/-- A row of starts counts up. -/
theorem start1 (i : ℕ) (h : i < 1024) : (BitVec.ofNat 32 i).toInt.toNat = i := by
  rw [StableHlo.Predicate.toInt_ofNat_small _ (by omega)]; omega

/-- A row of doubled starts counts up in twos. -/
theorem start2 (i : ℕ) (h : i < 1024) : (BitVec.ofNat 32 i + BitVec.ofNat 32 i).toInt.toNat = 2 * i := by
  rw [← BitVec.ofNat_add, StableHlo.Predicate.toInt_ofNat_small _ (by omega)]; omega

/-- The first stage leaves the convolution of the images. -/
theorem stage0 : after (ops0 (F := Ideal)) V (Proc.devRef .tc main_v10)
    = convS 112 112 (nhwc (V (Proc.devRef .tc main_arg0))) (V (Proc.devRef .tc main_arg1)) (V (Proc.devRef .tc main_arg2)) := by
  after_reads_simp
  refine conv_ref _ _ _ ⟨rfl, rfl, rfl, rfl, rfl, rfl, rfl⟩ ⟨rfl, rfl, rfl, rfl, rfl, rfl, rfl⟩ ⟨rfl, rfl, rfl, rfl, rfl, rfl⟩ _ _ _ _ _ _ _ _ (fun n r s c => ?_) (fun i => start2 i.val (by omega)) (fun i => by omega) (fun i => by omega)
    (fun _ _ _ _ => rfl) (fun n i j o => by pointwise []) (fun y => by pointwise [])
  refine (pad_border _ _ _ _ zero_first n r s c).trans ?_
  exact congrArg (fun A => pad1 A n r.val s.val c) (funext fun y => by idx_vars y; unfold nhwc; pointwise [])

/-- The second stage leaves the convolution of the first. -/
theorem stage1 (hz : V (Proc.devRef .tc main_cst) = constant (F := Ideal) S_ FTy.f32 0#32) : after (ops1 (F := Ideal)) V (Proc.devRef .tc main_v20)
    = convS 56 56 (V (Proc.devRef .tc main_v10)) (V (Proc.devRef .tc main_arg3)) (V (Proc.devRef .tc main_arg4)) := by
  after_reads_simp
  rw [hz]
  refine conv_ref _ _ _ ⟨rfl, rfl, rfl, rfl, rfl, rfl, rfl⟩ ⟨rfl, rfl, rfl, rfl, rfl, rfl, rfl⟩ ⟨rfl, rfl, rfl, rfl, rfl, rfl⟩ _ _ _ _ _ _ _ _ (fun n r s c => ?_) (fun i => start2 i.val (by omega)) (fun i => by omega) (fun i => by omega)
    (fun _ _ _ _ => rfl) (fun n i j o => by pointwise []) (fun y => by pointwise [])
  exact pad_border _ _ _ _ zero_first n r s c

/-- The third stage leaves the convolution of the second. -/
theorem stage2 (hz : V (Proc.devRef .tc main_cst) = constant (F := Ideal) S_ FTy.f32 0#32) : after (ops2 (F := Ideal)) V (Proc.devRef .tc main_v30)
    = convS 28 28 (V (Proc.devRef .tc main_v20)) (V (Proc.devRef .tc main_arg5)) (V (Proc.devRef .tc main_arg6)) := by
  after_reads_simp
  rw [hz]
  refine conv_ref _ _ _ ⟨rfl, rfl, rfl, rfl, rfl, rfl, rfl⟩ ⟨rfl, rfl, rfl, rfl, rfl, rfl, rfl⟩ ⟨rfl, rfl, rfl, rfl, rfl, rfl⟩ _ _ _ _ _ _ _ _ (fun n r s c => ?_) (fun i => start2 i.val (by omega)) (fun i => by omega) (fun i => by omega)
    (fun _ _ _ _ => rfl) (fun n i j o => by pointwise []) (fun y => by pointwise [])
  exact pad_border _ _ _ _ zero_first n r s c

/-- The first transposed convolution. -/
theorem stage6 (hz : V (Proc.devRef .tc main_cst) = constant (F := Ideal) S_ FTy.f32 0#32) : after (ops6 (F := Ideal)) V (Proc.devRef .tc main_v63)
    = convTS 56 56 (V (Proc.devRef .tc main_v53)) (V (Proc.devRef .tc main_arg12)) (V (Proc.devRef .tc main_arg13)) := by
  after_reads_simp
  rw [hz]
  refine convT_ref _ _ _ ⟨rfl, rfl, rfl, rfl, rfl, rfl, rfl⟩ ⟨rfl, rfl, rfl, rfl, rfl, rfl, rfl⟩ ⟨rfl, rfl, rfl, rfl, rfl, rfl⟩ _ _ _ _ _ _ _ _ (fun n r s c => ?_) (fun i => start1 i.val (by omega)) (fun i => by omega) (fun i => by omega)
    (fun c o kh kw => ?_) (fun n i j o => by pointwise []) (fun y => by pointwise [])
  · exact pad_dil _ _ _ _ zero_first n r s c
  · exact congrArg (V (Proc.devRef .tc main_arg12) : S128x128x4x4.Idx → EReal) (funext fun a => by match a with | ⟨0, _⟩ => rfl | ⟨1, _⟩ => rfl | ⟨2, _⟩ => rfl | ⟨3, _⟩ => rfl)

/-- The second transposed convolution. -/
theorem stage7 (hz : V (Proc.devRef .tc main_cst) = constant (F := Ideal) S_ FTy.f32 0#32) : after (ops7 (F := Ideal)) V (Proc.devRef .tc main_v73)
    = convTS 112 112 (V (Proc.devRef .tc main_v63)) (V (Proc.devRef .tc main_arg14)) (V (Proc.devRef .tc main_arg15)) := by
  after_reads_simp
  rw [hz]
  refine convT_ref _ _ _ ⟨rfl, rfl, rfl, rfl, rfl, rfl, rfl⟩ ⟨rfl, rfl, rfl, rfl, rfl, rfl, rfl⟩ ⟨rfl, rfl, rfl, rfl, rfl, rfl⟩ _ _ _ _ _ _ _ _ (fun n r s c => ?_) (fun i => start1 i.val (by omega)) (fun i => by omega) (fun i => by omega)
    (fun c o kh kw => ?_) (fun n i j o => by pointwise []) (fun y => by pointwise [])
  · exact pad_dil _ _ _ _ zero_first n r s c
  · exact congrArg (V (Proc.devRef .tc main_arg14) : S128x128x4x4.Idx → EReal) (funext fun a => by match a with | ⟨0, _⟩ => rfl | ⟨1, _⟩ => rfl | ⟨2, _⟩ => rfl | ⟨3, _⟩ => rfl)

/-- The third transposed convolution. -/
theorem stage8 (hz : V (Proc.devRef .tc main_cst) = constant (F := Ideal) S_ FTy.f32 0#32) : after (ops8 (F := Ideal)) V (Proc.devRef .tc main_v83)
    = convTS 224 224 (V (Proc.devRef .tc main_v73)) (V (Proc.devRef .tc main_arg16)) (V (Proc.devRef .tc main_arg17)) := by
  after_reads_simp
  rw [hz]
  refine convT_ref _ _ _ ⟨rfl, rfl, rfl, rfl, rfl, rfl, rfl⟩ ⟨rfl, rfl, rfl, rfl, rfl, rfl, rfl⟩ ⟨rfl, rfl, rfl, rfl, rfl, rfl⟩ _ _ _ _ _ _ _ _ (fun n r s c => ?_) (fun i => start1 i.val (by omega)) (fun i => by omega) (fun i => by omega)
    (fun c o kh kw => ?_) (fun n i j o => by pointwise []) (fun y => by pointwise [])
  · exact pad_dil _ _ _ _ zero_first n r s c
  · exact congrArg (V (Proc.devRef .tc main_arg16) : S128x128x4x4.Idx → EReal) (funext fun a => by match a with | ⟨0, _⟩ => rfl | ⟨1, _⟩ => rfl | ⟨2, _⟩ => rfl | ⟨3, _⟩ => rfl)

end Cert.Own.Ref
end
-- ==== Proof.RefTail.lean ====
/- What the remaining stages of the reference leave: the one-by-one convolutions, the nearest codebook row, the results. -/
module

public import proofs.«01_k».proof.Proof.RefLine
public import proofs.«01_k».proof.Proof.RefOps
public import proofs.«01_k».proof.Proof.Vq
public import Idealize.ShloMosaic.Lib.StableHlo.RunRead
public import Idealize.ShloMosaic.Lib.StableHlo.Predicate

@[expose] public section

set_option maxRecDepth 16384

noncomputable section

namespace Cert.Own.Ref

open Idealize.ShloMosaic Idealize.ShloMosaic.TcCoe Idealize.SL.Sem Idealize.ShloMosaic.StableHlo
open Cert.ReferenceIdeal Cert.ReferenceIdeal.Facts₀

variable (V : Valuation τ sig (Elt Ideal))

/-- The latent: a one-by-one convolution. -/
theorem stage3 : after (ops3 (F := Ideal)) V (Proc.devRef .tc main_v34)
    = dense (V (Proc.devRef .tc main_v30)) (V (Proc.devRef .tc main_arg7)) (V (Proc.devRef .tc main_arg8)) := by
  after_reads_simp
  funext y
  idx_vars y
  unfold dense
  pointwise []

/-- The first decoder layer: a one-by-one convolution. -/
theorem stage5 : after (ops5 (F := Ideal)) V (Proc.devRef .tc main_v53)
    = dense (V (Proc.devRef .tc main_v49)) (V (Proc.devRef .tc main_arg10)) (V (Proc.devRef .tc main_arg11)) := by
  after_reads_simp
  funext y
  idx_vars y
  unfold dense
  pointwise []

/-- The decoded image. -/
theorem stage9 : after (ops9 (F := Ideal)) V (Proc.devRef .tc main_v93)
    = nchw (fun y => Idealize.ShloMosaic.Ideal.logistic (dense (V (Proc.devRef .tc main_v83)) (V (Proc.devRef .tc main_arg18)) (V (Proc.devRef .tc main_arg19)) y)) := by
  after_reads_simp
  funext y
  idx_vars y
  unfold nchw dense
  pointwise [Idealize.ShloMosaic.Ideal.logistic]

/-- The latent with its channels second. -/
theorem stage9a : after (ops9 (F := Ideal)) V (Proc.devRef .tc main_v94) = nchw (V (Proc.devRef .tc main_v34)) := by
  after_reads_simp
  funext y
  idx_vars y
  unfold nchw
  pointwise []

/-- The codes with their channels second. -/
theorem stage9b : after (ops9 (F := Ideal)) V (Proc.devRef .tc main_v95) = nchw (V (Proc.devRef .tc main_v47)) := by
  after_reads_simp
  funext y
  idx_vars y
  unfold nchw
  pointwise []

end Cert.Own.Ref
end
-- ==== Proof.RefPick.lean ====
/- The reference's codes: at every pixel the codebook row nearest to the latent. -/
module

public import proofs.«01_k».proof.Proof.RefLine
public import proofs.«01_k».proof.Proof.RefOps
public import proofs.«01_k».proof.Proof.Vq
public import Idealize.ShloMosaic.Lib.StableHlo.RunRead
public import Idealize.ShloMosaic.Lib.StableHlo.Predicate

@[expose] public section

set_option maxRecDepth 16384

noncomputable section

namespace Cert.Own.Ref

open Idealize.ShloMosaic Idealize.ShloMosaic.TcCoe Idealize.SL.Sem Idealize.ShloMosaic.StableHlo
open Cert.ReferenceIdeal Cert.ReferenceIdeal.Facts₀

variable (V : Valuation τ sig (Elt Ideal))

/-- The reduction over the last axis reads the fiber of its index. -/
theorem drop_ix4 (h : S2x28x28x128.ReducesTo [3] S2x28x28) (n : Fin 2) (i j : Fin 28) (l : Fin 128) : h.drop (ix4 n i j l) = ix3 n i j := by
  funext a
  match a with
  | ⟨0, _⟩ => rfl
  | ⟨1, _⟩ => rfl
  | ⟨2, _⟩ => rfl

/-- The index of the smallest entry along the last axis. -/
theorem argmin_pick (D : FVec Ideal S2x28x28x128 .f32) (n : Fin 2) (i j : Fin 28) (k : Fin 128)
    (h : IsPick (fun l => D (ix4 n i j l)) k) :
    (Host.argReduce reducer_argmin_f32_i32 D (iotaInDim S2x28x28x128 32 3) (constant (F := Ideal) S_ .f32 0x7F800000#32) (constantI S_ 32 0#32)
      reducesTo_S2x28x28x128_S2x28x28_d3 h_S_ (ix3 n i j)).2 = BitVec.ofNat 32 k.val := by
  rw [Idealize.ShloMosaic.Ideal.argReduce_eq_reduce2, Host.reduce2_eq_foldl_fiber]
  have ht : ((constant (F := Ideal) S_ .f32 0x7F800000#32) (Shape.Idx.first h_S_), (constantI S_ 32 0#32) (Shape.Idx.first h_S_)) = ((⊤ : EReal), 0#32) := by
    refine Prod.ext ?_ rfl
    show (Idealize.ShloMosaic.Ideal.ofBits .f32 2139095040#32 : EReal) = ⊤
    simp [Idealize.ShloMosaic.Ideal.ofBits, Idealize.ShloMosaic.Ideal.ieee]
  rw [ht]
  refine foldl_pick _ k h _ fun p => ?_
  unfold Host.argReduceFiber
  rw [List.mem_map]
  constructor
  · rintro ⟨m, hm, rfl⟩
    have hm := of_decide_eq_true (List.mem_filter.1 hm).2
    generalize S2x28x28x128.rowMajor.symm m = y at hm ⊢
    idx_vars y
    rw [drop_ix4] at hm
    obtain rfl : y0 = n := congrFun hm 0
    obtain rfl : y1 = i := congrFun hm 1
    obtain rfl : y2 = j := congrFun hm 2
    exact ⟨y3, rfl⟩
  · rintro ⟨l, rfl⟩
    refine ⟨S2x28x28x128.rowMajor (ix4 n i j l), List.mem_filter.2 ⟨List.mem_finRange _, decide_eq_true ?_⟩, ?_⟩
    · rw [Equiv.symm_apply_apply]
      exact drop_ix4 _ _ _ _ _
    · rw [Equiv.symm_apply_apply]
      rfl

/-- A row of a table, at an entry. -/
theorem gather_take (d : GatherDims S128x128 S2x28x28x1 S2x28x28x128) (h1 : d.offsetDims = [3])
    (h2 : d.collapsedSliceDims = [0]) (h3 : d.operandBatchingDims = []) (h4 : d.startIndicesBatchingDims = []) (h5 : d.startIndexMap = [0])
    (h6 : d.indexVectorDim = 3) (h7 : d.sliceSizes = ![1, 128]) (x : S128x128.Idx → EReal) (idx : IVec S2x28x28x1 32)
    (n : Fin 2) (i j : Fin 28) (o k : Fin 128) (hq : (idx (ix4 n i j 0)) = BitVec.ofNat 32 k.val) :
    Host.gather d x idx (ix4 n i j o) = x (ix2 k o) := by
  obtain ⟨e1, e2, e3, e4, e5, e6, e7, wf⟩ := d
  dsimp only at h1 h2 h3 h4 h5 h6 h7
  subst h1 h2 h3 h4 h5 h6 h7
  refine congrArg x (funext fun a => Fin.ext ?_)
  match a with
  | ⟨0, _⟩ =>
    show min (idx _).toInt.toNat (128 - 1) + 0 + 0 = k.val
    rw [show ∀ y, y = ix4 n i j 0 → min (idx y).toInt.toNat (128 - 1) + 0 + 0 = k.val from fun y hy => by
      have := k.isLt
      rw [hy, hq, StableHlo.Predicate.toInt_ofNat_small _ (by omega)]; omega]
    funext b
    match b with
    | ⟨0, _⟩ => rfl
    | ⟨1, _⟩ => rfl
    | ⟨2, _⟩ => rfl
    | ⟨3, _⟩ => rfl
  | ⟨1, _⟩ => exact (Nat.zero_add _).trans rfl

/-- An array over the pixels, given one more axis of length one. -/
theorem bcast_pix (f : IVec S2x28x28 32) (n : Fin 2) (i j : Fin 28) :
    broadcastInDim S2x28x28x1 ![0, 1, 2] bcast_S2x28x28_S2x28x28x1_0_1_2 f (ix4 n i j 0) = f (ix3 n i j) := by
  refine congrArg f (funext fun b => ?_)
  match b with
  | ⟨0, _⟩ => rfl
  | ⟨1, _⟩ => rfl
  | ⟨2, _⟩ => rfl

/-- The distances the reference compares. -/
theorem stage4d (n : Fin 2) (i j : Fin 28) (l : Fin 128) : after (ops4 (F := Ideal)) V (Proc.devRef .tc main_v45) (ix4 n i j l)
    = vqDist (fun x => V (Proc.devRef .tc main_v34) (ix4 n i j x)) (V (Proc.devRef .tc main_arg9)) l := by
  after_reads_simp
  unfold vqDist two32
  pointwise []

/-- The codes are the codebook rows at the indices of the smallest distances. -/
theorem stage4g : after (ops4 (F := Ideal)) V (Proc.devRef .tc main_v47)
    = Host.gather gather_S128x128_S2x28x28x1_S2x28x28x128_3_0_n_n_0_3_1128 (V (Proc.devRef .tc main_arg9))
        (broadcastInDim S2x28x28x1 ![0, 1, 2] bcast_S2x28x28_S2x28x28x1_0_1_2 (fun j => (Host.argReduce reducer_argmin_f32_i32 (after (ops4 (F := Ideal)) V (Proc.devRef .tc main_v45)) (iotaInDim S2x28x28x128 32 3) (constant (F := Ideal) S_ .f32 0x7F800000#32) (constantI S_ 32 0#32)
      reducesTo_S2x28x28x128_S2x28x28_d3 h_S_ j).2 : IVec S2x28x28 32)) := by
  after_reads_simp
  rfl

/-- The codes: the codebook row nearest to the latent. -/
theorem stage4 (n : Fin 2) (i j : Fin 28) (o k : Fin 128)
    (h : IsPick (vqDist (fun x => V (Proc.devRef .tc main_v34) (ix4 n i j x)) (V (Proc.devRef .tc main_arg9))) k) :
    after (ops4 (F := Ideal)) V (Proc.devRef .tc main_v47) (ix4 n i j o) = V (Proc.devRef .tc main_arg9) (ix2 k o) := by
  rw [stage4g]
  have hd := fun l => stage4d V n i j l
  generalize after (ops4 (F := Ideal)) V (Proc.devRef .tc main_v45) = D at hd ⊢
  refine gather_take _ rfl rfl rfl rfl rfl rfl rfl _ _ n i j o k ?_
  have hp : IsPick (fun l => D (ix4 n i j l)) k := by
    rw [show (fun l => D (ix4 n i j l)) = _ from funext hd]
    exact h
  exact (bcast_pix _ n i j).trans (argmin_pick D n i j k hp)

/-- The straight-through sum. -/
theorem stage4a : after (ops4 (F := Ideal)) V (Proc.devRef .tc main_v49)
    = addf (F := Ideal) (s := S2x28x28x128) (φ := .f32) (V (Proc.devRef .tc main_v34)) (subf (F := Ideal) (s := S2x28x28x128) (φ := .f32) (after (ops4 (F := Ideal)) V (Proc.devRef .tc main_v47)) (V (Proc.devRef .tc main_v34))) := by
  after_reads_simp

end Cert.Own.Ref
end
-- ==== Proof.RefRun.lean ====
/- The reference's run: its three results as arrays of its arguments. -/
module

public import proofs.«01_k».proof.Proof.RefStage
public import proofs.«01_k».proof.Proof.RefTail
public import proofs.«01_k».proof.Proof.RefPick
public import proofs.«01_k».proof.Proof.Net
public import Idealize.ShloMosaic.Lib.Pipeline.Frame

@[expose] public section

set_option maxRecDepth 16384

noncomputable section

namespace Cert.Own.Ref

open Idealize.ShloMosaic Idealize.ShloMosaic.TcCoe Idealize.SL.Sem Idealize.ShloMosaic.StableHlo
open Cert.ReferenceIdeal Cert.ReferenceIdeal.Facts₀

/-- The buffers stage 0 writes. -/
abbrev wr0 : List (Ref sig .tc) := [main_cst, main_v0, main_v1, main_v2, main_v3, main_v4, main_v5, main_v6, main_v7, main_v8, main_v9, main_v10]

/-- Stage 0 writes no other buffer. -/
theorem keep0 (V : Valuation τ sig (Elt Ideal)) (r : Ref sig .tc) (h : r ∉ wr0) : after (ops0 (F := Ideal)) V (Proc.devRef .tc r) = V (Proc.devRef .tc r) :=
  after_of_writes_sub _ _ (forall_writes_sub_of_map rfl) h

/-- The buffers stage 1 writes. -/
abbrev wr1 : List (Ref sig .tc) := [main_v11, main_v12, main_v13, main_v14, main_v15, main_v16, main_v17, main_v18, main_v19, main_v20]

/-- Stage 1 writes no other buffer. -/
theorem keep1 (V : Valuation τ sig (Elt Ideal)) (r : Ref sig .tc) (h : r ∉ wr1) : after (ops1 (F := Ideal)) V (Proc.devRef .tc r) = V (Proc.devRef .tc r) :=
  after_of_writes_sub _ _ (forall_writes_sub_of_map rfl) h

/-- The buffers stage 2 writes. -/
abbrev wr2 : List (Ref sig .tc) := [main_v21, main_v22, main_v23, main_v24, main_v25, main_v26, main_v27, main_v28, main_v29, main_v30]

/-- Stage 2 writes no other buffer. -/
theorem keep2 (V : Valuation τ sig (Elt Ideal)) (r : Ref sig .tc) (h : r ∉ wr2) : after (ops2 (F := Ideal)) V (Proc.devRef .tc r) = V (Proc.devRef .tc r) :=
  after_of_writes_sub _ _ (forall_writes_sub_of_map rfl) h

/-- The buffers stage 3 writes. -/
abbrev wr3 : List (Ref sig .tc) := [main_v31, main_v32, main_v33, main_v34]

/-- Stage 3 writes no other buffer. -/
theorem keep3 (V : Valuation τ sig (Elt Ideal)) (r : Ref sig .tc) (h : r ∉ wr3) : after (ops3 (F := Ideal)) V (Proc.devRef .tc r) = V (Proc.devRef .tc r) :=
  after_of_writes_sub _ _ (forall_writes_sub_of_map rfl) h

/-- The buffers stage 4 writes. -/
abbrev wr4 : List (Ref sig .tc) := [main_v35, main_cst_0, main_v36, main_v37, main_v38, main_cst_1, main_v39, main_v40, main_v41, main_v42, main_cst_2, main_v43, main_v44, main_v45, main_call0_v0, main_call0_cst, main_call0_c, main_call0_v1_0, main_v46, main_call1_v0, main_v47, main_v48, main_v49]

/-- Stage 4 writes no other buffer. -/
theorem keep4 (V : Valuation τ sig (Elt Ideal)) (r : Ref sig .tc) (h : r ∉ wr4) : after (ops4 (F := Ideal)) V (Proc.devRef .tc r) = V (Proc.devRef .tc r) :=
  after_of_writes_sub _ _ (forall_writes_sub_of_map rfl) h

/-- The buffers stage 5 writes. -/
abbrev wr5 : List (Ref sig .tc) := [main_v50, main_v51, main_v52, main_v53]

/-- Stage 5 writes no other buffer. -/
theorem keep5 (V : Valuation τ sig (Elt Ideal)) (r : Ref sig .tc) (h : r ∉ wr5) : after (ops5 (F := Ideal)) V (Proc.devRef .tc r) = V (Proc.devRef .tc r) :=
  after_of_writes_sub _ _ (forall_writes_sub_of_map rfl) h

/-- The buffers stage 6 writes. -/
abbrev wr6 : List (Ref sig .tc) := [main_v54, main_v55, main_v56, main_v57, main_v58, main_v59, main_v60, main_v61, main_v62, main_v63]

/-- Stage 6 writes no other buffer. -/
theorem keep6 (V : Valuation τ sig (Elt Ideal)) (r : Ref sig .tc) (h : r ∉ wr6) : after (ops6 (F := Ideal)) V (Proc.devRef .tc r) = V (Proc.devRef .tc r) :=
  after_of_writes_sub _ _ (forall_writes_sub_of_map rfl) h

/-- The buffers stage 7 writes. -/
abbrev wr7 : List (Ref sig .tc) := [main_v64, main_v65, main_v66, main_v67, main_v68, main_v69, main_v70, main_v71, main_v72, main_v73]

/-- Stage 7 writes no other buffer. -/
theorem keep7 (V : Valuation τ sig (Elt Ideal)) (r : Ref sig .tc) (h : r ∉ wr7) : after (ops7 (F := Ideal)) V (Proc.devRef .tc r) = V (Proc.devRef .tc r) :=
  after_of_writes_sub _ _ (forall_writes_sub_of_map rfl) h

/-- The buffers stage 8 writes. -/
abbrev wr8 : List (Ref sig .tc) := [main_v74, main_v75, main_v76, main_v77, main_v78, main_v79, main_v80, main_v81, main_v82, main_v83]

/-- Stage 8 writes no other buffer. -/
theorem keep8 (V : Valuation τ sig (Elt Ideal)) (r : Ref sig .tc) (h : r ∉ wr8) : after (ops8 (F := Ideal)) V (Proc.devRef .tc r) = V (Proc.devRef .tc r) :=
  after_of_writes_sub _ _ (forall_writes_sub_of_map rfl) h

/-- The buffers stage 9 writes. -/
abbrev wr9 : List (Ref sig .tc) := [main_v84, main_v85, main_v86, main_v87, main_cst_3, main_v88, main_v89, main_v90, main_v91, main_v92, main_v93, main_v94, main_v95]

/-- Stage 9 writes no other buffer. -/
theorem keep9 (V : Valuation τ sig (Elt Ideal)) (r : Ref sig .tc) (h : r ∉ wr9) : after (ops9 (F := Ideal)) V (Proc.devRef .tc r) = V (Proc.devRef .tc r) :=
  after_of_writes_sub _ _ (forall_writes_sub_of_map rfl) h

variable (V : Valuation τ sig (Elt Ideal))

/-- The buffers after the stages. -/
abbrev U1 : Valuation τ sig (Elt Ideal) := after (ops0 (F := Ideal)) V
/-- The buffers after 2 stages. -/
abbrev U2 : Valuation τ sig (Elt Ideal) := after (ops1 (F := Ideal)) (U1 V)
/-- The buffers after 3 stages. -/
abbrev U3 : Valuation τ sig (Elt Ideal) := after (ops2 (F := Ideal)) (U2 V)
/-- The buffers after 4 stages. -/
abbrev U4 : Valuation τ sig (Elt Ideal) := after (ops3 (F := Ideal)) (U3 V)
/-- The buffers after 5 stages. -/
abbrev U5 : Valuation τ sig (Elt Ideal) := after (ops4 (F := Ideal)) (U4 V)
/-- The buffers after 6 stages. -/
abbrev U6 : Valuation τ sig (Elt Ideal) := after (ops5 (F := Ideal)) (U5 V)
/-- The buffers after 7 stages. -/
abbrev U7 : Valuation τ sig (Elt Ideal) := after (ops6 (F := Ideal)) (U6 V)
/-- The buffers after 8 stages. -/
abbrev U8 : Valuation τ sig (Elt Ideal) := after (ops7 (F := Ideal)) (U7 V)
/-- The buffers after 9 stages. -/
abbrev U9 : Valuation τ sig (Elt Ideal) := after (ops8 (F := Ideal)) (U8 V)
/-- The buffers after 10 stages. -/
abbrev U10 : Valuation τ sig (Elt Ideal) := after (ops9 (F := Ideal)) (U9 V)

/-- A buffer none of the stages writes keeps its contents through them. -/
theorem keepAll (r : Ref sig .tc) (h : r ∉ wr0 ++ wr1 ++ wr2 ++ wr3 ++ wr4 ++ wr5 ++ wr6 ++ wr7 ++ wr8 ++ wr9) :
    (U1 V (Proc.devRef .tc r) = V (Proc.devRef .tc r) ∧ U2 V (Proc.devRef .tc r) = V (Proc.devRef .tc r) ∧ U3 V (Proc.devRef .tc r) = V (Proc.devRef .tc r)
      ∧ U4 V (Proc.devRef .tc r) = V (Proc.devRef .tc r) ∧ U5 V (Proc.devRef .tc r) = V (Proc.devRef .tc r)) ∧ (U6 V (Proc.devRef .tc r) = V (Proc.devRef .tc r)
      ∧ U7 V (Proc.devRef .tc r) = V (Proc.devRef .tc r) ∧ U8 V (Proc.devRef .tc r) = V (Proc.devRef .tc r) ∧ U9 V (Proc.devRef .tc r) = V (Proc.devRef .tc r)
      ∧ U10 V (Proc.devRef .tc r) = V (Proc.devRef .tc r)) := by
  simp only [List.mem_append, not_or] at h
  obtain ⟨⟨⟨⟨⟨⟨⟨⟨⟨h0, h1⟩, h2⟩, h3⟩, h4⟩, h5⟩, h6⟩, h7⟩, h8⟩, h9⟩ := h
  have k1 := keep0 V r h0
  have k2 := (keep1 (U1 V) r h1).trans k1
  have k3 := (keep2 (U2 V) r h2).trans k2
  have k4 := (keep3 (U3 V) r h3).trans k3
  have k5 := (keep4 (U4 V) r h4).trans k4
  have k6 := (keep5 (U5 V) r h5).trans k5
  have k7 := (keep6 (U6 V) r h6).trans k6
  have k8 := (keep7 (U7 V) r h7).trans k7
  have k9 := (keep8 (U8 V) r h8).trans k8
  have k10 := (keep9 (U9 V) r h9).trans k9
  exact ⟨⟨k1, k2, k3, k4, k5⟩, k6, k7, k8, k9, k10⟩

/-- The first stage leaves the zero constant. -/
theorem zero0 : U1 V (Proc.devRef .tc main_cst) = constant (F := Ideal) S_ FTy.f32 0#32 := by
  after_reads_simp

/-- The latent the reference computes. -/
theorem ref_latent : U4 V (Proc.devRef .tc main_v34) = latent (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have z1 := zero0 V
  have z2 := (keep1 (U1 V) main_cst (by decide +kernel)).trans z1
  have e := stage3 (U3 V)
  have e2 : U3 V (Proc.devRef .tc main_v30) = _ := stage2 (U2 V) z2
  have e1 : U2 V (Proc.devRef .tc main_v20) = _ := stage1 (U1 V) z1
  have e0 : U1 V (Proc.devRef .tc main_v10) = _ := stage0 V
  rw [e2, e1, e0] at e
  refine e.trans ?_
  rw [(keepAll V main_arg3 (by decide +kernel)).1.1, (keepAll V main_arg4 (by decide +kernel)).1.1, (keepAll V main_arg5 (by decide +kernel)).1.2.1, (keepAll V main_arg6 (by decide +kernel)).1.2.1,
    (keepAll V main_arg7 (by decide +kernel)).1.2.2.1, (keepAll V main_arg8 (by decide +kernel)).1.2.2.1]
  rfl

/-- The codes the reference computes. -/
theorem ref_codes : U5 V (Proc.devRef .tc main_v47) = codesOf (U4 V (Proc.devRef .tc main_v34)) (V (Proc.devRef .tc main_arg9)) := by
  funext y
  idx_vars y
  have h := pickOf_spec (U4 V (Proc.devRef .tc main_v34)) (V (Proc.devRef .tc main_arg9)) y0 y1 y2
  have k := (keepAll V main_arg9 (by decide +kernel)).1.2.2.2.1
  rw [← k] at h ⊢
  exact stage4 (U4 V) y0 y1 y2 y3 _ h

/-- The image the reference computes, when the latent is finite. -/
theorem ref_image (hf : ∀ y : S2x28x28x128.Idx, @Ne EReal (U4 V (Proc.devRef .tc main_v34) y) ⊤ ∧ @Ne EReal (U4 V (Proc.devRef .tc main_v34) y) ⊥) :
    U10 V (Proc.devRef .tc main_v93) = nchw (decoded (U5 V (Proc.devRef .tc main_v47)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19))) := by
  have z1 := zero0 V
  have z2 := (keep1 (U1 V) main_cst (by decide +kernel)).trans z1
  have z3 := (keep2 (U2 V) main_cst (by decide +kernel)).trans z2
  have z4 := (keep3 (U3 V) main_cst (by decide +kernel)).trans z3
  have z5 := (keep4 (U4 V) main_cst (by decide +kernel)).trans z4
  have z6 := (keep5 (U5 V) main_cst (by decide +kernel)).trans z5
  have z7 := (keep6 (U6 V) main_cst (by decide +kernel)).trans z6
  have z8 := (keep7 (U7 V) main_cst (by decide +kernel)).trans z7
  have s : U5 V (Proc.devRef .tc main_v49) = U5 V (Proc.devRef .tc main_v47) := by
    refine (stage4a (U4 V)).trans (funext fun y => ?_)
    exact straight _ _ (hf y).1 (hf y).2
  have e := stage9 (U9 V)
  have e8 : U9 V (Proc.devRef .tc main_v83) = _ := stage8 (U8 V) z8
  have e7 : U8 V (Proc.devRef .tc main_v73) = _ := stage7 (U7 V) z7
  have e6 : U7 V (Proc.devRef .tc main_v63) = _ := stage6 (U6 V) z6
  have e5 : U6 V (Proc.devRef .tc main_v53) = _ := stage5 (U5 V)
  rw [e8, e7, e6, e5, s] at e
  refine e.trans ?_
  rw [(keepAll V main_arg10 (by decide +kernel)).1.2.2.2.2, (keepAll V main_arg11 (by decide +kernel)).1.2.2.2.2, (keepAll V main_arg12 (by decide +kernel)).2.1, (keepAll V main_arg13 (by decide +kernel)).2.1,
    (keepAll V main_arg14 (by decide +kernel)).2.2.1, (keepAll V main_arg15 (by decide +kernel)).2.2.1, (keepAll V main_arg16 (by decide +kernel)).2.2.2.1, (keepAll V main_arg17 (by decide +kernel)).2.2.2.1,
    (keepAll V main_arg18 (by decide +kernel)).2.2.2.2.1, (keepAll V main_arg19 (by decide +kernel)).2.2.2.2.1]
  rfl

/-- The latent among the results. -/
theorem ref_res1 : U10 V (Proc.devRef .tc main_v94) = nchw (U4 V (Proc.devRef .tc main_v34)) := by
  refine (stage9a (U9 V)).trans ?_
  exact congrArg (fun x => nchw x) ((keep8 (U8 V) main_v34 (by decide +kernel)).trans ((keep7 (U7 V) main_v34 (by decide +kernel)).trans ((keep6 (U6 V) main_v34 (by decide +kernel)).trans ((keep5 (U5 V) main_v34 (by decide +kernel)).trans ((keep4 (U4 V) main_v34 (by decide +kernel)))))))

/-- The codes among the results. -/
theorem ref_res2 : U10 V (Proc.devRef .tc main_v95) = nchw (U5 V (Proc.devRef .tc main_v47)) := by
  refine (stage9b (U9 V)).trans ?_
  exact congrArg (fun x => nchw x) ((keep8 (U8 V) main_v47 (by decide +kernel)).trans ((keep7 (U7 V) main_v47 (by decide +kernel)).trans ((keep6 (U6 V) main_v47 (by decide +kernel)).trans ((keep5 (U5 V) main_v47 (by decide +kernel))))))

/-- The reference's operations, in the order it runs them. -/
abbrev opsAll : List (HloOp τ sig (Elt Ideal)) :=
  ops0 ++ (ops1 ++ (ops2 ++ (ops3 ++ (ops4 ++ (ops5 ++ (ops6 ++ (ops7 ++ (ops8 ++ ops9))))))))

/-- The buffers after all the operations are those after the ten stages. -/
theorem after_all : after opsAll V = U10 V := by
  simp only [opsAll, after_append]

set_option maxHeartbeats 2000000 in
/-- The reference's run leaves in every buffer what its operations leave. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = U10 (launchContents m d) (Proc.devRef .tc b) := by
  have h := StableHlo.run_hlo (ops := opsAll) (defs (F := Ideal)) (main (F := Ideal)) (by hlo_seq) (by decide) (by decide) (by simp) (by intro _ h; (repeat (cases h with | head => rfl | tail _ h => ?_)); exact nomatch h) m ρ
  simp only [after_all] at h
  exact h

end Cert.Own.Ref
end
-- ==== Proof.KerRun.lean ====
/- The kernel's run: every buffer ends with the contents the fold through the program gives it. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The kernel runs to the end and leaves in every unscoped buffer the contents of the last boundary. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = W43 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W43 m ρ c b)
    (hfin := fun c s' => by
      iintro ⟨⟨Hh, -⟩, HSI⟩
      unfold StableHlo.held
      imodintro
      iapply (pointsTo_read_all (Pipeline.ucRefs τ sig) (fun b => (((c : Thread nD τ)).1, b)) (W43 m ρ c) s')
      isplitl [Hh] <;> iassumption)
    (hQ := fun s h hz => h)

end Cert.KernelIdeal.Gen
end
-- ==== Proof.ConvMath.lean ====
/- The kernel's arrangements of a convolution with stride two and of its transpose compute those convolutions. -/
module

public import proofs.«01_k».proof.Proof.Spec

@[expose] public section

set_option maxRecDepth 16384

noncomputable section

namespace Cert.Own

open Idealize.ShloMosaic Idealize.ShloMosaic.TcCoe Idealize.SL.Sem

/-- The sixteen taps read from the four planes of the bordered array are the convolution. -/
theorem conv16_conv {N H W P Q P' Q' : ℕ} (hP : P' = P + 1) (hQ : Q' = Q + 1)
    (A B C D : (⟨4, ![N, P', Q', 128]⟩ : Shape).Idx → EReal) (x : (⟨4, ![N, H, W, 128]⟩ : Shape).Idx → EReal)
    (wm : (⟨2, ![2048, 128]⟩ : Shape).Idx → EReal) (bm : (⟨2, ![1, 128]⟩ : Shape).Idx → EReal)
    (w : (⟨4, ![128, 128, 4, 4]⟩ : Shape).Idx → EReal) (b : (⟨1, ![128]⟩ : Shape).Idx → EReal)
    (hA : ∀ n i j c, A (ix4 n i j c) = pad1 x n (2 * i.val + 0) (2 * j.val + 0) c) (hB : ∀ n i j c, B (ix4 n i j c) = pad1 x n (2 * i.val + 0) (2 * j.val + 1) c)
    (hC : ∀ n i j c, C (ix4 n i j c) = pad1 x n (2 * i.val + 1) (2 * j.val + 0) c) (hD : ∀ n i j c, D (ix4 n i j c) = pad1 x n (2 * i.val + 1) (2 * j.val + 1) c)
    (hw : ∀ (kh kw : Fin 4) (c o : Fin 128), wm (ix2 ⟨(kh.val * 4 + kw.val) * 128 + c.val, by omega⟩ o) = w (ix4 o c kh kw))
    (hb : ∀ o, bm (ix2 0 o) = b (ix1 o)) : (conv16G A B C D wm bm : (⟨4, ![N, P, Q, 128]⟩ : Shape).Idx → EReal) = convS P Q x w b := by
  subst hP hQ
  funext y
  obtain ⟨y0, y1, y2, y3, rfl⟩ : ∃ n i j o, y = ix4 n i j o := ⟨_, _, _, _, eq_ix4 y⟩
  have tap : ∀ (E : (⟨4, ![N, P + 1, Q + 1, 128]⟩ : Shape).Idx → EReal) (a e : ℕ) (hE : ∀ n i j c, E (ix4 n i j c) = pad1 x n (2 * i.val + a) (2 * j.val + e) c)
      (u v : ℕ) (hu : u < 2) (hv : v < 2) (kh kw : Fin 4) (h1 : kh.val = 2 * u + a) (h2 : kw.val = 2 * v + e)
      (q : Fin 128 → ℕ) (hq : ∀ c, q c < 2048) (hq' : ∀ c, q c = (kh.val * 4 + kw.val) * 128 + c.val),
      (∑ c : Fin 128, at4 E y0 (y1.val + u) (y2.val + v) c * wm (ix2 ⟨q c, hq c⟩ y3))
        = ∑ c : Fin 128, pad1 x y0 (2 * y1.val + kh.val) (2 * y2.val + kw.val) c * w (ix4 y3 c kh kw) := by
    intro E a e hE u v hu hv kh kw h1 h2 q hq hq'
    refine Finset.sum_congr rfl fun c _ => ?_
    have := y1.isLt
    have := y2.isLt
    rw [at4_lt E y0 _ _ c (by omega) (by omega), hE, ← hw]
    have e1 : 2 * (y1.val + u) + a = 2 * y1.val + kh.val := by omega
    have e2 : 2 * (y2.val + v) + e = 2 * y2.val + kw.val := by omega
    have e3 : (⟨q c, hq c⟩ : Fin 2048) = ⟨(kh.val * 4 + kw.val) * 128 + c.val, by omega⟩ := Fin.ext (hq' c)
    rw [e3]
    show pad1 x y0 (2 * (y1.val + u) + a) (2 * (y2.val + v) + e) c * _ = _
    rw [e1, e2]
  show conv16 A B C D wm bm y0 y1.val y2.val y3 = convAt x w b y0 y1.val y2.val y3
  unfold conv16 convAt tapPair
  rw [hb]
  rw [tap A 0 0 hA 0 0 (by omega) (by omega) 0 0 rfl rfl _ _ (fun c => by simp), tap B 0 1 hB 0 0 (by omega) (by omega) 0 1 rfl rfl _ _ (fun c => by simp <;> omega),
    tap A 0 0 hA 0 1 (by omega) (by omega) 0 2 rfl rfl _ _ (fun c => by simp), tap B 0 1 hB 0 1 (by omega) (by omega) 0 3 rfl rfl _ _ (fun c => by simp <;> omega),
    tap C 1 0 hC 0 0 (by omega) (by omega) 1 0 rfl rfl _ _ (fun c => by simp), tap D 1 1 hD 0 0 (by omega) (by omega) 1 1 rfl rfl _ _ (fun c => by simp <;> omega),
    tap C 1 0 hC 0 1 (by omega) (by omega) 1 2 rfl rfl _ _ (fun c => by simp), tap D 1 1 hD 0 1 (by omega) (by omega) 1 3 rfl rfl _ _ (fun c => by simp <;> omega),
    tap A 0 0 hA 1 0 (by omega) (by omega) 2 0 rfl rfl _ _ (fun c => by simp), tap B 0 1 hB 1 0 (by omega) (by omega) 2 1 rfl rfl _ _ (fun c => by simp <;> omega),
    tap A 0 0 hA 1 1 (by omega) (by omega) 2 2 rfl rfl _ _ (fun c => by simp), tap B 0 1 hB 1 1 (by omega) (by omega) 2 3 rfl rfl _ _ (fun c => by simp <;> omega),
    tap C 1 0 hC 1 0 (by omega) (by omega) 3 0 rfl rfl _ _ (fun c => by simp), tap D 1 1 hD 1 0 (by omega) (by omega) 3 1 rfl rfl _ _ (fun c => by simp <;> omega),
    tap C 1 0 hC 1 1 (by omega) (by omega) 3 2 rfl rfl _ _ (fun c => by simp), tap D 1 1 hD 1 1 (by omega) (by omega) 3 3 rfl rfl _ _ (fun c => by simp <;> omega)]
  simp only [Fin.sum_univ_four, add_assoc]

/-- The rows of the zero-extended weights each phase takes: row 4 is the zero one. -/
def tapRow (u : Fin 3) (a : Fin 2) : Fin 5 := (![![3, 4], ![1, 2], ![4, 0]] : Fin 3 → Fin 2 → Fin 5) u a

/-- The weights with a fifth row and column of zeros. -/
def wz (w : (⟨4, ![128, 128, 4, 4]⟩ : Shape).Idx → EReal) (p q : Fin 5) (c o : Fin 128) : EReal :=
  if h : p.val < 4 ∧ q.val < 4 then w (ix4 c o ⟨p.val, h.1⟩ ⟨q.val, h.2⟩) else 0

/-- Nine taps over the bordered array, phase by phase, are the transposed convolution. -/
theorem conv9_convT {N H W P Q H' W' : ℕ} (hH : H' = H + 2) (hW : W' = W + 2) (hP : P = 2 * H) (hQ : Q = 2 * W)
    (hp : (⟨4, ![N, H', W', 128]⟩ : Shape).Idx → EReal) (x : (⟨4, ![N, H, W, 128]⟩ : Shape).Idx → EReal)
    (wm : (⟨2, ![1152, 512]⟩ : Shape).Idx → EReal) (bm : (⟨2, ![1, 512]⟩ : Shape).Idx → EReal)
    (w : (⟨4, ![128, 128, 4, 4]⟩ : Shape).Idx → EReal) (b : (⟨1, ![128]⟩ : Shape).Idx → EReal) (y : (⟨4, ![N, P, Q, 128]⟩ : Shape).Idx → EReal)
    (hx : ∀ n r s c, hp (ix4 n r s c) = pad1 x n r.val s.val c)
    (hw : ∀ (u v : Fin 3) (c : Fin 128) (a e : Fin 2) (o : Fin 128), wm (ix2 ⟨(u.val * 3 + v.val) * 128 + c.val, by omega⟩ ⟨(2 * a.val + e.val) * 128 + o.val, by omega⟩)
      = wz w (tapRow u a) (tapRow v e) c o)
    (hb : ∀ (a e : Fin 2) (o : Fin 128), bm (ix2 0 ⟨(2 * a.val + e.val) * 128 + o.val, by omega⟩) = b (ix1 o))
    (hy : ∀ (n : Fin N) (i : Fin H) (j : Fin W) (a e : Fin 2) (o : Fin 128), y (ix4 n ⟨2 * i.val + a.val, by omega⟩ ⟨2 * j.val + e.val, by omega⟩ o)
      = conv9 hp wm bm n i.val j.val ⟨(2 * a.val + e.val) * 128 + o.val, by omega⟩) : y = convTS P Q x w b := by
  subst hH hW hP hQ
  funext z
  obtain ⟨z0, z1, z2, z3, rfl⟩ : ∃ n i j o, z = ix4 n i j o := ⟨_, _, _, _, eq_ix4 z⟩
  obtain ⟨p, hpp⟩ := z1
  obtain ⟨q, hqq⟩ := z2
  obtain ⟨i, a, hA, rfl⟩ : ∃ i a, a < 2 ∧ p = 2 * i + a := ⟨p / 2, p % 2, by omega, by omega⟩
  obtain ⟨j, e, hE, rfl⟩ : ∃ j e, e < 2 ∧ q = 2 * j + e := ⟨q / 2, q % 2, by omega, by omega⟩
  have hi : i < H := by omega
  have hj : j < W := by omega
  refine (hy z0 ⟨i, hi⟩ ⟨j, hj⟩ ⟨a, hA⟩ ⟨e, hE⟩ z3).trans ?_
  have tap : ∀ (u v : Fin 3) (k : ℕ) (hk : k + 128 ≤ 1152) (hk' : k = (u.val * 3 + v.val) * 128),
      tap3 hp wm z0 (i + u.val) (j + v.val) ⟨(2 * a + e) * 128 + z3.val, by omega⟩ k hk
        = ∑ c : Fin 128, pad1 x z0 (i + u.val) (j + v.val) c * wz w (tapRow u ⟨a, hA⟩) (tapRow v ⟨e, hE⟩) c z3 := by
    intro u v k hk hk'
    subst hk'
    refine Finset.sum_congr rfl fun c _ => ?_
    rw [at4_lt hp z0 _ _ c (by omega) (by omega), hx]
    exact congrArg _ (hw u v c ⟨a, hA⟩ ⟨e, hE⟩ z3)
  have dz : ∀ kh kw : Fin 4, ((a + kh.val) % 2 = 1 ∨ (e + kw.val) % 2 = 1) →
      (∑ c : Fin 128, dil1 x z0 (2 * i + a + kh.val) (2 * j + e + kw.val) c * w (ix4 c z3 kh.rev kw.rev)) = 0 := by
    intro kh kw h
    refine Finset.sum_eq_zero fun c _ => ?_
    have : dil1 x z0 (2 * i + a + kh.val) (2 * j + e + kw.val) c = 0 := if_neg (by omega)
    rw [this, zero_mul]
  have dk : ∀ (kh kw : Fin 4) (u v : Fin 3), a + kh.val = 2 * u.val → e + kw.val = 2 * v.val → (tapRow u ⟨a, hA⟩).val = kh.rev.val → (tapRow v ⟨e, hE⟩).val = kw.rev.val →
      (∑ c : Fin 128, dil1 x z0 (2 * i + a + kh.val) (2 * j + e + kw.val) c * w (ix4 c z3 kh.rev kw.rev))
        = ∑ c : Fin 128, pad1 x z0 (i + u.val) (j + v.val) c * wz w (tapRow u ⟨a, hA⟩) (tapRow v ⟨e, hE⟩) c z3 := by
    intro kh kw u v h1 h2 h3 h4
    refine Finset.sum_congr rfl fun c _ => ?_
    have d : dil1 x z0 (2 * i + a + kh.val) (2 * j + e + kw.val) c = pad1 x z0 ((2 * i + a + kh.val) / 2) ((2 * j + e + kw.val) / 2) c := if_pos (by omega)
    have f1 : (2 * i + a + kh.val) / 2 = i + u.val := by omega
    have f2 : (2 * j + e + kw.val) / 2 = j + v.val := by omega
    rw [d, f1, f2]
    unfold wz
    rw [dif_pos (by have := kh.rev.isLt; have := kw.rev.isLt; omega)]
    have g1 : (⟨(tapRow u ⟨a, hA⟩).val, by have := kh.rev.isLt; omega⟩ : Fin 4) = kh.rev := Fin.ext h3
    have g2 : (⟨(tapRow v ⟨e, hE⟩).val, by have := kw.rev.isLt; omega⟩ : Fin 4) = kw.rev := Fin.ext h4
    rw [g1, g2]
  have kz : ∀ u v : Fin 3, (tapRow u ⟨a, hA⟩ = 4 ∨ tapRow v ⟨e, hE⟩ = 4) →
      (∑ c : Fin 128, pad1 x z0 (i + u.val) (j + v.val) c * wz w (tapRow u ⟨a, hA⟩) (tapRow v ⟨e, hE⟩) c z3) = 0 := by
    intro u v h
    refine Finset.sum_eq_zero fun c _ => ?_
    have : wz w (tapRow u ⟨a, hA⟩) (tapRow v ⟨e, hE⟩) c z3 = 0 := dif_neg (by
      rintro ⟨g1, g2⟩
      rcases h with h | h
      · rw [h] at g1; exact absurd g1 (by decide)
      · rw [h] at g2; exact absurd g2 (by decide))
    rw [this, mul_zero]
  show conv9 hp wm bm z0 i j ⟨(2 * a + e) * 128 + z3.val, _⟩ = convTAt x w b z0 (2 * i + a) (2 * j + e) z3
  unfold conv9 convTAt
  rw [hb ⟨a, hA⟩ ⟨e, hE⟩ z3]
  rw [show tap3 hp wm z0 (i + 0) (j + 0) _ 0 _ = _ from tap 0 0 0 _ rfl, show tap3 hp wm z0 (i + 0) (j + 1) _ 128 _ = _ from tap 0 1 128 _ rfl,
    show tap3 hp wm z0 (i + 0) (j + 2) _ 256 _ = _ from tap 0 2 256 _ rfl, show tap3 hp wm z0 (i + 1) (j + 0) _ 384 _ = _ from tap 1 0 384 _ rfl,
    show tap3 hp wm z0 (i + 1) (j + 1) _ 512 _ = _ from tap 1 1 512 _ rfl, show tap3 hp wm z0 (i + 1) (j + 2) _ 640 _ = _ from tap 1 2 640 _ rfl,
    show tap3 hp wm z0 (i + 2) (j + 0) _ 768 _ = _ from tap 2 0 768 _ rfl, show tap3 hp wm z0 (i + 2) (j + 1) _ 896 _ = _ from tap 2 1 896 _ rfl,
    show tap3 hp wm z0 (i + 2) (j + 2) _ 1024 _ = _ from tap 2 2 1024 _ rfl]
  simp only [Fin.sum_univ_four]
  have ca : a = 0 ∨ a = 1 := by omega
  have ce : e = 0 ∨ e = 1 := by omega
  rcases ca with rfl | rfl <;> rcases ce with rfl | rfl
  · rw [kz 0 2 (Or.inr rfl), kz 1 2 (Or.inr rfl), kz 2 0 (Or.inl rfl), kz 2 1 (Or.inl rfl), kz 2 2 (Or.inl rfl),
      dz 0 1 (by decide), dz 0 3 (by decide), dz 1 0 (by decide), dz 1 1 (by decide), dz 1 2 (by decide), dz 1 3 (by decide), dz 2 1 (by decide), dz 2 3 (by decide),
      dz 3 0 (by decide), dz 3 1 (by decide), dz 3 2 (by decide), dz 3 3 (by decide),
      dk 0 0 0 0 rfl rfl rfl rfl, dk 0 2 0 1 rfl rfl rfl rfl, dk 2 0 1 0 rfl rfl rfl rfl, dk 2 2 1 1 rfl rfl rfl rfl]
    simp only [add_zero, zero_add, add_assoc]
  · rw [kz 0 0 (Or.inr rfl), kz 1 0 (Or.inr rfl), kz 2 0 (Or.inl rfl), kz 2 1 (Or.inl rfl), kz 2 2 (Or.inl rfl),
      dz 0 0 (by decide), dz 0 2 (by decide), dz 1 0 (by decide), dz 1 1 (by decide), dz 1 2 (by decide), dz 1 3 (by decide), dz 2 0 (by decide), dz 2 2 (by decide),
      dz 3 0 (by decide), dz 3 1 (by decide), dz 3 2 (by decide), dz 3 3 (by decide),
      dk 0 1 0 1 rfl rfl rfl rfl, dk 0 3 0 2 rfl rfl rfl rfl, dk 2 1 1 1 rfl rfl rfl rfl, dk 2 3 1 2 rfl rfl rfl rfl]
    simp only [add_zero, zero_add, add_assoc]
  · rw [kz 0 0 (Or.inl rfl), kz 0 1 (Or.inl rfl), kz 0 2 (Or.inl rfl), kz 1 2 (Or.inr rfl), kz 2 2 (Or.inr rfl),
      dz 0 0 (by decide), dz 0 1 (by decide), dz 0 2 (by decide), dz 0 3 (by decide), dz 1 1 (by decide), dz 1 3 (by decide), dz 2 0 (by decide), dz 2 1 (by decide), dz 2 2 (by decide), dz 2 3 (by decide),
      dz 3 1 (by decide), dz 3 3 (by decide),
      dk 1 0 1 0 rfl rfl rfl rfl, dk 1 2 1 1 rfl rfl rfl rfl, dk 3 0 2 0 rfl rfl rfl rfl, dk 3 2 2 1 rfl rfl rfl rfl]
    simp only [add_zero, zero_add, add_assoc]
  · rw [kz 0 0 (Or.inl rfl), kz 0 1 (Or.inl rfl), kz 0 2 (Or.inl rfl), kz 1 0 (Or.inr rfl), kz 2 0 (Or.inr rfl),
      dz 0 0 (by decide), dz 0 1 (by decide), dz 0 2 (by decide), dz 0 3 (by decide), dz 1 0 (by decide), dz 1 2 (by decide), dz 2 0 (by decide), dz 2 1 (by decide), dz 2 2 (by decide), dz 2 3 (by decide),
      dz 3 0 (by decide), dz 3 2 (by decide),
      dk 1 1 1 1 rfl rfl rfl rfl, dk 1 3 1 2 rfl rfl rfl rfl, dk 3 1 2 1 rfl rfl rfl rfl, dk 3 3 2 2 rfl rfl rfl rfl]
    simp only [add_zero, zero_add, add_assoc]

end Cert.Own
end
-- ==== Proof.KerMath.lean ====
/- The kernel's products of rows and columns as the layers of the network, and sums over a product of ranges. -/
module

public import proofs.«01_k».proof.Proof.ConvMath
public import proofs.«01_k».proof.Proof.Net

@[expose] public section

set_option maxRecDepth 16384

noncomputable section

namespace Cert.Own

open Idealize.ShloMosaic Idealize.ShloMosaic.TcCoe Idealize.SL.Sem

/-- The bordered array at equal places of equal arrays. -/
theorem pad1_eq {N H W C : ℕ} {x x' : (⟨4, ![N, H, W, C]⟩ : Shape).Idx → EReal} (hx : x = x') (n : Fin N) {r r' s s' : ℕ} (hr : r = r') (hs : s = s') (c : Fin C) :
    pad1 x n r s c = pad1 x' n r' s' c := by
  subst hx hr hs
  rfl

/-- A sum over a range as a sum over its blocks. -/
theorem sum_blocks (a b : ℕ) (f : Fin (a * b) → EReal) : ∑ k, f k = ∑ i : Fin a, ∑ j : Fin b, f ⟨i.val * b + j.val, by
    have h := Nat.mul_le_mul_right b (Nat.succ_le_of_lt i.isLt)
    have h2 := j.isLt
    rw [Nat.succ_mul] at h
    omega⟩ := by
  rw [← finProdFinEquiv.sum_comp, Fintype.sum_prod_type]
  refine Finset.sum_congr rfl fun i _ => Finset.sum_congr rfl fun j _ => congrArg f (Fin.ext ?_)
  show j.val + b * i.val = i.val * b + j.val
  rw [Nat.mul_comm, Nat.add_comm]

/-- The windows as rows times the weights as a matrix are the first convolution. -/
theorem mmt_conv (A : (⟨2, ![48, 25088]⟩ : Shape).Idx → EReal) (x : (⟨4, ![2, 224, 224, 3]⟩ : Shape).Idx → EReal)
    (wm : (⟨2, ![48, 128]⟩ : Shape).Idx → EReal) (bm : (⟨2, ![1, 128]⟩ : Shape).Idx → EReal) (w : Wt 128 3) (b : Bs 128)
    (hA : ∀ (kh kw : Fin 4) (c : Fin 3) (n : Fin 2) (i j : Fin 112), A (ix2 ⟨(kh.val * 4 + kw.val) * 3 + c.val, by omega⟩ ⟨n.val * 12544 + i.val * 112 + j.val, by omega⟩)
      = pad1 x n (2 * i.val + kh.val) (2 * j.val + kw.val) c)
    (hw : ∀ (kh kw : Fin 4) (c : Fin 3) (o : Fin 128), wm (ix2 ⟨(kh.val * 4 + kw.val) * 3 + c.val, by omega⟩ o) = w (ix4 o c kh kw))
    (hb : ∀ o, bm (ix2 0 o) = b (ix1 o)) (n : Fin 2) (i j : Fin 112) (o : Fin 128) :
    mmtG A wm bm (ix2 ⟨n.val * 12544 + i.val * 112 + j.val, by omega⟩ o) = convS 112 112 x w b (ix4 n i j o) := by
  show max ((∑ k : Fin 48, A (ix2 k ⟨n.val * 12544 + i.val * 112 + j.val, by omega⟩) * wm (ix2 k o)) + bm (ix2 0 o)) 0
    = max ((∑ kh : Fin 4, ∑ kw : Fin 4, ∑ c : Fin 3, pad1 x n (2 * i.val + kh.val) (2 * j.val + kw.val) c * w (ix4 o c kh kw)) + b (ix1 o)) 0
  rw [hb]
  congr 2
  refine (sum_blocks 16 3 _).trans ((sum_blocks 4 4 _).trans ?_)
  refine Finset.sum_congr rfl fun kh _ => Finset.sum_congr rfl fun kw _ => Finset.sum_congr rfl fun c _ => ?_
  exact congrArg₂ (· * ·) (hA kh kw c n i j) (hw kh kw c o)

/-- Rows times the weights as a matrix are the one-by-one convolution. -/
theorem mm_dense {H W M : ℕ} (A : (⟨2, ![M, 128]⟩ : Shape).Idx → EReal) (x : Pix H W 128)
    (wm : (⟨2, ![128, 128]⟩ : Shape).Idx → EReal) (bm : (⟨2, ![1, 128]⟩ : Shape).Idx → EReal) (w : Wd 128 128) (b : Bs 128)
    (r : Fin M) (n : Fin 2) (i : Fin H) (j : Fin W) (hA : ∀ c, A (ix2 r c) = x (ix4 n i j c))
    (hw : ∀ c o : Fin 128, wm (ix2 c o) = w (ix4 o c 0 0)) (hb : ∀ o, bm (ix2 0 o) = b (ix1 o)) (o : Fin 128) :
    mmG A wm bm (ix2 r o) = dense x w b (ix4 n i j o) := by
  show (∑ k : Fin 128, A (ix2 r k) * wm (ix2 k o)) + bm (ix2 0 o) = (∑ c : Fin 128, x (ix4 n i j c) * w (ix4 o c 0 0)) + b (ix1 o)
  rw [hb]
  refine congrArg (· + b (ix1 o)) (Finset.sum_congr rfl fun k _ => ?_)
  rw [hA, hw]

/-- Rows times the last layer's weights, through the logistic function, are the last layer. -/
theorem mms_dense {M : ℕ} (A : (⟨2, ![M, 128]⟩ : Shape).Idx → EReal) (x : Pix 224 224 128)
    (wm : (⟨2, ![128, 8]⟩ : Shape).Idx → EReal) (bm : (⟨2, ![1, 8]⟩ : Shape).Idx → EReal) (w : Wd 3 128) (b : Bs 3)
    (r : Fin M) (n : Fin 2) (i : Fin 224) (j : Fin 224) (hA : ∀ c, A (ix2 r c) = x (ix4 n i j c))
    (hw : ∀ (c : Fin 128) (o : Fin 3), wm (ix2 c ⟨o.val, by omega⟩) = w (ix4 o c 0 0)) (hb : ∀ o : Fin 3, bm (ix2 0 ⟨o.val, by omega⟩) = b (ix1 o)) (o : Fin 3) :
    mmsG A wm bm (ix2 r ⟨o.val, by omega⟩) = Idealize.ShloMosaic.Ideal.logistic (dense x w b (ix4 n i j o)) := by
  refine congrArg Idealize.ShloMosaic.Ideal.logistic ?_
  show (∑ k : Fin 128, A (ix2 r k) * wm (ix2 k ⟨o.val, by omega⟩)) + bm (ix2 0 ⟨o.val, by omega⟩) = (∑ c : Fin 128, x (ix4 n i j c) * w (ix4 o c 0 0)) + b (ix1 o)
  rw [hb]
  refine congrArg (· + b (ix1 o)) (Finset.sum_congr rfl fun k _ => ?_)
  rw [hA, hw]

/-- The kernel's nearest rows are the codes. -/
theorem vq_codes (A : (⟨2, ![1568, 128]⟩ : Shape).Idx → EReal) (z : Pix 28 28 128) (cb : (⟨2, ![128, 128]⟩ : Shape).Idx → EReal)
    (hA : ∀ (n : Fin 2) (i j : Fin 28) (c : Fin 128), A (ix2 ⟨n.val * 784 + i.val * 28 + j.val, by omega⟩ c) = z (ix4 n i j c)) (n : Fin 2) (i j : Fin 28) (o : Fin 128) :
    vqG A cb (ix2 ⟨n.val * 784 + i.val * 28 + j.val, by omega⟩ o) = codesOf z cb (ix4 n i j o) := by
  refine vqG_pick A cb _ o (pickOf z cb n i j) ?_
  rw [show (fun x => A (ix2 ⟨n.val * 784 + i.val * 28 + j.val, by omega⟩ x)) = fun x => z (ix4 n i j x) from funext fun x => hA n i j x]
  exact pickOf_spec z cb n i j

end Cert.Own
-- ==== Proof.KerEnc.lean ====
/- What the kernel's host operations between its encoder launches leave: the four planes of the bordered array and the weights as rows. -/
module

public import proofs.«01_k».proof.Proof.ConvMath
public import proofs.«01_k».proof.Proof.RefOps
public import proofs.«01_k».proof.Proof.Gen.KernelIdeal.Launch
public import Idealize.ShloMosaic.Lib.StableHlo.RunRead
public import Idealize.ShloMosaic.Lib.StableHlo.Predicate

@[expose] public section

set_option maxRecDepth 16384

noncomputable section

namespace Cert.Own.Ker

open Idealize.ShloMosaic Idealize.ShloMosaic.TcCoe Idealize.SL.Sem Idealize.ShloMosaic.StableHlo
open Cert.KernelIdeal Cert.KernelIdeal.Gen

variable (V : Valuation τ sig (Elt Ideal))

/-- The zero the borders are filled with. -/
theorem zero_fill : (sitofp (F := Ideal) .f32 (constantI S_ 32 0#32)) (Shape.Idx.first (show 0 < S_.numel by decide)) = (0 : EReal) := by
  show ((((0#32 : BitVec 32).toInt : ℤ) : ℝ) : EReal) = 0
  simp

/-- The buffers after the operations before launch 1. -/
abbrev X1 : Valuation τ sig (Elt Ideal) := after (hostOps1_2 (F := Ideal)) (after (hostOps1_1 (F := Ideal)) (after (hostOps1 (F := Ideal)) V))

/-- The bordered array before launch 1. -/
theorem border1 (n : Fin 2) (r s : Fin 114) (c : Fin 128) : after (hostOps1_1 (F := Ideal)) (after (hostOps1 (F := Ideal)) V) (Proc.devRef .tc main_v202) (ix4 n r s c)
    = pad1 (after (hostOps1 (F := Ideal)) V (Proc.devRef .tc main_v201) : S2x112x112x128.Idx → EReal) n r.val s.val c := by
  after_reads_simp
  exact pad_border _ _ Cert.KernelIdeal.Facts₀.pads_S2x112x112x128_S2x114x114x128_000_110_110_000 Cert.KernelIdeal.Facts₀.h_S_ zero_fill n r s c

/-- Plane (0, 0) before launch 1. -/
theorem plane1_0 (U : Valuation τ sig (Elt Ideal)) (n : Fin 2) (i j : Fin 57) (c : Fin 128) : after (hostOps1_2 (F := Ideal)) U (Proc.devRef .tc main_v205) (ix4 n i j c)
    = U (Proc.devRef .tc main_v202) (ix4 n ⟨i.val * 2 + 0, by omega⟩ ⟨j.val * 2 + 0, by omega⟩ c) := by
  after_reads_simp
  pointwise []

/-- Plane (0, 1) before launch 1. -/
theorem plane1_1 (U : Valuation τ sig (Elt Ideal)) (n : Fin 2) (i j : Fin 57) (c : Fin 128) : after (hostOps1_2 (F := Ideal)) U (Proc.devRef .tc main_v207) (ix4 n i j c)
    = U (Proc.devRef .tc main_v202) (ix4 n ⟨i.val * 2 + 0, by omega⟩ ⟨j.val * 2 + 1, by omega⟩ c) := by
  after_reads_simp
  pointwise []

/-- Plane (1, 0) before launch 1. -/
theorem plane1_2 (U : Valuation τ sig (Elt Ideal)) (n : Fin 2) (i j : Fin 57) (c : Fin 128) : after (hostOps1_2 (F := Ideal)) U (Proc.devRef .tc main_v209) (ix4 n i j c)
    = U (Proc.devRef .tc main_v202) (ix4 n ⟨i.val * 2 + 1, by omega⟩ ⟨j.val * 2 + 0, by omega⟩ c) := by
  after_reads_simp
  pointwise []

/-- Plane (1, 1) before launch 1. -/
theorem plane1_3 (U : Valuation τ sig (Elt Ideal)) (n : Fin 2) (i j : Fin 57) (c : Fin 128) : after (hostOps1_2 (F := Ideal)) U (Proc.devRef .tc main_v211) (ix4 n i j c)
    = U (Proc.devRef .tc main_v202) (ix4 n ⟨i.val * 2 + 1, by omega⟩ ⟨j.val * 2 + 1, by omega⟩ c) := by
  after_reads_simp
  pointwise []

/-- The weights as rows before launch 1. -/
theorem rows1 (kh kw : Fin 4) (c o : Fin 128) : X1 V (Proc.devRef .tc main_v213) (ix2 ⟨(kh.val * 4 + kw.val) * 128 + c.val, by omega⟩ o) = V (Proc.devRef .tc main_arg3) (ix4 o c kh kw) := by
  unfold X1
  after_reads_simp
  pointwise []

/-- The bias as a row before launch 1. -/
theorem bias1 (o : Fin 128) : X1 V (Proc.devRef .tc main_v214) (ix2 0 o) = V (Proc.devRef .tc main_arg4) (ix1 o) := by
  unfold X1
  after_reads_simp
  pointwise []

/-- The buffers after the operations before launch 2. -/
abbrev X2 : Valuation τ sig (Elt Ideal) := after (hostOps2_2 (F := Ideal)) (after (hostOps2_1 (F := Ideal)) (after (hostOps2 (F := Ideal)) V))

/-- The bordered array before launch 2. -/
theorem border2 (n : Fin 2) (r s : Fin 58) (c : Fin 128) : after (hostOps2_1 (F := Ideal)) (after (hostOps2 (F := Ideal)) V) (Proc.devRef .tc main_v216) (ix4 n r s c)
    = pad1 (after (hostOps2 (F := Ideal)) V (Proc.devRef .tc main_v215) : S2x56x56x128.Idx → EReal) n r.val s.val c := by
  after_reads_simp
  exact pad_border _ _ Cert.KernelIdeal.Facts₀.pads_S2x56x56x128_S2x58x58x128_000_110_110_000 Cert.KernelIdeal.Facts₀.h_S_ zero_fill n r s c

/-- Plane (0, 0) before launch 2. -/
theorem plane2_0 (U : Valuation τ sig (Elt Ideal)) (n : Fin 2) (i j : Fin 29) (c : Fin 128) : after (hostOps2_2 (F := Ideal)) U (Proc.devRef .tc main_v219) (ix4 n i j c)
    = U (Proc.devRef .tc main_v216) (ix4 n ⟨i.val * 2 + 0, by omega⟩ ⟨j.val * 2 + 0, by omega⟩ c) := by
  after_reads_simp
  pointwise []

/-- Plane (0, 1) before launch 2. -/
theorem plane2_1 (U : Valuation τ sig (Elt Ideal)) (n : Fin 2) (i j : Fin 29) (c : Fin 128) : after (hostOps2_2 (F := Ideal)) U (Proc.devRef .tc main_v221) (ix4 n i j c)
    = U (Proc.devRef .tc main_v216) (ix4 n ⟨i.val * 2 + 0, by omega⟩ ⟨j.val * 2 + 1, by omega⟩ c) := by
  after_reads_simp
  pointwise []

/-- Plane (1, 0) before launch 2. -/
theorem plane2_2 (U : Valuation τ sig (Elt Ideal)) (n : Fin 2) (i j : Fin 29) (c : Fin 128) : after (hostOps2_2 (F := Ideal)) U (Proc.devRef .tc main_v223) (ix4 n i j c)
    = U (Proc.devRef .tc main_v216) (ix4 n ⟨i.val * 2 + 1, by omega⟩ ⟨j.val * 2 + 0, by omega⟩ c) := by
  after_reads_simp
  pointwise []

/-- Plane (1, 1) before launch 2. -/
theorem plane2_3 (U : Valuation τ sig (Elt Ideal)) (n : Fin 2) (i j : Fin 29) (c : Fin 128) : after (hostOps2_2 (F := Ideal)) U (Proc.devRef .tc main_v225) (ix4 n i j c)
    = U (Proc.devRef .tc main_v216) (ix4 n ⟨i.val * 2 + 1, by omega⟩ ⟨j.val * 2 + 1, by omega⟩ c) := by
  after_reads_simp
  pointwise []

/-- The weights as rows before launch 2. -/
theorem rows2 (kh kw : Fin 4) (c o : Fin 128) : X2 V (Proc.devRef .tc main_v227) (ix2 ⟨(kh.val * 4 + kw.val) * 128 + c.val, by omega⟩ o) = V (Proc.devRef .tc main_arg5) (ix4 o c kh kw) := by
  unfold X2
  after_reads_simp
  pointwise []

/-- The bias as a row before launch 2. -/
theorem bias2 (o : Fin 128) : X2 V (Proc.devRef .tc main_v228) (ix2 0 o) = V (Proc.devRef .tc main_arg6) (ix1 o) := by
  unfold X2
  after_reads_simp
  pointwise []

/-- The first launch's rows as an array of images. -/
theorem fold1 (n : Fin 2) (i j : Fin 112) (c : Fin 128) : after (hostOps1 (F := Ideal)) V (Proc.devRef .tc main_v201) (ix4 n i j c)
    = V (Proc.devRef .tc main_v200) (ix2 ⟨n.val * 12544 + i.val * 112 + j.val, by omega⟩ c) := by
  after_reads_simp
  pointwise []

/-- The third launch's result as rows. -/
theorem flat3 (n : Fin 2) (i j : Fin 28) (c : Fin 128) : after (hostOps3 (F := Ideal)) V (Proc.devRef .tc main_v230) (ix2 ⟨n.val * 784 + i.val * 28 + j.val, by omega⟩ c)
    = V (Proc.devRef .tc main_v229) (ix4 n i j c) := by
  after_reads_simp
  pointwise []

/-- The weights of the one-by-one convolution as a matrix. -/
theorem mat3 (c o : Fin 128) : after (hostOps3 (F := Ideal)) V (Proc.devRef .tc main_v232) (ix2 c o) = V (Proc.devRef .tc main_arg7) (ix4 o c 0 0) := by
  after_reads_simp
  pointwise []

/-- Its bias as a row. -/
theorem bias3 (o : Fin 128) : after (hostOps3 (F := Ideal)) V (Proc.devRef .tc main_v233) (ix2 0 o) = V (Proc.devRef .tc main_arg8) (ix1 o) := by
  after_reads_simp
  pointwise []

/-- The latent among the results. -/
theorem res4 (n : Fin 2) (c : Fin 128) (i j : Fin 28) : after (hostOps4 (F := Ideal)) V (Proc.devRef .tc main_v236) (ix4 n c i j)
    = V (Proc.devRef .tc main_v234) (ix2 ⟨n.val * 784 + i.val * 28 + j.val, by omega⟩ c) := by
  after_reads_simp
  pointwise []

/-- The codes among the results. -/
theorem res5 (n : Fin 2) (c : Fin 128) (i j : Fin 28) : after (hostOps5 (F := Ideal)) V (Proc.devRef .tc main_v239) (ix4 n c i j)
    = V (Proc.devRef .tc main_v237) (ix2 ⟨n.val * 784 + i.val * 28 + j.val, by omega⟩ c) := by
  after_reads_simp
  pointwise []

/-- The codes as the decoder's rows. -/
theorem cast5 : after (hostOps5 (F := Ideal)) V (Proc.devRef .tc main_v240) = (fun y => V (Proc.devRef .tc main_v237) y : S1568x128.Idx → EReal) := by
  after_reads_simp
  rfl

/-- The weights of the decoder's one-by-one convolution as a matrix. -/
theorem mat5 (c o : Fin 128) : after (hostOps5 (F := Ideal)) V (Proc.devRef .tc main_v243) (ix2 c o) = V (Proc.devRef .tc main_arg10) (ix4 o c 0 0) := by
  after_reads_simp
  pointwise []

/-- Its bias as a row. -/
theorem bias5 (o : Fin 128) : after (hostOps5 (F := Ideal)) V (Proc.devRef .tc main_v244) (ix2 0 o) = V (Proc.devRef .tc main_arg11) (ix1 o) := by
  after_reads_simp
  pointwise []

end Cert.Own.Ker
end
-- ==== Proof.KerPatch.lean ====
/- What the kernel's host operations before its first launch leave: the image's windows as rows, the weights and the bias. -/
module

public import proofs.«01_k».proof.Proof.KerEnc

@[expose] public section

set_option maxRecDepth 16384

noncomputable section

namespace Cert.Own.Ker

open Idealize.ShloMosaic Idealize.ShloMosaic.TcCoe Idealize.SL.Sem Idealize.ShloMosaic.StableHlo
open Cert.KernelIdeal Cert.KernelIdeal.Gen

variable (V : Valuation τ sig (Elt Ideal))

/-- The buffers after the operations before launch 0. -/
abbrev X0 : Valuation τ sig (Elt Ideal) := after (hostOps0_2 (F := Ideal)) (after (hostOps0_1 (F := Ideal)) (after (hostOps0 (F := Ideal)) V))

/-- The entry of the bordered image that row `t` of the windows holds for the window at `(i, j)`. -/
abbrev patchAt (A : S2x3x226x226.Idx → EReal) (t : ℕ) (ht : t < 48) (n : Fin 2) (i j : Fin 112) : EReal :=
  A (ix4 n ⟨t % 3, by omega⟩ ⟨t / 12 + 2 * i.val, by omega⟩ ⟨t / 3 % 4 + 2 * j.val, by omega⟩)

/-- The image with a border of zeros around each channel, at an entry. -/
theorem pad_image (A : S2x3x224x224.Idx → EReal) {u : Shape} (v : u.Idx → EReal)
    (h : S2x3x224x224.Pads ![0, 0, 1, 1] ![0, 0, 1, 1] ![0, 0, 0, 0] S2x3x226x226) (hu : 0 < u.numel)
    (hv : v (Shape.Idx.first hu) = 0) (n : Fin 2) (c : Fin 3) (r s : Fin 226) :
    pad S2x3x226x226 ![0, 0, 1, 1] ![0, 0, 1, 1] ![0, 0, 0, 0] A v h hu (ix4 n c r s) = pad1 (nhwc A) n r.val s.val c := by
  unfold pad pad1 at4
  by_cases hr : 0 < r.val ∧ 0 < s.val
  · rw [if_pos hr]
    by_cases h2 : r.val - 1 < 224 ∧ s.val - 1 < 224
    · have hin : ∀ a : Fin 4, (![0, 0, 1, 1] : Fin 4 → ℕ) a ≤ ((ix4 n c r s : S2x3x226x226.Idx) a).val
          ∧ (((ix4 n c r s : S2x3x226x226.Idx) a).val - (![0, 0, 1, 1] : Fin 4 → ℕ) a) % ((![0, 0, 0, 0] : Fin 4 → ℕ) a + 1) = 0
          ∧ (((ix4 n c r s : S2x3x226x226.Idx) a).val - (![0, 0, 1, 1] : Fin 4 → ℕ) a) / ((![0, 0, 0, 0] : Fin 4 → ℕ) a + 1) < (![2, 3, 224, 224] : Fin 4 → ℕ) a := by
        intro a
        have := n.isLt
        have := c.isLt
        fin_cases a <;> simp <;> omega
      rw [dif_pos h2]
      refine (dif_pos hin).trans (congrArg A (funext fun a => Fin.ext ?_))
      fin_cases a <;> simp
    · rw [dif_neg h2]
      refine (dif_neg fun hin => h2 ?_).trans hv
      have h1 := (hin 2).2.2
      have h3 := (hin 3).2.2
      simp at h1 h3
      exact ⟨h1, h3⟩
  · rw [if_neg hr]
    refine (dif_neg fun hin => hr ?_).trans hv
    have h1 := (hin 2).1
    have h3 := (hin 3).1
    simp at h1 h3
    exact ⟨h1, h3⟩

/-- The bordered image at equal coordinates. -/
theorem entry_eq (A : S2x3x226x226.Idx → EReal) (n : Fin 2) {c c' : Fin 3} {r r' s s' : Fin 226} (hc : c.val = c'.val) (hr : r.val = r'.val) (hs : s.val = s'.val) :
    A (ix4 n c r s) = A (ix4 n c' r' s') := by
  rw [Fin.ext hc, Fin.ext hr, Fin.ext hs]

set_option maxHeartbeats 8000000 in
/-- The windows as rows, by the bordered image. -/
theorem patches (U : Valuation τ sig (Elt Ideal)) (t : Fin 48) (n : Fin 2) (i j : Fin 112) :
    after (hostOps0_2 (F := Ideal)) U (Proc.devRef .tc main_v196) (ix2 t ⟨n.val * 12544 + i.val * 112 + j.val, by omega⟩)
      = patchAt (U (Proc.devRef .tc main_v0)) t.val t.isLt n i j := by
  fin_cases t <;> (after_reads_simp; pointwise []; after_reads_simp; pointwise []; after_reads_simp; pointwise []; exact entry_eq _ _ rfl (by first | rfl | simp) (by first | rfl | simp))

/-- The bordered image, by the image. -/
theorem border0 (n : Fin 2) (r s : Fin 226) (c : Fin 3) : after (hostOps0_1 (F := Ideal)) (after (hostOps0 (F := Ideal)) V) (Proc.devRef .tc main_v0) (ix4 n c r s)
    = pad1 (nhwc (V (Proc.devRef .tc main_arg0))) n r.val s.val c := by
  after_reads_simp
  exact pad_image _ _ pads_S2x3x224x224_S2x3x226x226_000_000_110_110 h_S_ zero_fill n c r s

/-- The first layer's weights as a matrix. -/
theorem mat0 (kh kw : Fin 4) (c : Fin 3) (o : Fin 128) : X0 V (Proc.devRef .tc main_v198) (ix2 ⟨(kh.val * 4 + kw.val) * 3 + c.val, by omega⟩ o) = V (Proc.devRef .tc main_arg1) (ix4 o c kh kw) := by
  unfold X0
  after_reads_simp
  pointwise []

/-- The first layer's bias as a row. -/
theorem bias0 (o : Fin 128) : X0 V (Proc.devRef .tc main_v199) (ix2 0 o) = V (Proc.devRef .tc main_arg2) (ix1 o) := by
  unfold X0
  after_reads_simp
  pointwise []

end Cert.Own.Ker
-- ==== Proof.Region0.lean ====
/- The first convolution's launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block every grid point takes of each array. -/
theorem idx0 : ∀ t : Fin cfg0.N, win0_0.index t = ![0, t.val] ∧ win0_1.index t = ![0, 0] ∧ win0_2.index t = ![0, 0] ∧ win0_3.index t = ![t.val, 0] := by decide +kernel

/-- An entry of the activations read from the block. -/
theorem ldA0 (c : Dev nD) (t : Fin cfg0.N) (ht : t.val < 7) (r : Fin 3584) (x : Fin 48) :
    iblk0 V c 0 t (ix2 x r) = V c main_v196 (ix2 x (⟨3584 * t.val + r.val, by omega⟩ : Fin 25088)) := by
  blk_ext [iblk0, idx0 t]

/-- A weight read from the block. -/
theorem ldW0 (c : Dev nD) (t : Fin cfg0.N) (x : Fin 48) (o : Fin 128) : iblk0 V c 1 t (ix2 x o) = V c main_v198 (ix2 x o) := by
  blk_ext [iblk0, idx0 t]

/-- A bias read from the block. -/
theorem ldB0 (c : Dev nD) (t : Fin cfg0.N) (o : Fin 128) : iblk0 V c 2 t (ix2 0 o) = V c main_v199 (ix2 0 o) := by
  blk_ext [iblk0, idx0 t]

set_option maxHeartbeats 1000000 in
/-- What the launch leaves in its output array. -/
theorem reg0 (c : Dev nD) : (dat0 V c).arrAt 3 cfg0.N = (mmtG (V c main_v196) (V c main_v198) (V c main_v199) : S25088x128.Idx → EReal) := by
  refine (dat0 V c).arrAt_eq_of_covers 3 (mmtG (V c main_v196) (V c main_v198) (V c main_v199) : S25088x128.Idx → EReal) (by decide +kernel) fun t hf y => ?_
  blk_simp
  rw [after0_3]
  frame_out
  idx_vars y
  have ht : t.val < 7 := lt_of_lt_of_eq t.isLt N_0
  have he : ((win0_3.blk t).view.emb (ix2 y0 y1)) = ix2 (⟨3584 * t.val + y0.val, by omega⟩ : Fin 25088) y1 := by blk_ext [idx0 t]
  refine Eq.trans ?_ (congrArg (mmtG (V c main_v196) (V c main_v198) (V c main_v199) : S25088x128.Idx → EReal) he).symm
  rw [mmtG_ix2]
  pointwise [k0_pay1]
  simp only [ldA0 V c t ht, ldW0 V c t, ldB0 V c t]
end Cert.Own
end
-- ==== Proof.Region1.lean ====
/- The second convolution's launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

/-- What the body stores at one output position, from the values it read. -/
theorem pay1 (a0 a1 a2 a3 a4 a5 a6 a7 b0 b1 b2 b3 b4 b5 b6 b7 : Vec Ideal S1x56x56x128 .f32) (w0 w1 w2 w3 w4 w5 w6 w7 : Vec Ideal S256x128 .f32) (b : Vec Ideal S1x128 .f32) (r s : Fin 56) (o : Fin 128) :
    k1_pay1 (F := Ideal) (k1_pay8 (k1_pay6 (k1_pay4 (k1_pay2 a0 b0 w0) (k1_pay3 a1 b1) w1 a2 b2 w2) (k1_pay5 a3 b3) w3 a4 b4 w4) (k1_pay7 a5 b5) w5 a6 b6 w6) (k1_pay9 a7 b7) w7 b (ix4 0 r s o)
      = max ((∑ x : Fin 128, a0 (ix4 0 r s x) * w0 (ix2 (⟨x.val, by omega⟩ : Fin 256) o) + ∑ x : Fin 128, b0 (ix4 0 r s x) * w0 (ix2 (⟨128 + x.val, by omega⟩ : Fin 256) o))
        + (∑ x : Fin 128, a1 (ix4 0 r s x) * w1 (ix2 (⟨x.val, by omega⟩ : Fin 256) o) + ∑ x : Fin 128, b1 (ix4 0 r s x) * w1 (ix2 (⟨128 + x.val, by omega⟩ : Fin 256) o))
        + (∑ x : Fin 128, a2 (ix4 0 r s x) * w2 (ix2 (⟨x.val, by omega⟩ : Fin 256) o) + ∑ x : Fin 128, b2 (ix4 0 r s x) * w2 (ix2 (⟨128 + x.val, by omega⟩ : Fin 256) o))
        + (∑ x : Fin 128, a3 (ix4 0 r s x) * w3 (ix2 (⟨x.val, by omega⟩ : Fin 256) o) + ∑ x : Fin 128, b3 (ix4 0 r s x) * w3 (ix2 (⟨128 + x.val, by omega⟩ : Fin 256) o))
        + (∑ x : Fin 128, a4 (ix4 0 r s x) * w4 (ix2 (⟨x.val, by omega⟩ : Fin 256) o) + ∑ x : Fin 128, b4 (ix4 0 r s x) * w4 (ix2 (⟨128 + x.val, by omega⟩ : Fin 256) o))
        + (∑ x : Fin 128, a5 (ix4 0 r s x) * w5 (ix2 (⟨x.val, by omega⟩ : Fin 256) o) + ∑ x : Fin 128, b5 (ix4 0 r s x) * w5 (ix2 (⟨128 + x.val, by omega⟩ : Fin 256) o))
        + (∑ x : Fin 128, a6 (ix4 0 r s x) * w6 (ix2 (⟨x.val, by omega⟩ : Fin 256) o) + ∑ x : Fin 128, b6 (ix4 0 r s x) * w6 (ix2 (⟨128 + x.val, by omega⟩ : Fin 256) o))
        + (∑ x : Fin 128, a7 (ix4 0 r s x) * w7 (ix2 (⟨x.val, by omega⟩ : Fin 256) o) + ∑ x : Fin 128, b7 (ix4 0 r s x) * w7 (ix2 (⟨128 + x.val, by omega⟩ : Fin 256) o)) + b (ix2 0 o)) 0 := by
  pointwise [k1_pay1, k1_pay2, k1_pay3, k1_pay4, k1_pay5, k1_pay6, k1_pay7, k1_pay8, k1_pay9]

variable (V : (c : Dev nD) → (b : Ref sig .tc) → Buf (Elt Ideal) ((c : Thread nD τ).loc b))

/-- The block every grid point takes of each array. -/
theorem idx1 : ∀ t : Fin cfg1.N, win1_0.index t = ![t.val, 0, 0, 0] ∧ win1_1.index t = ![t.val, 0, 0, 0] ∧ win1_2.index t = ![t.val, 0, 0, 0] ∧ win1_3.index t = ![t.val, 0, 0, 0]
    ∧ win1_4.index t = ![0, 0] ∧ win1_5.index t = ![0, 0] ∧ win1_6.index t = ![t.val, 0, 0, 0] := by decide +kernel
/-- Where the left column of windows starts. -/
theorem off1_1 : ∀ t : Fin cfg1.N, k1_off1 (grid1.coords t) 0#32 = ![0, 0, 0, 0] ∧ k1_off1 (grid1.coords t) 1#32 = ![0, 1, 0, 0] := by decide +kernel
/-- Where the right column of windows starts. -/
theorem off1_2 : ∀ t : Fin cfg1.N, k1_off2 (grid1.coords t) 0#32 = ![0, 0, 1, 0] ∧ k1_off2 (grid1.coords t) 1#32 = ![0, 1, 1, 0] := by decide +kernel

/-- A window read from plane 0's block, as an entry of the plane. -/
theorem ldA1_0 (c : Dev nD) (t : Fin cfg1.N) (ht : t.val < 2) (off : Fin 4 → ℕ) (u v : ℕ) (ho : off = ![0, u, v, 0]) (hu : u + 56 ≤ 57) (hv : v + 56 ≤ 57) (h) (r s : Fin 56) (x : Fin 128) :
    View.ld (iblk1 V c 0 t) (Rect.unit off S1x56x56x128.size h) (ix4 0 r s x) = at4 (V c main_v205) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk1, idx1 t]

/-- A window read from plane 1's block, as an entry of the plane. -/
theorem ldA1_1 (c : Dev nD) (t : Fin cfg1.N) (ht : t.val < 2) (off : Fin 4 → ℕ) (u v : ℕ) (ho : off = ![0, u, v, 0]) (hu : u + 56 ≤ 57) (hv : v + 56 ≤ 57) (h) (r s : Fin 56) (x : Fin 128) :
    View.ld (iblk1 V c 1 t) (Rect.unit off S1x56x56x128.size h) (ix4 0 r s x) = at4 (V c main_v207) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk1, idx1 t]

/-- A window read from plane 2's block, as an entry of the plane. -/
theorem ldA1_2 (c : Dev nD) (t : Fin cfg1.N) (ht : t.val < 2) (off : Fin 4 → ℕ) (u v : ℕ) (ho : off = ![0, u, v, 0]) (hu : u + 56 ≤ 57) (hv : v + 56 ≤ 57) (h) (r s : Fin 56) (x : Fin 128) :
    View.ld (iblk1 V c 2 t) (Rect.unit off S1x56x56x128.size h) (ix4 0 r s x) = at4 (V c main_v209) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk1, idx1 t]

/-- A window read from plane 3's block, as an entry of the plane. -/
theorem ldA1_3 (c : Dev nD) (t : Fin cfg1.N) (ht : t.val < 2) (off : Fin 4 → ℕ) (u v : ℕ) (ho : off = ![0, u, v, 0]) (hu : u + 56 ≤ 57) (hv : v + 56 ≤ 57) (h) (r s : Fin 56) (x : Fin 128) :
    View.ld (iblk1 V c 3 t) (Rect.unit off S1x56x56x128.size h) (ix4 0 r s x) = at4 (V c main_v211) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk1, idx1 t]

/-- A slab of weights read from the block. -/
theorem ldW1 (c : Dev nD) (t : Fin cfg1.N) (q : ℕ) (hq : q + 256 ≤ 2048) (h) (x : Fin 256) (o : Fin 128) :
    View.ld (iblk1 V c 4 t) (Rect.unit ![q, 0] S256x128.size h) (ix2 x o) = V c main_v213 (ix2 (⟨q + x.val, by omega⟩ : Fin 2048) o) := by
  refine (View.ld_unit_apply_of _ _ _ _ _ (ix2 (⟨q + x.val, by omega⟩ : Fin 2048) o) (fun a => by fin_cases a <;> simp <;> omega)).trans ?_
  blk_ext [iblk1, idx1 t]

/-- The bias row read from the block. -/
theorem ldB1 (c : Dev nD) (t : Fin cfg1.N) (o : Fin 128) :
    iblk1 V c 5 t (ix2 0 o) = V c main_v214 (ix2 0 o) := by
  blk_ext [iblk1, idx1 t]

/-- The stored value at one position is the sixteen-tap sum. -/
theorem body1 (c : Dev nD) (t : Fin cfg1.N) (ht : t.val < 2) (y1 y2 : Fin 56) (y3 : Fin 128) :
    k1_pay1 (F := Ideal) (k1_pay8 (k1_pay6 (k1_pay4 (k1_pay2 (View.ld (iblk1 V c 0 t) (Rect.unit (k1_off1 (grid1.coords t) 0#32) S1x56x56x128.size (k1_off1_inb _ 0))) (View.ld (iblk1 V c 1 t) (Rect.unit (k1_off1 (grid1.coords t) 0#32) S1x56x56x128.size (k1_off1_inb _ 0))) (View.ld (iblk1 V c 4 t) (Rect.unit ![0, 0] S256x128.size inb_S2048x128_S256x128_0_0))) (k1_pay3 (View.ld (iblk1 V c 0 t) (Rect.unit (k1_off2 (grid1.coords t) 0#32) S1x56x56x128.size (k1_off2_inb _ 0))) (View.ld (iblk1 V c 1 t) (Rect.unit (k1_off2 (grid1.coords t) 0#32) S1x56x56x128.size (k1_off2_inb _ 0)))) (View.ld (iblk1 V c 4 t) (Rect.unit ![256, 0] S256x128.size inb_S2048x128_S256x128_256_0)) (View.ld (iblk1 V c 2 t) (Rect.unit (k1_off1 (grid1.coords t) 0#32) S1x56x56x128.size (k1_off1_inb _ 0))) (View.ld (iblk1 V c 3 t) (Rect.unit (k1_off1 (grid1.coords t) 0#32) S1x56x56x128.size (k1_off1_inb _ 0))) (View.ld (iblk1 V c 4 t) (Rect.unit ![512, 0] S256x128.size inb_S2048x128_S256x128_512_0))) (k1_pay5 (View.ld (iblk1 V c 2 t) (Rect.unit (k1_off2 (grid1.coords t) 0#32) S1x56x56x128.size (k1_off2_inb _ 0))) (View.ld (iblk1 V c 3 t) (Rect.unit (k1_off2 (grid1.coords t) 0#32) S1x56x56x128.size (k1_off2_inb _ 0)))) (View.ld (iblk1 V c 4 t) (Rect.unit ![768, 0] S256x128.size inb_S2048x128_S256x128_768_0)) (View.ld (iblk1 V c 0 t) (Rect.unit (k1_off1 (grid1.coords t) 1#32) S1x56x56x128.size (k1_off1_inb _ 1))) (View.ld (iblk1 V c 1 t) (Rect.unit (k1_off1 (grid1.coords t) 1#32) S1x56x56x128.size (k1_off1_inb _ 1))) (View.ld (iblk1 V c 4 t) (Rect.unit ![1024, 0] S256x128.size inb_S2048x128_S256x128_1024_0))) (k1_pay7 (View.ld (iblk1 V c 0 t) (Rect.unit (k1_off2 (grid1.coords t) 1#32) S1x56x56x128.size (k1_off2_inb _ 1))) (View.ld (iblk1 V c 1 t) (Rect.unit (k1_off2 (grid1.coords t) 1#32) S1x56x56x128.size (k1_off2_inb _ 1)))) (View.ld (iblk1 V c 4 t) (Rect.unit ![1280, 0] S256x128.size inb_S2048x128_S256x128_1280_0)) (View.ld (iblk1 V c 2 t) (Rect.unit (k1_off1 (grid1.coords t) 1#32) S1x56x56x128.size (k1_off1_inb _ 1))) (View.ld (iblk1 V c 3 t) (Rect.unit (k1_off1 (grid1.coords t) 1#32) S1x56x56x128.size (k1_off1_inb _ 1))) (View.ld (iblk1 V c 4 t) (Rect.unit ![1536, 0] S256x128.size inb_S2048x128_S256x128_1536_0))) (k1_pay9 (View.ld (iblk1 V c 2 t) (Rect.unit (k1_off2 (grid1.coords t) 1#32) S1x56x56x128.size (k1_off2_inb _ 1))) (View.ld (iblk1 V c 3 t) (Rect.unit (k1_off2 (grid1.coords t) 1#32) S1x56x56x128.size (k1_off2_inb _ 1)))) (View.ld (iblk1 V c 4 t) (Rect.unit ![1792, 0] S256x128.size inb_S2048x128_S256x128_1792_0)) (iblk1 V c 5 t) (ix4 0 y1 y2 y3)
      = conv16 (V c main_v205) (V c main_v207) (V c main_v209) (V c main_v211) (V c main_v213) (V c main_v214) (⟨t.val, ht⟩ : Fin 2) y1.val y2.val y3 := by
  rw [pay1]
  unfold conv16 tapPair
  obtain ⟨h10, h11⟩ := off1_1 t
  obtain ⟨h20, h21⟩ := off1_2 t
  rw [ldB1]
  simp only [ldA1_0 V c t ht _ 0 0 h10 (by decide) (by decide), ldA1_1 V c t ht _ 0 0 h10 (by decide) (by decide), ldA1_2 V c t ht _ 0 0 h10 (by decide) (by decide), ldA1_3 V c t ht _ 0 0 h10 (by decide) (by decide), ldA1_0 V c t ht _ 0 1 h20 (by decide) (by decide), ldA1_1 V c t ht _ 0 1 h20 (by decide) (by decide), ldA1_2 V c t ht _ 0 1 h20 (by decide) (by decide), ldA1_3 V c t ht _ 0 1 h20 (by decide) (by decide),
    ldA1_0 V c t ht _ 1 0 h11 (by decide) (by decide), ldA1_1 V c t ht _ 1 0 h11 (by decide) (by decide), ldA1_2 V c t ht _ 1 0 h11 (by decide) (by decide), ldA1_3 V c t ht _ 1 0 h11 (by decide) (by decide), ldA1_0 V c t ht _ 1 1 h21 (by decide) (by decide), ldA1_1 V c t ht _ 1 1 h21 (by decide) (by decide), ldA1_2 V c t ht _ 1 1 h21 (by decide) (by decide), ldA1_3 V c t ht _ 1 1 h21 (by decide) (by decide),
    ldW1 V c t 0 (by decide), ldW1 V c t 256 (by decide), ldW1 V c t 512 (by decide), ldW1 V c t 768 (by decide), ldW1 V c t 1024 (by decide), ldW1 V c t 1280 (by decide), ldW1 V c t 1536 (by decide), ldW1 V c t 1792 (by decide)]

set_option maxHeartbeats 1000000 in
/-- What the launch leaves in its output array. -/
theorem reg1 (c : Dev nD) : (dat1 V c).arrAt 6 cfg1.N = (conv16G (V c main_v205) (V c main_v207) (V c main_v209) (V c main_v211) (V c main_v213) (V c main_v214) : S2x56x56x128.Idx → EReal) := by
  refine (dat1 V c).arrAt_eq_of_covers 6 (conv16G (V c main_v205) (V c main_v207) (V c main_v209) (V c main_v211) (V c main_v213) (V c main_v214) : S2x56x56x128.Idx → EReal) (by decide +kernel) fun t hf y => ?_
  blk_simp
  rw [after1_6]
  unfold outsAt1 out1_A_6 kernelRun1_A
  frame_out
  idx_vars y
  obtain rfl : y0 = 0 := Subsingleton.elim _ _
  have ht : t.val < 2 := lt_of_lt_of_eq t.isLt N_1
  have he : ((win1_6.blk t).view.emb (ix4 0 y1 y2 y3)) = ix4 ⟨t.val, ht⟩ y1 y2 y3 := by blk_ext [idx1 t]
  refine Eq.trans ?_ (congrArg (conv16G (V c main_v205) (V c main_v207) (V c main_v209) (V c main_v211) (V c main_v213) (V c main_v214) : S2x56x56x128.Idx → EReal) he).symm
  rw [conv16G_ix4]
  exact body1 V c t ht y1 y2 y3

end Cert.Own
end
-- ==== Proof.Region2.lean ====
/- The third convolution's launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

/-- What the body stores at one output position, from the values it read. -/
theorem pay2 (a0 a1 a2 a3 a4 a5 a6 a7 b0 b1 b2 b3 b4 b5 b6 b7 : Vec Ideal S1x28x28x128 .f32) (w0 w1 w2 w3 w4 w5 w6 w7 : Vec Ideal S256x128 .f32) (b : Vec Ideal S1x128 .f32) (r s : Fin 28) (o : Fin 128) :
    k2_pay1 (F := Ideal) (k2_pay8 (k2_pay6 (k2_pay4 (k2_pay2 a0 b0 w0) (k2_pay3 a1 b1) w1 a2 b2 w2) (k2_pay5 a3 b3) w3 a4 b4 w4) (k2_pay7 a5 b5) w5 a6 b6 w6) (k2_pay9 a7 b7) w7 b (ix4 0 r s o)
      = max ((∑ x : Fin 128, a0 (ix4 0 r s x) * w0 (ix2 (⟨x.val, by omega⟩ : Fin 256) o) + ∑ x : Fin 128, b0 (ix4 0 r s x) * w0 (ix2 (⟨128 + x.val, by omega⟩ : Fin 256) o))
        + (∑ x : Fin 128, a1 (ix4 0 r s x) * w1 (ix2 (⟨x.val, by omega⟩ : Fin 256) o) + ∑ x : Fin 128, b1 (ix4 0 r s x) * w1 (ix2 (⟨128 + x.val, by omega⟩ : Fin 256) o))
        + (∑ x : Fin 128, a2 (ix4 0 r s x) * w2 (ix2 (⟨x.val, by omega⟩ : Fin 256) o) + ∑ x : Fin 128, b2 (ix4 0 r s x) * w2 (ix2 (⟨128 + x.val, by omega⟩ : Fin 256) o))
        + (∑ x : Fin 128, a3 (ix4 0 r s x) * w3 (ix2 (⟨x.val, by omega⟩ : Fin 256) o) + ∑ x : Fin 128, b3 (ix4 0 r s x) * w3 (ix2 (⟨128 + x.val, by omega⟩ : Fin 256) o))
        + (∑ x : Fin 128, a4 (ix4 0 r s x) * w4 (ix2 (⟨x.val, by omega⟩ : Fin 256) o) + ∑ x : Fin 128, b4 (ix4 0 r s x) * w4 (ix2 (⟨128 + x.val, by omega⟩ : Fin 256) o))
        + (∑ x : Fin 128, a5 (ix4 0 r s x) * w5 (ix2 (⟨x.val, by omega⟩ : Fin 256) o) + ∑ x : Fin 128, b5 (ix4 0 r s x) * w5 (ix2 (⟨128 + x.val, by omega⟩ : Fin 256) o))
        + (∑ x : Fin 128, a6 (ix4 0 r s x) * w6 (ix2 (⟨x.val, by omega⟩ : Fin 256) o) + ∑ x : Fin 128, b6 (ix4 0 r s x) * w6 (ix2 (⟨128 + x.val, by omega⟩ : Fin 256) o))
        + (∑ x : Fin 128, a7 (ix4 0 r s x) * w7 (ix2 (⟨x.val, by omega⟩ : Fin 256) o) + ∑ x : Fin 128, b7 (ix4 0 r s x) * w7 (ix2 (⟨128 + x.val, by omega⟩ : Fin 256) o)) + b (ix2 0 o)) 0 := by
  pointwise [k2_pay1, k2_pay2, k2_pay3, k2_pay4, k2_pay5, k2_pay6, k2_pay7, k2_pay8, k2_pay9]

variable (V : (c : Dev nD) → (b : Ref sig .tc) → Buf (Elt Ideal) ((c : Thread nD τ).loc b))

/-- The block every grid point takes of each array. -/
theorem idx2 : ∀ t : Fin cfg2.N, win2_0.index t = ![t.val, 0, 0, 0] ∧ win2_1.index t = ![t.val, 0, 0, 0] ∧ win2_2.index t = ![t.val, 0, 0, 0] ∧ win2_3.index t = ![t.val, 0, 0, 0]
    ∧ win2_4.index t = ![0, 0] ∧ win2_5.index t = ![0, 0] ∧ win2_6.index t = ![t.val, 0, 0, 0] := by decide +kernel
/-- Where the left column of windows starts. -/
theorem off2_1 : ∀ t : Fin cfg2.N, k2_off1 (grid2.coords t) 0#32 = ![0, 0, 0, 0] ∧ k2_off1 (grid2.coords t) 1#32 = ![0, 1, 0, 0] := by decide +kernel
/-- Where the right column of windows starts. -/
theorem off2_2 : ∀ t : Fin cfg2.N, k2_off2 (grid2.coords t) 0#32 = ![0, 0, 1, 0] ∧ k2_off2 (grid2.coords t) 1#32 = ![0, 1, 1, 0] := by decide +kernel

/-- A window read from plane 0's block, as an entry of the plane. -/
theorem ldA2_0 (c : Dev nD) (t : Fin cfg2.N) (ht : t.val < 2) (off : Fin 4 → ℕ) (u v : ℕ) (ho : off = ![0, u, v, 0]) (hu : u + 28 ≤ 29) (hv : v + 28 ≤ 29) (h) (r s : Fin 28) (x : Fin 128) :
    View.ld (iblk2 V c 0 t) (Rect.unit off S1x28x28x128.size h) (ix4 0 r s x) = at4 (V c main_v219) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk2, idx2 t]

/-- A window read from plane 1's block, as an entry of the plane. -/
theorem ldA2_1 (c : Dev nD) (t : Fin cfg2.N) (ht : t.val < 2) (off : Fin 4 → ℕ) (u v : ℕ) (ho : off = ![0, u, v, 0]) (hu : u + 28 ≤ 29) (hv : v + 28 ≤ 29) (h) (r s : Fin 28) (x : Fin 128) :
    View.ld (iblk2 V c 1 t) (Rect.unit off S1x28x28x128.size h) (ix4 0 r s x) = at4 (V c main_v221) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk2, idx2 t]

/-- A window read from plane 2's block, as an entry of the plane. -/
theorem ldA2_2 (c : Dev nD) (t : Fin cfg2.N) (ht : t.val < 2) (off : Fin 4 → ℕ) (u v : ℕ) (ho : off = ![0, u, v, 0]) (hu : u + 28 ≤ 29) (hv : v + 28 ≤ 29) (h) (r s : Fin 28) (x : Fin 128) :
    View.ld (iblk2 V c 2 t) (Rect.unit off S1x28x28x128.size h) (ix4 0 r s x) = at4 (V c main_v223) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk2, idx2 t]

/-- A window read from plane 3's block, as an entry of the plane. -/
theorem ldA2_3 (c : Dev nD) (t : Fin cfg2.N) (ht : t.val < 2) (off : Fin 4 → ℕ) (u v : ℕ) (ho : off = ![0, u, v, 0]) (hu : u + 28 ≤ 29) (hv : v + 28 ≤ 29) (h) (r s : Fin 28) (x : Fin 128) :
    View.ld (iblk2 V c 3 t) (Rect.unit off S1x28x28x128.size h) (ix4 0 r s x) = at4 (V c main_v225) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk2, idx2 t]

/-- A slab of weights read from the block. -/
theorem ldW2 (c : Dev nD) (t : Fin cfg2.N) (q : ℕ) (hq : q + 256 ≤ 2048) (h) (x : Fin 256) (o : Fin 128) :
    View.ld (iblk2 V c 4 t) (Rect.unit ![q, 0] S256x128.size h) (ix2 x o) = V c main_v227 (ix2 (⟨q + x.val, by omega⟩ : Fin 2048) o) := by
  refine (View.ld_unit_apply_of _ _ _ _ _ (ix2 (⟨q + x.val, by omega⟩ : Fin 2048) o) (fun a => by fin_cases a <;> simp <;> omega)).trans ?_
  blk_ext [iblk2, idx2 t]

/-- The bias row read from the block. -/
theorem ldB2 (c : Dev nD) (t : Fin cfg2.N) (o : Fin 128) :
    iblk2 V c 5 t (ix2 0 o) = V c main_v228 (ix2 0 o) := by
  blk_ext [iblk2, idx2 t]

/-- The stored value at one position is the sixteen-tap sum. -/
theorem body2 (c : Dev nD) (t : Fin cfg2.N) (ht : t.val < 2) (y1 y2 : Fin 28) (y3 : Fin 128) :
    k2_pay1 (F := Ideal) (k2_pay8 (k2_pay6 (k2_pay4 (k2_pay2 (View.ld (iblk2 V c 0 t) (Rect.unit (k2_off1 (grid2.coords t) 0#32) S1x28x28x128.size (k2_off1_inb _ 0))) (View.ld (iblk2 V c 1 t) (Rect.unit (k2_off1 (grid2.coords t) 0#32) S1x28x28x128.size (k2_off1_inb _ 0))) (View.ld (iblk2 V c 4 t) (Rect.unit ![0, 0] S256x128.size inb_S2048x128_S256x128_0_0))) (k2_pay3 (View.ld (iblk2 V c 0 t) (Rect.unit (k2_off2 (grid2.coords t) 0#32) S1x28x28x128.size (k2_off2_inb _ 0))) (View.ld (iblk2 V c 1 t) (Rect.unit (k2_off2 (grid2.coords t) 0#32) S1x28x28x128.size (k2_off2_inb _ 0)))) (View.ld (iblk2 V c 4 t) (Rect.unit ![256, 0] S256x128.size inb_S2048x128_S256x128_256_0)) (View.ld (iblk2 V c 2 t) (Rect.unit (k2_off1 (grid2.coords t) 0#32) S1x28x28x128.size (k2_off1_inb _ 0))) (View.ld (iblk2 V c 3 t) (Rect.unit (k2_off1 (grid2.coords t) 0#32) S1x28x28x128.size (k2_off1_inb _ 0))) (View.ld (iblk2 V c 4 t) (Rect.unit ![512, 0] S256x128.size inb_S2048x128_S256x128_512_0))) (k2_pay5 (View.ld (iblk2 V c 2 t) (Rect.unit (k2_off2 (grid2.coords t) 0#32) S1x28x28x128.size (k2_off2_inb _ 0))) (View.ld (iblk2 V c 3 t) (Rect.unit (k2_off2 (grid2.coords t) 0#32) S1x28x28x128.size (k2_off2_inb _ 0)))) (View.ld (iblk2 V c 4 t) (Rect.unit ![768, 0] S256x128.size inb_S2048x128_S256x128_768_0)) (View.ld (iblk2 V c 0 t) (Rect.unit (k2_off1 (grid2.coords t) 1#32) S1x28x28x128.size (k2_off1_inb _ 1))) (View.ld (iblk2 V c 1 t) (Rect.unit (k2_off1 (grid2.coords t) 1#32) S1x28x28x128.size (k2_off1_inb _ 1))) (View.ld (iblk2 V c 4 t) (Rect.unit ![1024, 0] S256x128.size inb_S2048x128_S256x128_1024_0))) (k2_pay7 (View.ld (iblk2 V c 0 t) (Rect.unit (k2_off2 (grid2.coords t) 1#32) S1x28x28x128.size (k2_off2_inb _ 1))) (View.ld (iblk2 V c 1 t) (Rect.unit (k2_off2 (grid2.coords t) 1#32) S1x28x28x128.size (k2_off2_inb _ 1)))) (View.ld (iblk2 V c 4 t) (Rect.unit ![1280, 0] S256x128.size inb_S2048x128_S256x128_1280_0)) (View.ld (iblk2 V c 2 t) (Rect.unit (k2_off1 (grid2.coords t) 1#32) S1x28x28x128.size (k2_off1_inb _ 1))) (View.ld (iblk2 V c 3 t) (Rect.unit (k2_off1 (grid2.coords t) 1#32) S1x28x28x128.size (k2_off1_inb _ 1))) (View.ld (iblk2 V c 4 t) (Rect.unit ![1536, 0] S256x128.size inb_S2048x128_S256x128_1536_0))) (k2_pay9 (View.ld (iblk2 V c 2 t) (Rect.unit (k2_off2 (grid2.coords t) 1#32) S1x28x28x128.size (k2_off2_inb _ 1))) (View.ld (iblk2 V c 3 t) (Rect.unit (k2_off2 (grid2.coords t) 1#32) S1x28x28x128.size (k2_off2_inb _ 1)))) (View.ld (iblk2 V c 4 t) (Rect.unit ![1792, 0] S256x128.size inb_S2048x128_S256x128_1792_0)) (iblk2 V c 5 t) (ix4 0 y1 y2 y3)
      = conv16 (V c main_v219) (V c main_v221) (V c main_v223) (V c main_v225) (V c main_v227) (V c main_v228) (⟨t.val, ht⟩ : Fin 2) y1.val y2.val y3 := by
  rw [pay2]
  unfold conv16 tapPair
  obtain ⟨h10, h11⟩ := off2_1 t
  obtain ⟨h20, h21⟩ := off2_2 t
  rw [ldB2]
  simp only [ldA2_0 V c t ht _ 0 0 h10 (by decide) (by decide), ldA2_1 V c t ht _ 0 0 h10 (by decide) (by decide), ldA2_2 V c t ht _ 0 0 h10 (by decide) (by decide), ldA2_3 V c t ht _ 0 0 h10 (by decide) (by decide), ldA2_0 V c t ht _ 0 1 h20 (by decide) (by decide), ldA2_1 V c t ht _ 0 1 h20 (by decide) (by decide), ldA2_2 V c t ht _ 0 1 h20 (by decide) (by decide), ldA2_3 V c t ht _ 0 1 h20 (by decide) (by decide),
    ldA2_0 V c t ht _ 1 0 h11 (by decide) (by decide), ldA2_1 V c t ht _ 1 0 h11 (by decide) (by decide), ldA2_2 V c t ht _ 1 0 h11 (by decide) (by decide), ldA2_3 V c t ht _ 1 0 h11 (by decide) (by decide), ldA2_0 V c t ht _ 1 1 h21 (by decide) (by decide), ldA2_1 V c t ht _ 1 1 h21 (by decide) (by decide), ldA2_2 V c t ht _ 1 1 h21 (by decide) (by decide), ldA2_3 V c t ht _ 1 1 h21 (by decide) (by decide),
    ldW2 V c t 0 (by decide), ldW2 V c t 256 (by decide), ldW2 V c t 512 (by decide), ldW2 V c t 768 (by decide), ldW2 V c t 1024 (by decide), ldW2 V c t 1280 (by decide), ldW2 V c t 1536 (by decide), ldW2 V c t 1792 (by decide)]

set_option maxHeartbeats 1000000 in
/-- What the launch leaves in its output array. -/
theorem reg2 (c : Dev nD) : (dat2 V c).arrAt 6 cfg2.N = (conv16G (V c main_v219) (V c main_v221) (V c main_v223) (V c main_v225) (V c main_v227) (V c main_v228) : S2x28x28x128.Idx → EReal) := by
  refine (dat2 V c).arrAt_eq_of_covers 6 (conv16G (V c main_v219) (V c main_v221) (V c main_v223) (V c main_v225) (V c main_v227) (V c main_v228) : S2x28x28x128.Idx → EReal) (by decide +kernel) fun t hf y => ?_
  blk_simp
  rw [after2_6]
  unfold outsAt2 out2_A_6 kernelRun2_A
  frame_out
  idx_vars y
  obtain rfl : y0 = 0 := Subsingleton.elim _ _
  have ht : t.val < 2 := lt_of_lt_of_eq t.isLt N_2
  have he : ((win2_6.blk t).view.emb (ix4 0 y1 y2 y3)) = ix4 ⟨t.val, ht⟩ y1 y2 y3 := by blk_ext [idx2 t]
  refine Eq.trans ?_ (congrArg (conv16G (V c main_v219) (V c main_v221) (V c main_v223) (V c main_v225) (V c main_v227) (V c main_v228) : S2x28x28x128.Idx → EReal) he).symm
  rw [conv16G_ix4]
  exact body2 V c t ht y1 y2 y3

end Cert.Own
end
-- ==== Proof.Region3.lean ====
/- The encoder's last launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block every grid point takes of each array. -/
theorem idx3 : ∀ t : Fin cfg3.N, win3_0.index t = ![0, 0] ∧ win3_1.index t = ![0, 0] ∧ win3_2.index t = ![0, 0] ∧ win3_3.index t = ![0, 0] := by decide +kernel

/-- An entry of the activations read from the block. -/
theorem ldA3 (c : Dev nD) (t : Fin cfg3.N) (ht : t.val < 1) (r : Fin 1568) (x : Fin 128) :
    iblk3 V c 0 t (ix2 r x) = V c main_v230 (ix2 r x) := by
  blk_ext [iblk3, idx3 t]

/-- A weight read from the block. -/
theorem ldW3 (c : Dev nD) (t : Fin cfg3.N) (x : Fin 128) (o : Fin 128) : iblk3 V c 1 t (ix2 x o) = V c main_v232 (ix2 x o) := by
  blk_ext [iblk3, idx3 t]

/-- A bias read from the block. -/
theorem ldB3 (c : Dev nD) (t : Fin cfg3.N) (o : Fin 128) : iblk3 V c 2 t (ix2 0 o) = V c main_v233 (ix2 0 o) := by
  blk_ext [iblk3, idx3 t]

set_option maxHeartbeats 1000000 in
/-- What the launch leaves in its output array. -/
theorem reg3 (c : Dev nD) : (dat3 V c).arrAt 3 cfg3.N = (mmG (V c main_v230) (V c main_v232) (V c main_v233) : S1568x128.Idx → EReal) := by
  refine (dat3 V c).arrAt_eq_of_covers 3 (mmG (V c main_v230) (V c main_v232) (V c main_v233) : S1568x128.Idx → EReal) (by decide +kernel) fun t hf y => ?_
  blk_simp
  rw [after3_3]
  frame_out
  idx_vars y
  have ht : t.val < 1 := lt_of_lt_of_eq t.isLt N_3
  have he : ((win3_3.blk t).view.emb (ix2 y0 y1)) = ix2 (⟨1568 * t.val + y0.val, by omega⟩ : Fin 1568) y1 := by blk_ext [idx3 t]
  refine Eq.trans ?_ (congrArg (mmG (V c main_v230) (V c main_v232) (V c main_v233) : S1568x128.Idx → EReal) he).symm
  rw [mmG_ix2]
  pointwise [k3_pay1]
  simp only [ldA3 V c t ht, ldW3 V c t, ldB3 V c t]
end Cert.Own
end
-- ==== Proof.Region4.lean ====
/- The codebook's launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

set_option maxHeartbeats 1000000 in
/-- What the body stores at one position, from the blocks it read. -/
theorem pay4 (v0 : Vec Ideal S392x128 .f32) (v2 : Vec Ideal S128x128 .f32) (r : Fin 392) (o : Fin 128) :
    k4_pay1 (F := Ideal) v0 v2 (ix2 r o) = vqG v0 v2 (ix2 r o) := by
  unfold vqG vqLane vqDist two32
  pointwise [k4_pay1]

variable (V : (c : Dev nD) → (b : Ref sig .tc) → Buf (Elt Ideal) ((c : Thread nD τ).loc b))

/-- The block every grid point takes of each array. -/
theorem idx4 : ∀ t : Fin cfg4.N, win4_0.index t = ![t.val, 0] ∧ win4_1.index t = ![0, 0] ∧ win4_2.index t = ![t.val, 0] := by decide +kernel

/-- A row read from the block. -/
theorem ldA4 (c : Dev nD) (t : Fin cfg4.N) (ht : t.val < 4) (r : Fin 392) (x : Fin 128) :
    iblk4 V c 0 t (ix2 r x) = V c main_v234 (ix2 (⟨392 * t.val + r.val, by omega⟩ : Fin 1568) x) := by
  blk_ext [iblk4, idx4 t]

/-- A codebook entry read from the block. -/
theorem ldB4 (c : Dev nD) (t : Fin cfg4.N) (r : Fin 128) (x : Fin 128) :
    iblk4 V c 1 t (ix2 r x) = V c main_arg9 (ix2 r x) := by
  blk_ext [iblk4, idx4 t]

set_option maxHeartbeats 1000000 in
/-- What the launch leaves in its output array. -/
theorem reg4 (c : Dev nD) : (dat4 V c).arrAt 2 cfg4.N = (vqG (V c main_v234) (V c main_arg9) : S1568x128.Idx → EReal) := by
  refine (dat4 V c).arrAt_eq_of_covers 2 (vqG (V c main_v234) (V c main_arg9) : S1568x128.Idx → EReal) (by decide +kernel) fun t hf y => ?_
  blk_simp
  rw [after4_2]
  frame_out
  idx_vars y
  have ht : t.val < 4 := lt_of_lt_of_eq t.isLt N_4
  have he : ((win4_2.blk t).view.emb (ix2 y0 y1)) = ix2 (⟨392 * t.val + y0.val, by omega⟩ : Fin 1568) y1 := by blk_ext [idx4 t]
  refine Eq.trans ?_ (congrArg (vqG (V c main_v234) (V c main_arg9) : S1568x128.Idx → EReal) he).symm
  refine (pay4 (iblk4 V c 0 t) (iblk4 V c 1 t) y0 y1).trans ?_
  refine vqG_congr _ _ _ _ _ _ _ (fun x => ldA4 V c t ht y0 x) ?_
  funext z
  idx_vars z
  exact ldB4 V c t z0 z1

end Cert.Own
end
-- ==== Proof.Region5.lean ====
/- The decoder's first launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block every grid point takes of each array. -/
theorem idx5 : ∀ t : Fin cfg5.N, win5_0.index t = ![0, 0] ∧ win5_1.index t = ![0, 0] ∧ win5_2.index t = ![0, 0] ∧ win5_3.index t = ![0, 0] := by decide +kernel

/-- An entry of the activations read from the block. -/
theorem ldA5 (c : Dev nD) (t : Fin cfg5.N) (ht : t.val < 1) (r : Fin 1568) (x : Fin 128) :
    iblk5 V c 0 t (ix2 r x) = V c main_v240 (ix2 r x) := by
  blk_ext [iblk5, idx5 t]

/-- A weight read from the block. -/
theorem ldW5 (c : Dev nD) (t : Fin cfg5.N) (x : Fin 128) (o : Fin 128) : iblk5 V c 1 t (ix2 x o) = V c main_v243 (ix2 x o) := by
  blk_ext [iblk5, idx5 t]

/-- A bias read from the block. -/
theorem ldB5 (c : Dev nD) (t : Fin cfg5.N) (o : Fin 128) : iblk5 V c 2 t (ix2 0 o) = V c main_v244 (ix2 0 o) := by
  blk_ext [iblk5, idx5 t]

set_option maxHeartbeats 1000000 in
/-- What the launch leaves in its output array. -/
theorem reg5 (c : Dev nD) : (dat5 V c).arrAt 3 cfg5.N = (mmG (V c main_v240) (V c main_v243) (V c main_v244) : S1568x128.Idx → EReal) := by
  refine (dat5 V c).arrAt_eq_of_covers 3 (mmG (V c main_v240) (V c main_v243) (V c main_v244) : S1568x128.Idx → EReal) (by decide +kernel) fun t hf y => ?_
  blk_simp
  rw [after5_3]
  frame_out
  idx_vars y
  have ht : t.val < 1 := lt_of_lt_of_eq t.isLt N_5
  have he : ((win5_3.blk t).view.emb (ix2 y0 y1)) = ix2 (⟨1568 * t.val + y0.val, by omega⟩ : Fin 1568) y1 := by blk_ext [idx5 t]
  refine Eq.trans ?_ (congrArg (mmG (V c main_v240) (V c main_v243) (V c main_v244) : S1568x128.Idx → EReal) he).symm
  rw [mmG_ix2]
  pointwise [k5_pay1]
  simp only [ldA5 V c t ht, ldW5 V c t, ldB5 V c t]
end Cert.Own
end
-- ==== Proof.KerValA.lean ====
/- The contents of the kernel's buffers through the encoder and the codebook, as the network's arrays of the arguments. -/
module

public import proofs.«01_k».proof.Proof.KerMath
public import proofs.«01_k».proof.Proof.KerEnc
public import proofs.«01_k».proof.Proof.KerPatch
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Region5
public import proofs.«01_k».proof.Proof.Gen.KernelIdeal.Frame

@[expose] public section

set_option maxRecDepth 16384

noncomputable section

namespace Cert.Own.Ker

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Argument `a` of the launch. -/
abbrev arg (a : Ref sig .tc) : Buf (Elt Ideal) ((c : Thread nD τ).loc a) := m ((c : Thread nD τ).loc a)

/-- The first layer's output. -/
abbrev enc1 : Pix 112 112 128 := convS 112 112 (nhwc (arg m c main_arg0)) (arg m c main_arg1) (arg m c main_arg2)

/-- The second layer's output. -/
abbrev enc2 : Pix 56 56 128 := convS 56 56 (enc1 m c) (arg m c main_arg3) (arg m c main_arg4)

/-- The third layer's output. -/
abbrev enc3 : Pix 28 28 128 := convS 28 28 (enc2 m c) (arg m c main_arg5) (arg m c main_arg6)

/-- The latent of the launch's arguments. -/
abbrev lat : Pix 28 28 128 := latent (arg m c main_arg0) (arg m c main_arg1) (arg m c main_arg2) (arg m c main_arg3) (arg m c main_arg4) (arg m c main_arg5) (arg m c main_arg6) (arg m c main_arg7) (arg m c main_arg8)

/-- The codes of the launch's arguments. -/
abbrev cod : Pix 28 28 128 := codesOf (lat m c) (arg m c main_arg9)

/-- The windows before launch 0. -/
theorem windows (t : Fin 48) (n : Fin 2) (i j : Fin 112) : W3 m ρ c (Proc.devRef .tc main_v196) (ix2 t ⟨n.val * 12544 + i.val * 112 + j.val, by omega⟩)
    = pad1 (nhwc (arg m c main_arg0)) n (t.val / 12 + 2 * i.val) (t.val / 3 % 4 + 2 * j.val) ⟨t.val % 3, by omega⟩ :=
  (patches (W2 m ρ c) t n i j).trans (border0 (W0 m ρ c) n _ _ _)

/-- Launch 0 leaves the first layer's output. -/
theorem val0 (n : Fin 2) (i j : Fin 112) (o : Fin 128) : W4 m ρ c (Proc.devRef .tc main_v200) (ix2 ⟨n.val * 12544 + i.val * 112 + j.val, by omega⟩ o) = enc1 m c (ix4 n i j o) := by
  refine (congrFun ((W4_arr m ρ c 3).trans (reg0 (V3 m ρ) c)) _).trans ?_
  refine mmt_conv _ _ _ _ _ _ (fun kh kw ch n i j => (windows m ρ c _ n i j).trans ?_) (fun kh kw ch o => mat0 (W0 m ρ c) kh kw ch o) (fun o => bias0 (W0 m ρ c) o) n i j o
  have h1 : ((kh.val * 4 + kw.val) * 3 + ch.val) / 12 + 2 * i.val = 2 * i.val + kh.val := by omega
  have h2 : ((kh.val * 4 + kw.val) * 3 + ch.val) / 3 % 4 + 2 * j.val = 2 * j.val + kw.val := by omega
  have h3 : ((kh.val * 4 + kw.val) * 3 + ch.val) % 3 = ch.val := by omega
  refine (pad1_eq rfl n h1 h2 _).trans (congrArg _ (Fin.ext h3))

/-- The first layer's output as an array of images. -/
theorem img1 : (W5 m ρ c (Proc.devRef .tc main_v201) : S2x112x112x128.Idx → EReal) = enc1 m c := by
  funext y
  obtain ⟨n, i, j, o, rfl⟩ : ∃ n i j o, y = ix4 n i j o := ⟨_, _, _, _, eq_ix4 y⟩
  exact (fold1 (W4 m ρ c) n i j o).trans (val0 m ρ c n i j o)

/-- Launch 1 leaves the next layer's output. -/
theorem val1 : (W8 m ρ c (Proc.devRef .tc main_v215) : S2x56x56x128.Idx → EReal) = enc2 m c := by
  refine ((W8_arr m ρ c 6).trans (reg1 (V7 m ρ) c)).trans ?_
  refine conv16_conv rfl rfl _ _ _ _ _ _ _ _ _
    (fun n i j ch => (plane1_0 (W6 m ρ c) n i j ch).trans ((border1 (W4 m ρ c) n _ _ ch).trans (pad1_eq (img1 m ρ c) n (by dsimp only; omega) (by dsimp only; omega) ch)))
    (fun n i j ch => (plane1_1 (W6 m ρ c) n i j ch).trans ((border1 (W4 m ρ c) n _ _ ch).trans (pad1_eq (img1 m ρ c) n (by dsimp only; omega) (by dsimp only; omega) ch)))
    (fun n i j ch => (plane1_2 (W6 m ρ c) n i j ch).trans ((border1 (W4 m ρ c) n _ _ ch).trans (pad1_eq (img1 m ρ c) n (by dsimp only; omega) (by dsimp only; omega) ch)))
    (fun n i j ch => (plane1_3 (W6 m ρ c) n i j ch).trans ((border1 (W4 m ρ c) n _ _ ch).trans (pad1_eq (img1 m ρ c) n (by dsimp only; omega) (by dsimp only; omega) ch)))
    (fun kh kw ch o => (rows1 (W4 m ρ c) kh kw ch o).trans (congrFun (W4_args m ρ c main_arg3 (by decide)) _))
    (fun o => (bias1 (W4 m ρ c) o).trans (congrFun (W4_args m ρ c main_arg4 (by decide)) _))

/-- The second layer's output before launch 2. -/
theorem img2 : (W9 m ρ c (Proc.devRef .tc main_v215) : S2x56x56x128.Idx → EReal) = enc2 m c :=
  (W9_of m ρ c main_v215 (by decide)).trans (val1 m ρ c)

/-- Launch 2 leaves the next layer's output. -/
theorem val2 : (W12 m ρ c (Proc.devRef .tc main_v229) : S2x28x28x128.Idx → EReal) = enc3 m c := by
  refine ((W12_arr m ρ c 6).trans (reg2 (V11 m ρ) c)).trans ?_
  refine conv16_conv rfl rfl _ _ _ _ _ _ _ _ _
    (fun n i j ch => (plane2_0 (W10 m ρ c) n i j ch).trans ((border2 (W8 m ρ c) n _ _ ch).trans (pad1_eq (img2 m ρ c) n (by dsimp only; omega) (by dsimp only; omega) ch)))
    (fun n i j ch => (plane2_1 (W10 m ρ c) n i j ch).trans ((border2 (W8 m ρ c) n _ _ ch).trans (pad1_eq (img2 m ρ c) n (by dsimp only; omega) (by dsimp only; omega) ch)))
    (fun n i j ch => (plane2_2 (W10 m ρ c) n i j ch).trans ((border2 (W8 m ρ c) n _ _ ch).trans (pad1_eq (img2 m ρ c) n (by dsimp only; omega) (by dsimp only; omega) ch)))
    (fun n i j ch => (plane2_3 (W10 m ρ c) n i j ch).trans ((border2 (W8 m ρ c) n _ _ ch).trans (pad1_eq (img2 m ρ c) n (by dsimp only; omega) (by dsimp only; omega) ch)))
    (fun kh kw ch o => (rows2 (W8 m ρ c) kh kw ch o).trans (congrFun (W8_args m ρ c main_arg5 (by decide)) _))
    (fun o => (bias2 (W8 m ρ c) o).trans (congrFun (W8_args m ρ c main_arg6 (by decide)) _))

/-- Launch 3 leaves the latent. -/
theorem val3 (n : Fin 2) (i j : Fin 28) (o : Fin 128) : W14 m ρ c (Proc.devRef .tc main_v234) (ix2 ⟨n.val * 784 + i.val * 28 + j.val, by omega⟩ o) = lat m c (ix4 n i j o) := by
  refine (congrFun ((W14_arr m ρ c 3).trans (reg3 (V13 m ρ) c)) _).trans ?_
  exact mm_dense _ (enc3 m c) _ _ _ _ _ n i j (fun ch => (flat3 (W12 m ρ c) n i j ch).trans (congrFun (val2 m ρ c) _))
    (fun ch o => (mat3 (W12 m ρ c) ch o).trans (congrFun (W12_args m ρ c main_arg7 (by decide)) _))
    (fun o => (bias3 (W12 m ρ c) o).trans (congrFun (W12_args m ρ c main_arg8 (by decide)) _)) o

/-- The latent among the results, as written. -/
theorem out1 : (W15 m ρ c (Proc.devRef .tc main_v236) : S2x128x28x28.Idx → EReal) = nchw (lat m c) := by
  funext y
  obtain ⟨n, o, i, j, rfl⟩ : ∃ n o i j, y = ix4 n o i j := ⟨_, _, _, _, eq_ix4 y⟩
  exact (res4 (W14 m ρ c) n o i j).trans (val3 m ρ c n i j o)

/-- Launch 4 leaves the codes. -/
theorem val4 (n : Fin 2) (i j : Fin 28) (o : Fin 128) : W16 m ρ c (Proc.devRef .tc main_v237) (ix2 ⟨n.val * 784 + i.val * 28 + j.val, by omega⟩ o) = cod m c (ix4 n i j o) := by
  refine (congrFun ((W16_arr m ρ c 2).trans (reg4 (V15 m ρ) c)) _).trans ?_
  have e : V15 m ρ c main_arg9 = arg m c main_arg9 := W15_args m ρ c main_arg9 (by decide)
  rw [e]
  exact vq_codes _ (lat m c) _ (fun n i j ch => (congrFun (W15_of m ρ c main_v234 (by decide)) _).trans (val3 m ρ c n i j ch)) n i j o

/-- The codes among the results, as written. -/
theorem out2 : (W17 m ρ c (Proc.devRef .tc main_v239) : S2x128x28x28.Idx → EReal) = nchw (cod m c) := by
  funext y
  obtain ⟨n, o, i, j, rfl⟩ : ∃ n o i j, y = ix4 n o i j := ⟨_, _, _, _, eq_ix4 y⟩
  exact (res5 (W16 m ρ c) n o i j).trans (val4 m ρ c n i j o)

/-- The decoder's first layer. -/
abbrev dec1 : Pix 28 28 128 := dense (cod m c) (arg m c main_arg10) (arg m c main_arg11)

/-- Launch 5 leaves the decoder's first layer. -/
theorem val5 (n : Fin 2) (i j : Fin 28) (o : Fin 128) : W18 m ρ c (Proc.devRef .tc main_v245) (ix2 ⟨n.val * 784 + i.val * 28 + j.val, by omega⟩ o) = dec1 m c (ix4 n i j o) := by
  refine (congrFun ((W18_arr m ρ c 3).trans (reg5 (V17 m ρ) c)) _).trans ?_
  exact mm_dense _ (cod m c) _ _ _ _ _ n i j (fun ch => (congrFun (cast5 (W16 m ρ c)) _).trans (val4 m ρ c n i j ch))
    (fun ch o => (mat5 (W16 m ρ c) ch o).trans (congrFun (W16_args m ρ c main_arg10 (by decide)) _))
    (fun o => (bias5 (W16 m ρ c) o).trans (congrFun (W16_args m ρ c main_arg11 (by decide)) _)) o

end Cert.Own.Ker
-- ==== Proof.KerDec.lean ====
/- What the kernel's host operations between its decoder launches leave: the bordered array, the weights by phase, and the phases interleaved. -/
module

public import proofs.«01_k».proof.Proof.ConvMath
public import proofs.«01_k».proof.Proof.RefOps
public import proofs.«01_k».proof.Proof.KerEnc
public import proofs.«01_k».proof.Proof.Gen.KernelIdeal.Launch
public import Idealize.ShloMosaic.Lib.StableHlo.RunRead
public import Idealize.ShloMosaic.Lib.StableHlo.Predicate

@[expose] public section

set_option maxRecDepth 16384

noncomputable section

namespace Cert.Own.Ker

open Idealize.ShloMosaic Idealize.ShloMosaic.TcCoe Idealize.SL.Sem Idealize.ShloMosaic.StableHlo
open Cert.KernelIdeal Cert.KernelIdeal.Gen

variable (V : Valuation τ sig (Elt Ideal))

/-- The weights with one more row and column of zeros, at an entry. -/
theorem pad_corner (A : S4x4x128x128.Idx → EReal) {u : Shape} (v : u.Idx → EReal) (h : S4x4x128x128.Pads ![0, 0, 0, 0] ![1, 1, 0, 0] ![0, 0, 0, 0] S5x5x128x128)
    (hu : 0 < u.numel) (hv : v (Shape.Idx.first hu) = 0) (p q : Fin 5) (c o : Fin 128) :
    pad S5x5x128x128 ![0, 0, 0, 0] ![1, 1, 0, 0] ![0, 0, 0, 0] A v h hu (ix4 p q c o)
      = if g : p.val < 4 ∧ q.val < 4 then A (ix4 ⟨p.val, g.1⟩ ⟨q.val, g.2⟩ c o) else 0 := by
  unfold pad
  by_cases g : p.val < 4 ∧ q.val < 4
  · rw [dif_pos g]
    have hin : ∀ a : Fin 4, (![0, 0, 0, 0] : Fin 4 → ℕ) a ≤ ((ix4 p q c o : S5x5x128x128.Idx) a).val
        ∧ (((ix4 p q c o : S5x5x128x128.Idx) a).val - (![0, 0, 0, 0] : Fin 4 → ℕ) a) % ((![0, 0, 0, 0] : Fin 4 → ℕ) a + 1) = 0
        ∧ (((ix4 p q c o : S5x5x128x128.Idx) a).val - (![0, 0, 0, 0] : Fin 4 → ℕ) a) / ((![0, 0, 0, 0] : Fin 4 → ℕ) a + 1) < (![4, 4, 128, 128] : Fin 4 → ℕ) a := by
      intro a
      have := c.isLt
      have := o.isLt
      fin_cases a <;> simp <;> omega
    refine (dif_pos hin).trans (congrArg A (funext fun a => Fin.ext ?_))
    fin_cases a <;> simp
  · rw [dif_neg g]
    refine (dif_neg fun hin => g ?_).trans hv
    have h1 := (hin 0).2.2
    have h3 := (hin 1).2.2
    simp at h1 h3
    exact ⟨h1, h3⟩

/-- The weights gathered by row and column, at an entry. -/
theorem gather_taps (d : GatherDims S5x5x128x128 S3x2x3x2x2 S3x2x3x2x128x128) (h1 : d.offsetDims = [4, 5])
    (h2 : d.collapsedSliceDims = [0, 1]) (h3 : d.operandBatchingDims = []) (h4 : d.startIndicesBatchingDims = []) (h5 : d.startIndexMap = [0, 1])
    (h6 : d.indexVectorDim = 4) (h7 : d.sliceSizes = ![1, 1, 128, 128]) (x : S5x5x128x128.Idx → EReal) (idx : IVec S3x2x3x2x2 32)
    (u v : Fin 3) (a e : Fin 2) (c o : Fin 128) (p q : Fin 5) (hp : (idx (ix5 u a v e 0)).toInt.toNat = p.val) (hq : (idx (ix5 u a v e 1)).toInt.toNat = q.val) :
    Host.gather d x idx (ix6 u a v e c o) = x (ix4 p q c o) := by
  obtain ⟨e1, e2, e3, e4, e5, e6, e7, wf⟩ := d
  dsimp only at h1 h2 h3 h4 h5 h6 h7
  subst h1 h2 h3 h4 h5 h6 h7
  refine congrArg x (funext fun b => Fin.ext ?_)
  match b with
  | ⟨0, _⟩ =>
    show min (idx _).toInt.toNat (5 - 1) + 0 + 0 = p.val
    rw [show ∀ j, j = ix5 u a v e 0 → min (idx j).toInt.toNat (5 - 1) + 0 + 0 = p.val from fun j hj => by have := p.isLt; rw [hj, hp]; omega]
    funext b
    match b with
    | ⟨0, _⟩ => rfl
    | ⟨1, _⟩ => rfl
    | ⟨2, _⟩ => rfl
    | ⟨3, _⟩ => rfl
    | ⟨4, _⟩ => rfl
  | ⟨1, _⟩ =>
    show min (idx _).toInt.toNat (5 - 1) + 0 + 0 = q.val
    rw [show ∀ j, j = ix5 u a v e 1 → min (idx j).toInt.toNat (5 - 1) + 0 + 0 = q.val from fun j hj => by have := q.isLt; rw [hj, hq]; omega]
    funext b
    match b with
    | ⟨0, _⟩ => rfl
    | ⟨1, _⟩ => rfl
    | ⟨2, _⟩ => rfl
    | ⟨3, _⟩ => rfl
    | ⟨4, _⟩ => rfl
  | ⟨2, _⟩ => exact (Nat.zero_add _).trans rfl
  | ⟨3, _⟩ => exact (Nat.zero_add _).trans rfl

/-- The zero the borders of the narrow arrays are filled with. -/
theorem zero_fill16 : (sitofp (F := Ideal) .bf16 (constantI S_ 32 0#32)) (Shape.Idx.first (show 0 < S_.numel by decide)) = (0 : EReal) := by
  show ((((0#32 : BitVec 32).toInt : ℤ) : ℝ) : EReal) = 0
  simp

/-- Of two arrays joined along a last axis of length one each, the first. -/
theorem concat_first (A B : IVec S3x2x3x2x1 32) (h : Shape.Concatenates [S3x2x3x2x1, S3x2x3x2x1] S3x2x3x2x2 4) (u v : Fin 3) (a e : Fin 2) :
    concatenate S3x2x3x2x2 4 [⟨S3x2x3x2x1, A⟩, ⟨S3x2x3x2x1, B⟩] h (ix5 u a v e 0) = A (ix5 u a v e 0) := by
  pointwise []

/-- Of two arrays joined along a last axis of length one each, the second. -/
theorem concat_second (A B : IVec S3x2x3x2x1 32) (h : Shape.Concatenates [S3x2x3x2x1, S3x2x3x2x1] S3x2x3x2x2 4) (u v : Fin 3) (a e : Fin 2) :
    concatenate S3x2x3x2x2 4 [⟨S3x2x3x2x1, A⟩, ⟨S3x2x3x2x1, B⟩] h (ix5 u a v e 1) = B (ix5 u a v e 0) := by
  pointwise []

/-- The weights with their window axes first, at an entry. -/
theorem transpose_taps (A : S128x128x4x4.Idx → EReal) (p q : Fin 4) (c o : Fin 128) :
    transpose S4x4x128x128 [2, 3, 0, 1] A Gen.transposes_S128x128x4x4_S4x4x128x128_2_3_0_1 (ix4 p q c o) = A (ix4 c o p q) := by
  pointwise []

/-- The gathered weights as rows and columns, at an entry. -/
theorem rows_taps (A : S3x2x3x2x128x128.Idx → EReal) (u v : Fin 3) (a e : Fin 2) (c o : Fin 128) :
    shapeCast S1152x512 (transpose S3x3x128x2x2x128 [0, 2, 4, 1, 3, 5] A Gen.transposes_S3x2x3x2x128x128_S3x3x128x2x2x128_0_2_4_1_3_5) Gen.shapeCasts_S3x3x128x2x2x128_S1152x512
      (ix2 ⟨(u.val * 3 + v.val) * 128 + c.val, by omega⟩ ⟨(2 * a.val + e.val) * 128 + o.val, by omega⟩) = A (ix6 u a v e c o) := by
  pointwise []

/-- The table's entries, as signed words made nonnegative, are the rows each phase takes. -/
theorem table (u : Fin 3) (a : Fin 2) : (Scalar.select (IntOp.cmpi .slt (lit0 (S3x2.rowMajor (ix2 u a))) 0#32) (IntOp.addi (lit0 (S3x2.rowMajor (ix2 u a))) 5#32) (lit0 (S3x2.rowMajor (ix2 u a)))).toInt.toNat = (tapRow u a).val := by
  fin_cases u <;> fin_cases a <;> decide +kernel

/-- The buffers after the operations before launch 6. -/
abbrev X6 : Valuation τ sig (Elt Ideal) := after (hostOps6_4 (F := Ideal)) (after (hostOps6_3 (F := Ideal)) (after (hostOps6_2 (F := Ideal)) (after (hostOps6_1 (F := Ideal)) (after (hostOps6 (F := Ideal)) V))))

/-- The bordered array before launch 6. -/
theorem border6 (n : Fin 2) (r s : Fin 30) (c : Fin 128) : X6 V (Proc.devRef .tc main_v273) (ix4 n r s c)
    = pad1 (after (hostOps6 (F := Ideal)) V (Proc.devRef .tc main_v246) : S2x28x28x128.Idx → EReal) n r.val s.val c := by
  unfold X6
  after_reads_simp
  exact pad_border _ _ pads_S2x28x28x128_S2x30x30x128_000_110_110_000 h_S_ zero_fill16 n r s c

/-- The weights with zeros added before launch 6. -/
theorem corner6 (p q : Fin 5) (c o : Fin 128) : (after (hostOps6_1 (F := Ideal)) (after (hostOps6 (F := Ideal)) V)) (Proc.devRef .tc main_v248) (ix4 p q c o) = wz (V (Proc.devRef .tc main_arg12)) p q c o := by
  after_reads_simp
  refine (pad_corner _ _ pads_S4x4x128x128_S5x5x128x128_010_010_000_000 h_S_ zero_fill p q c o).trans ?_
  unfold wz
  by_cases g : p.val < 4 ∧ q.val < 4
  · rw [dif_pos g, dif_pos g]
    exact transpose_taps (V (Proc.devRef .tc main_arg12)) _ _ c o
  · rw [dif_neg g, dif_neg g]

/-- The rows taken before launch 6. -/
theorem starts6_0 (U : Valuation τ sig (Elt Ideal)) (hc : U (Proc.devRef .tc main_c) = fun i => lit0 (S3x2.rowMajor i)) (u v : Fin 3) (a e : Fin 2) :
    (BitVec.toInt (after (hostOps6_2 (F := Ideal)) U (Proc.devRef .tc main_v265) (ix5 u a v e 0))).toNat = (tapRow u a).val := by
  after_reads_simp
  rw [concat_first]
  rw [hc]
  refine Eq.trans ?_ (table u a)
  pointwise []

/-- The columns taken before launch 6. -/
theorem starts6_1 (U : Valuation τ sig (Elt Ideal)) (hc : U (Proc.devRef .tc main_c) = fun i => lit0 (S3x2.rowMajor i)) (u v : Fin 3) (a e : Fin 2) :
    (BitVec.toInt (after (hostOps6_2 (F := Ideal)) U (Proc.devRef .tc main_v265) (ix5 u a v e 1))).toNat = (tapRow v e).val := by
  after_reads_simp
  rw [concat_second]
  rw [hc]
  refine Eq.trans ?_ (table v e)
  pointwise []

/-- The gathered weights before launch 6. -/
theorem taps6 (U : Valuation τ sig (Elt Ideal)) (u v : Fin 3) (a e : Fin 2) (c o : Fin 128) :
    after (hostOps6_2 (F := Ideal)) U (Proc.devRef .tc main_v269) (ix2 ⟨(u.val * 3 + v.val) * 128 + c.val, by omega⟩ ⟨(2 * a.val + e.val) * 128 + o.val, by omega⟩)
      = after (hostOps6_2 (F := Ideal)) U (Proc.devRef .tc main_v266) (ix6 u a v e c o) := by
  after_reads_simp
  refine Eq.trans ?_ (rows_taps _ u v a e c o)
  rfl

/-- The weights by phase before launch 6. -/
theorem rows6 (hc : V (Proc.devRef .tc main_c) = fun i => lit0 (S3x2.rowMajor i)) (u v : Fin 3) (c : Fin 128) (a e : Fin 2) (o : Fin 128) :
    X6 V (Proc.devRef .tc main_v269) (ix2 ⟨(u.val * 3 + v.val) * 128 + c.val, by omega⟩ ⟨(2 * a.val + e.val) * 128 + o.val, by omega⟩)
      = wz (V (Proc.devRef .tc main_arg12)) (tapRow u a) (tapRow v e) c o := by
  have k : ∀ U : Valuation τ sig (Elt Ideal), after (hostOps6_4 (F := Ideal)) (after (hostOps6_3 (F := Ideal)) U) (Proc.devRef .tc main_v269) = U (Proc.devRef .tc main_v269) := fun U => by after_reads_simp
  have hc' : (after (hostOps6_1 (F := Ideal)) (after (hostOps6 (F := Ideal)) V)) (Proc.devRef .tc main_c) = fun i => lit0 (S3x2.rowMajor i) := by
    rw [← hc]
    after_reads_simp
  have gt : ∀ U : Valuation τ sig (Elt Ideal), after (hostOps6_2 (F := Ideal)) U (Proc.devRef .tc main_v266)
      = Host.gather gather_S5x5x128x128_S3x2x3x2x2_S3x2x3x2x128x128_45_01_n_n_01_4_11128128 (U (Proc.devRef .tc main_v248)) (after (hostOps6_2 (F := Ideal)) U (Proc.devRef .tc main_v265)) := fun U => by after_reads_simp
  refine (congrFun (k _) _).trans ((taps6 _ u v a e c o).trans ((congrFun (gt _) _).trans ?_))
  exact (gather_taps _ rfl rfl rfl rfl rfl rfl rfl _ _ u v a e c o _ _ (starts6_0 _ hc' u v a e) (starts6_1 _ hc' u v a e)).trans (corner6 V _ _ c o)

/-- The bias before launch 6. -/
theorem bias6 (a e : Fin 2) (o : Fin 128) : X6 V (Proc.devRef .tc main_v274) (ix2 0 ⟨(2 * a.val + e.val) * 128 + o.val, by omega⟩) = V (Proc.devRef .tc main_arg13) (ix1 o) := by
  unfold X6
  after_reads_simp
  pointwise []

/-- The buffers after the operations before launch 7. -/
abbrev X7 : Valuation τ sig (Elt Ideal) := after (hostOps7_4 (F := Ideal)) (after (hostOps7_3 (F := Ideal)) (after (hostOps7_2 (F := Ideal)) (after (hostOps7_1 (F := Ideal)) (after (hostOps7 (F := Ideal)) V))))

/-- The bordered array before launch 7. -/
theorem border7 (n : Fin 2) (r s : Fin 58) (c : Fin 128) : X7 V (Proc.devRef .tc main_v305) (ix4 n r s c)
    = pad1 (after (hostOps7 (F := Ideal)) V (Proc.devRef .tc main_v278) : S2x56x56x128.Idx → EReal) n r.val s.val c := by
  unfold X7
  after_reads_simp
  exact pad_border _ _ pads_S2x56x56x128_S2x58x58x128_000_110_110_000 h_S_ zero_fill16 n r s c

/-- The weights with zeros added before launch 7. -/
theorem corner7 (p q : Fin 5) (c o : Fin 128) : (after (hostOps7_1 (F := Ideal)) (after (hostOps7 (F := Ideal)) V)) (Proc.devRef .tc main_v280) (ix4 p q c o) = wz (V (Proc.devRef .tc main_arg14)) p q c o := by
  after_reads_simp
  refine (pad_corner _ _ pads_S4x4x128x128_S5x5x128x128_010_010_000_000 h_S_ zero_fill p q c o).trans ?_
  unfold wz
  by_cases g : p.val < 4 ∧ q.val < 4
  · rw [dif_pos g, dif_pos g]
    exact transpose_taps (V (Proc.devRef .tc main_arg14)) _ _ c o
  · rw [dif_neg g, dif_neg g]

/-- The rows taken before launch 7. -/
theorem starts7_0 (U : Valuation τ sig (Elt Ideal)) (hc : U (Proc.devRef .tc main_c) = fun i => lit0 (S3x2.rowMajor i)) (u v : Fin 3) (a e : Fin 2) :
    (BitVec.toInt (after (hostOps7_2 (F := Ideal)) U (Proc.devRef .tc main_v297) (ix5 u a v e 0))).toNat = (tapRow u a).val := by
  after_reads_simp
  rw [concat_first]
  rw [hc]
  refine Eq.trans ?_ (table u a)
  pointwise []

/-- The columns taken before launch 7. -/
theorem starts7_1 (U : Valuation τ sig (Elt Ideal)) (hc : U (Proc.devRef .tc main_c) = fun i => lit0 (S3x2.rowMajor i)) (u v : Fin 3) (a e : Fin 2) :
    (BitVec.toInt (after (hostOps7_2 (F := Ideal)) U (Proc.devRef .tc main_v297) (ix5 u a v e 1))).toNat = (tapRow v e).val := by
  after_reads_simp
  rw [concat_second]
  rw [hc]
  refine Eq.trans ?_ (table v e)
  pointwise []

/-- The gathered weights before launch 7. -/
theorem taps7 (U : Valuation τ sig (Elt Ideal)) (u v : Fin 3) (a e : Fin 2) (c o : Fin 128) :
    after (hostOps7_2 (F := Ideal)) U (Proc.devRef .tc main_v301) (ix2 ⟨(u.val * 3 + v.val) * 128 + c.val, by omega⟩ ⟨(2 * a.val + e.val) * 128 + o.val, by omega⟩)
      = after (hostOps7_2 (F := Ideal)) U (Proc.devRef .tc main_v298) (ix6 u a v e c o) := by
  after_reads_simp
  refine Eq.trans ?_ (rows_taps _ u v a e c o)
  rfl

/-- The weights by phase before launch 7. -/
theorem rows7 (hc : V (Proc.devRef .tc main_c) = fun i => lit0 (S3x2.rowMajor i)) (u v : Fin 3) (c : Fin 128) (a e : Fin 2) (o : Fin 128) :
    X7 V (Proc.devRef .tc main_v301) (ix2 ⟨(u.val * 3 + v.val) * 128 + c.val, by omega⟩ ⟨(2 * a.val + e.val) * 128 + o.val, by omega⟩)
      = wz (V (Proc.devRef .tc main_arg14)) (tapRow u a) (tapRow v e) c o := by
  have k : ∀ U : Valuation τ sig (Elt Ideal), after (hostOps7_4 (F := Ideal)) (after (hostOps7_3 (F := Ideal)) U) (Proc.devRef .tc main_v301) = U (Proc.devRef .tc main_v301) := fun U => by after_reads_simp
  have hc' : (after (hostOps7_1 (F := Ideal)) (after (hostOps7 (F := Ideal)) V)) (Proc.devRef .tc main_c) = fun i => lit0 (S3x2.rowMajor i) := by
    rw [← hc]
    after_reads_simp
  have gt : ∀ U : Valuation τ sig (Elt Ideal), after (hostOps7_2 (F := Ideal)) U (Proc.devRef .tc main_v298)
      = Host.gather gather_S5x5x128x128_S3x2x3x2x2_S3x2x3x2x128x128_45_01_n_n_01_4_11128128 (U (Proc.devRef .tc main_v280)) (after (hostOps7_2 (F := Ideal)) U (Proc.devRef .tc main_v297)) := fun U => by after_reads_simp
  refine (congrFun (k _) _).trans ((taps7 _ u v a e c o).trans ((congrFun (gt _) _).trans ?_))
  exact (gather_taps _ rfl rfl rfl rfl rfl rfl rfl _ _ u v a e c o _ _ (starts7_0 _ hc' u v a e) (starts7_1 _ hc' u v a e)).trans (corner7 V _ _ c o)

/-- The bias before launch 7. -/
theorem bias7 (a e : Fin 2) (o : Fin 128) : X7 V (Proc.devRef .tc main_v306) (ix2 0 ⟨(2 * a.val + e.val) * 128 + o.val, by omega⟩) = V (Proc.devRef .tc main_arg15) (ix1 o) := by
  unfold X7
  after_reads_simp
  pointwise []

/-- The buffers after the operations before launch 8. -/
abbrev X8 : Valuation τ sig (Elt Ideal) := after (hostOps8_4 (F := Ideal)) (after (hostOps8_3 (F := Ideal)) (after (hostOps8_2 (F := Ideal)) (after (hostOps8_1 (F := Ideal)) (after (hostOps8 (F := Ideal)) V))))

/-- The bordered array before launch 8. -/
theorem border8 (n : Fin 2) (r s : Fin 114) (c : Fin 128) : X8 V (Proc.devRef .tc main_v337) (ix4 n r s c)
    = pad1 (after (hostOps8 (F := Ideal)) V (Proc.devRef .tc main_v310) : S2x112x112x128.Idx → EReal) n r.val s.val c := by
  unfold X8
  after_reads_simp
  exact pad_border _ _ pads_S2x112x112x128_S2x114x114x128_000_110_110_000 h_S_ zero_fill16 n r s c

/-- The weights with zeros added before launch 8. -/
theorem corner8 (p q : Fin 5) (c o : Fin 128) : (after (hostOps8_1 (F := Ideal)) (after (hostOps8 (F := Ideal)) V)) (Proc.devRef .tc main_v312) (ix4 p q c o) = wz (V (Proc.devRef .tc main_arg16)) p q c o := by
  after_reads_simp
  refine (pad_corner _ _ pads_S4x4x128x128_S5x5x128x128_010_010_000_000 h_S_ zero_fill p q c o).trans ?_
  unfold wz
  by_cases g : p.val < 4 ∧ q.val < 4
  · rw [dif_pos g, dif_pos g]
    exact transpose_taps (V (Proc.devRef .tc main_arg16)) _ _ c o
  · rw [dif_neg g, dif_neg g]

/-- The rows taken before launch 8. -/
theorem starts8_0 (U : Valuation τ sig (Elt Ideal)) (hc : U (Proc.devRef .tc main_c) = fun i => lit0 (S3x2.rowMajor i)) (u v : Fin 3) (a e : Fin 2) :
    (BitVec.toInt (after (hostOps8_2 (F := Ideal)) U (Proc.devRef .tc main_v329) (ix5 u a v e 0))).toNat = (tapRow u a).val := by
  after_reads_simp
  rw [concat_first]
  rw [hc]
  refine Eq.trans ?_ (table u a)
  pointwise []

/-- The columns taken before launch 8. -/
theorem starts8_1 (U : Valuation τ sig (Elt Ideal)) (hc : U (Proc.devRef .tc main_c) = fun i => lit0 (S3x2.rowMajor i)) (u v : Fin 3) (a e : Fin 2) :
    (BitVec.toInt (after (hostOps8_2 (F := Ideal)) U (Proc.devRef .tc main_v329) (ix5 u a v e 1))).toNat = (tapRow v e).val := by
  after_reads_simp
  rw [concat_second]
  rw [hc]
  refine Eq.trans ?_ (table v e)
  pointwise []

/-- The gathered weights before launch 8. -/
theorem taps8 (U : Valuation τ sig (Elt Ideal)) (u v : Fin 3) (a e : Fin 2) (c o : Fin 128) :
    after (hostOps8_2 (F := Ideal)) U (Proc.devRef .tc main_v333) (ix2 ⟨(u.val * 3 + v.val) * 128 + c.val, by omega⟩ ⟨(2 * a.val + e.val) * 128 + o.val, by omega⟩)
      = after (hostOps8_2 (F := Ideal)) U (Proc.devRef .tc main_v330) (ix6 u a v e c o) := by
  after_reads_simp
  refine Eq.trans ?_ (rows_taps _ u v a e c o)
  rfl

/-- The weights by phase before launch 8. -/
theorem rows8 (hc : V (Proc.devRef .tc main_c) = fun i => lit0 (S3x2.rowMajor i)) (u v : Fin 3) (c : Fin 128) (a e : Fin 2) (o : Fin 128) :
    X8 V (Proc.devRef .tc main_v333) (ix2 ⟨(u.val * 3 + v.val) * 128 + c.val, by omega⟩ ⟨(2 * a.val + e.val) * 128 + o.val, by omega⟩)
      = wz (V (Proc.devRef .tc main_arg16)) (tapRow u a) (tapRow v e) c o := by
  have k : ∀ U : Valuation τ sig (Elt Ideal), after (hostOps8_4 (F := Ideal)) (after (hostOps8_3 (F := Ideal)) U) (Proc.devRef .tc main_v333) = U (Proc.devRef .tc main_v333) := fun U => by after_reads_simp
  have hc' : (after (hostOps8_1 (F := Ideal)) (after (hostOps8 (F := Ideal)) V)) (Proc.devRef .tc main_c) = fun i => lit0 (S3x2.rowMajor i) := by
    rw [← hc]
    after_reads_simp
  have gt : ∀ U : Valuation τ sig (Elt Ideal), after (hostOps8_2 (F := Ideal)) U (Proc.devRef .tc main_v330)
      = Host.gather gather_S5x5x128x128_S3x2x3x2x2_S3x2x3x2x128x128_45_01_n_n_01_4_11128128 (U (Proc.devRef .tc main_v312)) (after (hostOps8_2 (F := Ideal)) U (Proc.devRef .tc main_v329)) := fun U => by after_reads_simp
  refine (congrFun (k _) _).trans ((taps8 _ u v a e c o).trans ((congrFun (gt _) _).trans ?_))
  exact (gather_taps _ rfl rfl rfl rfl rfl rfl rfl _ _ u v a e c o _ _ (starts8_0 _ hc' u v a e) (starts8_1 _ hc' u v a e)).trans (corner8 V _ _ c o)

/-- The bias before launch 8. -/
theorem bias8 (a e : Fin 2) (o : Fin 128) : X8 V (Proc.devRef .tc main_v338) (ix2 0 ⟨(2 * a.val + e.val) * 128 + o.val, by omega⟩) = V (Proc.devRef .tc main_arg17) (ix1 o) := by
  unfold X8
  after_reads_simp
  pointwise []

/-- The rows of the decoder's first layer as an array of images. -/
theorem fold6 (n : Fin 2) (i j : Fin 28) (c : Fin 128) : after (hostOps6 (F := Ideal)) V (Proc.devRef .tc main_v246) (ix4 n i j c)
    = V (Proc.devRef .tc main_v245) (ix2 ⟨n.val * 784 + i.val * 28 + j.val, by omega⟩ c) := by
  after_reads_simp
  pointwise []

/-- The phases of launch 6 interleaved. -/
theorem unphase7 (n : Fin 2) (i j : Fin 28) (a e : Fin 2) (o : Fin 128) :
    after (hostOps7 (F := Ideal)) V (Proc.devRef .tc main_v278) (ix4 n ⟨2 * i.val + a.val, by omega⟩ ⟨2 * j.val + e.val, by omega⟩ o)
      = V (Proc.devRef .tc main_v275) (ix4 n i j ⟨(2 * a.val + e.val) * 128 + o.val, by omega⟩) := by
  after_reads_simp
  pointwise []
  exact congrArg (fun z => V (Proc.devRef .tc main_v275) (ix4 n i j z)) (Fin.ext (by dsimp only; omega))

/-- The phases of launch 7 interleaved. -/
theorem unphase8 (n : Fin 2) (i j : Fin 56) (a e : Fin 2) (o : Fin 128) :
    after (hostOps8 (F := Ideal)) V (Proc.devRef .tc main_v310) (ix4 n ⟨2 * i.val + a.val, by omega⟩ ⟨2 * j.val + e.val, by omega⟩ o)
      = V (Proc.devRef .tc main_v307) (ix4 n i j ⟨(2 * a.val + e.val) * 128 + o.val, by omega⟩) := by
  after_reads_simp
  pointwise []
  exact congrArg (fun z => V (Proc.devRef .tc main_v307) (ix4 n i j z)) (Fin.ext (by dsimp only; omega))

/-- The phases of launch 8 interleaved. -/
theorem unphase9 (n : Fin 2) (i j : Fin 112) (a e : Fin 2) (o : Fin 128) :
    after (hostOps9 (F := Ideal)) V (Proc.devRef .tc main_v342) (ix4 n ⟨2 * i.val + a.val, by omega⟩ ⟨2 * j.val + e.val, by omega⟩ o)
      = V (Proc.devRef .tc main_v339) (ix4 n i j ⟨(2 * a.val + e.val) * 128 + o.val, by omega⟩) := by
  after_reads_simp
  pointwise []
  exact congrArg (fun z => V (Proc.devRef .tc main_v339) (ix4 n i j z)) (Fin.ext (by dsimp only; omega))

/-- The buffers after the operations before the last launch. -/
abbrev X9 : Valuation τ sig (Elt Ideal) := after (hostOps9_4 (F := Ideal)) (after (hostOps9_3 (F := Ideal)) (after (hostOps9_2 (F := Ideal)) (after (hostOps9_1 (F := Ideal)) (after (hostOps9 (F := Ideal)) V))))

/-- The decoded array as rows. -/
theorem flat9 (n : Fin 2) (p q : Fin 224) (c : Fin 128) : X9 V (Proc.devRef .tc main_v347) (ix2 ⟨n.val * 50176 + p.val * 224 + q.val, by omega⟩ c)
    = after (hostOps9 (F := Ideal)) V (Proc.devRef .tc main_v342) (ix4 n p q c) := by
  have k : ∀ U : Valuation τ sig (Elt Ideal), after (hostOps9_4 (F := Ideal)) (after (hostOps9_3 (F := Ideal)) (after (hostOps9_2 (F := Ideal)) (after (hostOps9_1 (F := Ideal)) U))) (Proc.devRef .tc main_v347) (ix2 ⟨n.val * 50176 + p.val * 224 + q.val, by omega⟩ c)
      = U (Proc.devRef .tc main_v342) (ix4 n p q c) := fun U => by
    after_reads_simp
    pointwise []
  exact k _

/-- A matrix with more columns, at one of its own columns. -/
theorem pad_cols (A : S128x3.Idx → EReal) {u : Shape} (v : u.Idx → EReal) (h : S128x3.Pads ![0, 0] ![0, 5] ![0, 0] S128x8)
    (hu : 0 < u.numel) (c : Fin 128) (o : Fin 3) : pad S128x8 ![0, 0] ![0, 5] ![0, 0] A v h hu (ix2 c ⟨o.val, by omega⟩) = A (ix2 c o) := by
  unfold pad
  have hin : ∀ a : Fin 2, (![0, 0] : Fin 2 → ℕ) a ≤ ((ix2 c ⟨o.val, by omega⟩ : S128x8.Idx) a).val
      ∧ (((ix2 c ⟨o.val, by omega⟩ : S128x8.Idx) a).val - (![0, 0] : Fin 2 → ℕ) a) % ((![0, 0] : Fin 2 → ℕ) a + 1) = 0
      ∧ (((ix2 c ⟨o.val, by omega⟩ : S128x8.Idx) a).val - (![0, 0] : Fin 2 → ℕ) a) / ((![0, 0] : Fin 2 → ℕ) a + 1) < (![128, 3] : Fin 2 → ℕ) a := by
    intro a
    have := c.isLt
    have := o.isLt
    fin_cases a <;> simp [Nat.mod_one]
  refine (dif_pos hin).trans (congrArg A (funext fun a => Fin.ext ?_))
  fin_cases a <;> simp

/-- A vector with more entries, at one of its own. -/
theorem pad_vec (A : S3.Idx → EReal) {u : Shape} (v : u.Idx → EReal) (h : S3.Pads ![0] ![5] ![0] S8)
    (hu : 0 < u.numel) (o : Fin 3) : pad S8 ![0] ![5] ![0] A v h hu (ix1 ⟨o.val, by omega⟩) = A (ix1 o) := by
  unfold pad
  have hin : ∀ a : Fin 1, (![0] : Fin 1 → ℕ) a ≤ ((ix1 ⟨o.val, by omega⟩ : S8.Idx) a).val
      ∧ (((ix1 ⟨o.val, by omega⟩ : S8.Idx) a).val - (![0] : Fin 1 → ℕ) a) % ((![0] : Fin 1 → ℕ) a + 1) = 0
      ∧ (((ix1 ⟨o.val, by omega⟩ : S8.Idx) a).val - (![0] : Fin 1 → ℕ) a) / ((![0] : Fin 1 → ℕ) a + 1) < (![3] : Fin 1 → ℕ) a := by
    intro a
    have := o.isLt
    fin_cases a <;> simp [Nat.mod_one]
  refine (dif_pos hin).trans (congrArg A (funext fun a => Fin.ext ?_))
  fin_cases a <;> simp

/-- The one-by-one weights as a matrix, at an entry. -/
theorem mat_taps (A : S3x128x1x1.Idx → EReal) (c : Fin 128) (o : Fin 3) :
    transpose S128x3 [1, 0] (shapeCast S3x128 A Gen.shapeCasts_S3x128x1x1_S3x128) Gen.transposes_S3x128_S128x3_1_0 (ix2 c o) = A (ix4 o c 0 0) := by
  pointwise []

/-- A vector as a row, at an entry. -/
theorem row_vec (A : S8.Idx → EReal) (o : Fin 8) : shapeCast S1x8 A Gen.shapeCasts_S8_S1x8 (ix2 0 o) = A (ix1 o) := by
  pointwise []

/-- The last layer's weights as a matrix. -/
theorem mat9 (c : Fin 128) (o : Fin 3) : X9 V (Proc.devRef .tc main_v348) (ix2 c ⟨o.val, by omega⟩) = V (Proc.devRef .tc main_arg18) (ix4 o c 0 0) := by
  unfold X9
  after_reads_simp
  exact (pad_cols _ _ pads_S128x3_S128x8_000_050 h_S_ c o).trans (mat_taps _ c o)

/-- The last layer's bias as a row. -/
theorem bias9 (o : Fin 3) : X9 V (Proc.devRef .tc main_v349) (ix2 0 ⟨o.val, by omega⟩) = V (Proc.devRef .tc main_arg19) (ix1 o) := by
  unfold X9
  after_reads_simp
  exact (row_vec _ _).trans (pad_vec _ _ pads_S3_S8_050 h_S_ o)

/-- The image among the results. -/
theorem res10 (n : Fin 2) (c : Fin 3) (p q : Fin 224) : after (hostOps10 (F := Ideal)) V (Proc.devRef .tc main_v353) (ix4 n c p q)
    = V (Proc.devRef .tc main_v350) (ix2 ⟨n.val * 50176 + p.val * 224 + q.val, by omega⟩ ⟨c.val, by omega⟩) := by
  after_reads_simp
  pointwise []

end Cert.Own.Ker
end
-- ==== Proof.Region6.lean ====
/- The first transposed convolution's launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

/-- What the body stores at one output position, from the values it read. -/
theorem pay6 (v4 v14 v24 v34 v44 v54 v64 v74 v84 : Vec Ideal S1x28x28x128 .bf16) (w0 w1 w2 w3 w4 w5 w6 w7 w8: Vec Ideal S128x512 .bf16) (b : Vec Ideal S1x512 .f32) (r : Fin 28) (s : Fin 28) (o : Fin 512) :
    k6_pay3 (F := Ideal) (k6_pay2 (k6_pay1 v4 w0 v14 w1 v24 w2) v34 w3 v44 w4 v54 w5) v64 w6 v74 w7 v84 w8 b (ix4 0 r s o) = max (∑ x : Fin 128, v4 (ix4 0 r s x) * w0 (ix2 x o) + ∑ x : Fin 128, v14 (ix4 0 r s x) * w1 (ix2 x o)
     + ∑ x : Fin 128, v24 (ix4 0 r s x) * w2 (ix2 x o) + ∑ x : Fin 128, v34 (ix4 0 r s x) * w3 (ix2 x o) + ∑ x : Fin 128, v44 (ix4 0 r s x) * w4 (ix2 x o) + ∑ x : Fin 128, v54 (ix4 0 r s x) * w5 (ix2 x o)
     + ∑ x : Fin 128, v64 (ix4 0 r s x) * w6 (ix2 x o) + ∑ x : Fin 128, v74 (ix4 0 r s x) * w7 (ix2 x o) + ∑ x : Fin 128, v84 (ix4 0 r s x) * w8 (ix2 x o) + b (ix2 0 o)) 0 := by
  pointwise [k6_pay1, k6_pay2, k6_pay3]

variable (V : (c : Dev nD) → (b : Ref sig .tc) → Buf (Elt Ideal) ((c : Thread nD τ).loc b))

/-- The block every grid point takes of each array. -/
theorem idx6 : ∀ t : Fin cfg6.N, win6_0.index t = ![t.val, 0, 0, 0] ∧ win6_1.index t = ![0, 0] ∧ win6_2.index t = ![0, 0] ∧ win6_3.index t = ![t.val, 0, 0, 0] := by decide +kernel
/-- Where the left column of windows starts. -/
theorem off6_1 : ∀ t : Fin cfg6.N, k6_off1 (grid6.coords t) 0#32 = ![0,0,0,0] ∧ k6_off1 (grid6.coords t) 1#32 = ![0,1,0,0] ∧ k6_off1 (grid6.coords t) 2#32 = ![0,2,0,0] := by decide +kernel
/-- Where the middle column of windows starts. -/
theorem off6_2 : ∀ t : Fin cfg6.N, k6_off2 (grid6.coords t) 0#32 = ![0,0,1,0] ∧ k6_off2 (grid6.coords t) 1#32 = ![0,1,1,0] ∧ k6_off2 (grid6.coords t) 2#32 = ![0,2,1,0] := by decide +kernel
/-- Where the right column of windows starts. -/
theorem off6_3 : ∀ t : Fin cfg6.N, k6_off3 (grid6.coords t) 0#32 = ![0,0,2,0] ∧ k6_off3 (grid6.coords t) 1#32 = ![0,1,2,0] ∧ k6_off3 (grid6.coords t) 2#32 = ![0,2,2,0] := by decide +kernel

/-- A window read from the block, as an entry of the padded array. -/
theorem ldA6 (c : Dev nD) (t : Fin cfg6.N) (ht : t.val < 2) (off : Fin 4 → ℕ) (u v : ℕ) (ho : off = ![0, u, v, 0]) (hu : u + 28 ≤ 30) (hv : v + 28 ≤ 30) (h) (r s : Fin 28) (x : Fin 128) :
    View.ld (iblk6 V c 0 t) (Rect.unit off S1x28x28x128.size h) (ix4 0 r s x) = at4 (V c main_v273) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk6, idx6 t]

/-- A slab of weights read from the block. -/
theorem ldW6 (c : Dev nD) (t : Fin cfg6.N) (q : ℕ) (hq : q + 128 ≤ 1152) (h) (x : Fin 128) (o : Fin 512) :
    View.ld (iblk6 V c 1 t) (Rect.unit ![q, 0] S128x512.size h) (ix2 x o) = V c main_v269 (ix2 (⟨q + x.val, by omega⟩ : Fin 1152) o) := by
  refine (View.ld_unit_apply_of _ _ _ _ _ (ix2 (⟨q + x.val, by omega⟩ : Fin 1152) o) (fun a => by fin_cases a <;> simp <;> omega)).trans ?_
  blk_ext [iblk6, idx6 t]

/-- The bias row read from the block. -/
theorem ldB6 (c : Dev nD) (t : Fin cfg6.N) (o : Fin 512) :
    iblk6 V c 2 t (ix2 0 o) = V c main_v274 (ix2 0 o) := by
  blk_ext [iblk6, idx6 t]

/-- The stored value at one position is the nine-tap sum. -/
theorem body6 (c : Dev nD) (t : Fin cfg6.N) (ht : t.val < 2) (y1 y2 : Fin 28) (y3 : Fin 512) :
  k6_pay3 (F := Ideal)
        (k6_pay2
          (k6_pay1 (View.ld (iblk6 V c 0 t) (Rect.unit (k6_off1 (grid6.coords t) 0#32) S1x28x28x128.size (k6_off1_inb _ 0)))
            (View.ld (iblk6 V c 1 t) (Rect.unit ![0, 0] S128x512.size inb_S1152x512_S128x512_0_0))
            (View.ld (iblk6 V c 0 t) (Rect.unit (k6_off2 (grid6.coords t) 0#32) S1x28x28x128.size (k6_off2_inb _ 0)))
            (View.ld (iblk6 V c 1 t) (Rect.unit ![128, 0] S128x512.size inb_S1152x512_S128x512_128_0))
            (View.ld (iblk6 V c 0 t) (Rect.unit (k6_off3 (grid6.coords t) 0#32) S1x28x28x128.size (k6_off3_inb _ 0)))
            (View.ld (iblk6 V c 1 t) (Rect.unit ![256, 0] S128x512.size inb_S1152x512_S128x512_256_0)))
          (View.ld (iblk6 V c 0 t) (Rect.unit (k6_off1 (grid6.coords t) 1#32) S1x28x28x128.size (k6_off1_inb _ 1)))
          (View.ld (iblk6 V c 1 t) (Rect.unit ![384, 0] S128x512.size inb_S1152x512_S128x512_384_0))
          (View.ld (iblk6 V c 0 t) (Rect.unit (k6_off2 (grid6.coords t) 1#32) S1x28x28x128.size (k6_off2_inb _ 1)))
          (View.ld (iblk6 V c 1 t) (Rect.unit ![512, 0] S128x512.size inb_S1152x512_S128x512_512_0))
          (View.ld (iblk6 V c 0 t) (Rect.unit (k6_off3 (grid6.coords t) 1#32) S1x28x28x128.size (k6_off3_inb _ 1)))
          (View.ld (iblk6 V c 1 t) (Rect.unit ![640, 0] S128x512.size inb_S1152x512_S128x512_640_0)))
        (View.ld (iblk6 V c 0 t) (Rect.unit (k6_off1 (grid6.coords t) 2#32) S1x28x28x128.size (k6_off1_inb _ 2)))
        (View.ld (iblk6 V c 1 t) (Rect.unit ![768, 0] S128x512.size inb_S1152x512_S128x512_768_0))
        (View.ld (iblk6 V c 0 t) (Rect.unit (k6_off2 (grid6.coords t) 2#32) S1x28x28x128.size (k6_off2_inb _ 2)))
        (View.ld (iblk6 V c 1 t) (Rect.unit ![896, 0] S128x512.size inb_S1152x512_S128x512_896_0))
        (View.ld (iblk6 V c 0 t) (Rect.unit (k6_off3 (grid6.coords t) 2#32) S1x28x28x128.size (k6_off3_inb _ 2)))
        (View.ld (iblk6 V c 1 t) (Rect.unit ![1024, 0] S128x512.size inb_S1152x512_S128x512_1024_0)) (iblk6 V c 2 t)
      (ix4 0 y1 y2 y3) = conv9 (V c main_v273) (V c main_v269) (V c main_v274) (⟨t.val, ht⟩ : Fin 2) y1.val y2.val y3 := by
  rw [pay6]
  unfold conv9 tap3
  obtain ⟨h10, h11, h12⟩ := off6_1 t
  obtain ⟨h20, h21, h22⟩ := off6_2 t
  obtain ⟨h30, h31, h32⟩ := off6_3 t
  rw [ldB6]
  simp only [ldA6 V c t ht _ 0 0 h10 (by decide) (by decide), ldA6 V c t ht _ 0 1 h20 (by decide) (by decide), ldA6 V c t ht _ 0 2 h30 (by decide) (by decide),
    ldA6 V c t ht _ 1 0 h11 (by decide) (by decide), ldA6 V c t ht _ 1 1 h21 (by decide) (by decide), ldA6 V c t ht _ 1 2 h31 (by decide) (by decide),
    ldA6 V c t ht _ 2 0 h12 (by decide) (by decide), ldA6 V c t ht _ 2 1 h22 (by decide) (by decide), ldA6 V c t ht _ 2 2 h32 (by decide) (by decide),
    ldW6 V c t 0 (by decide), ldW6 V c t 128 (by decide), ldW6 V c t 256 (by decide), ldW6 V c t 384 (by decide), ldW6 V c t 512 (by decide),
    ldW6 V c t 640 (by decide), ldW6 V c t 768 (by decide), ldW6 V c t 896 (by decide), ldW6 V c t 1024 (by decide)]

set_option maxHeartbeats 1000000 in
/-- What the launch leaves in its output array. -/
theorem reg6 (c : Dev nD) : (dat6 V c).arrAt 3 cfg6.N = (conv9G (V c main_v273) (V c main_v269) (V c main_v274) : S2x28x28x512.Idx → EReal) := by
  refine (dat6 V c).arrAt_eq_of_covers 3 (conv9G (V c main_v273) (V c main_v269) (V c main_v274) : S2x28x28x512.Idx → EReal) (by decide +kernel) fun t hf y => ?_
  blk_simp
  rw [after6_3]
  unfold outsAt6 out6_A_3 kernelRun6_A
  frame_out
  idx_vars y
  obtain rfl : y0 = 0 := Subsingleton.elim _ _
  have ht : t.val < 2 := lt_of_lt_of_eq t.isLt N_6
  have he : ((win6_3.blk t).view.emb (ix4 0 y1 y2 y3)) = ix4 ⟨t.val, ht⟩ y1 y2 y3 := by blk_ext [idx6 t]
  refine Eq.trans ?_ (congrArg (conv9G (V c main_v273) (V c main_v269) (V c main_v274) : S2x28x28x512.Idx → EReal) he).symm
  rw [conv9G_ix4]
  exact body6 V c t ht y1 y2 y3
end Cert.Own
end
-- ==== Proof.Region7.lean ====
/- The second transposed convolution's launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

/-- What the body stores at one output position, from the values it read. -/
theorem pay7 (v4 v14 v24 v34 v44 v54 v64 v74 v84 : Vec Ideal S1x56x56x128 .bf16) (w0 w1 w2 w3 w4 w5 w6 w7 w8: Vec Ideal S128x512 .bf16) (b : Vec Ideal S1x512 .f32) (r : Fin 56) (s : Fin 56) (o : Fin 512) :
    k7_pay3 (F := Ideal) (k7_pay2 (k7_pay1 v4 w0 v14 w1 v24 w2) v34 w3 v44 w4 v54 w5) v64 w6 v74 w7 v84 w8 b (ix4 0 r s o) = max (∑ x : Fin 128, v4 (ix4 0 r s x) * w0 (ix2 x o) + ∑ x : Fin 128, v14 (ix4 0 r s x) * w1 (ix2 x o)
     + ∑ x : Fin 128, v24 (ix4 0 r s x) * w2 (ix2 x o) + ∑ x : Fin 128, v34 (ix4 0 r s x) * w3 (ix2 x o) + ∑ x : Fin 128, v44 (ix4 0 r s x) * w4 (ix2 x o) + ∑ x : Fin 128, v54 (ix4 0 r s x) * w5 (ix2 x o)
     + ∑ x : Fin 128, v64 (ix4 0 r s x) * w6 (ix2 x o) + ∑ x : Fin 128, v74 (ix4 0 r s x) * w7 (ix2 x o) + ∑ x : Fin 128, v84 (ix4 0 r s x) * w8 (ix2 x o) + b (ix2 0 o)) 0 := by
  pointwise [k7_pay1, k7_pay2, k7_pay3]

variable (V : (c : Dev nD) → (b : Ref sig .tc) → Buf (Elt Ideal) ((c : Thread nD τ).loc b))

/-- The block every grid point takes of each array. -/
theorem idx7 : ∀ t : Fin cfg7.N, win7_0.index t = ![t.val, 0, 0, 0] ∧ win7_1.index t = ![0, 0] ∧ win7_2.index t = ![0, 0] ∧ win7_3.index t = ![t.val, 0, 0, 0] := by decide +kernel
/-- Where the left column of windows starts. -/
theorem off7_1 : ∀ t : Fin cfg7.N, k7_off1 (grid7.coords t) 0#32 = ![0,0,0,0] ∧ k7_off1 (grid7.coords t) 1#32 = ![0,1,0,0] ∧ k7_off1 (grid7.coords t) 2#32 = ![0,2,0,0] := by decide +kernel
/-- Where the middle column of windows starts. -/
theorem off7_2 : ∀ t : Fin cfg7.N, k7_off2 (grid7.coords t) 0#32 = ![0,0,1,0] ∧ k7_off2 (grid7.coords t) 1#32 = ![0,1,1,0] ∧ k7_off2 (grid7.coords t) 2#32 = ![0,2,1,0] := by decide +kernel
/-- Where the right column of windows starts. -/
theorem off7_3 : ∀ t : Fin cfg7.N, k7_off3 (grid7.coords t) 0#32 = ![0,0,2,0] ∧ k7_off3 (grid7.coords t) 1#32 = ![0,1,2,0] ∧ k7_off3 (grid7.coords t) 2#32 = ![0,2,2,0] := by decide +kernel

/-- A window read from the block, as an entry of the padded array. -/
theorem ldA7 (c : Dev nD) (t : Fin cfg7.N) (ht : t.val < 2) (off : Fin 4 → ℕ) (u v : ℕ) (ho : off = ![0, u, v, 0]) (hu : u + 56 ≤ 58) (hv : v + 56 ≤ 58) (h) (r s : Fin 56) (x : Fin 128) :
    View.ld (iblk7 V c 0 t) (Rect.unit off S1x56x56x128.size h) (ix4 0 r s x) = at4 (V c main_v305) (⟨t.val, ht⟩ : Fin 2) (r.val + u) (s.val + v) x := by
  subst ho
  rw [at4_lt _ _ _ _ _ (by omega) (by omega)]
  refine (View.ld_unit_apply_of _ _ _ _ _ (ix4 0 ⟨r.val + u, by omega⟩ ⟨s.val + v, by omega⟩ x) (fun a => by fin_cases a <;> simp <;> omega)).trans ?_
  blk_ext [iblk7, idx7 t]

/-- A slab of weights read from the block. -/
theorem ldW7 (c : Dev nD) (t : Fin cfg7.N) (q : ℕ) (hq : q + 128 ≤ 1152) (h) (x : Fin 128) (o : Fin 512) :
    View.ld (iblk7 V c 1 t) (Rect.unit ![q, 0] S128x512.size h) (ix2 x o) = V c main_v301 (ix2 (⟨q + x.val, by omega⟩ : Fin 1152) o) := by
  refine (View.ld_unit_apply_of _ _ _ _ _ (ix2 (⟨q + x.val, by omega⟩ : Fin 1152) o) (fun a => by fin_cases a <;> simp <;> omega)).trans ?_
  blk_ext [iblk7, idx7 t]

/-- The bias row read from the block. -/
theorem ldB7 (c : Dev nD) (t : Fin cfg7.N) (o : Fin 512) :
    iblk7 V c 2 t (ix2 0 o) = V c main_v306 (ix2 0 o) := by
  blk_ext [iblk7, idx7 t]

/-- The stored value at one position is the nine-tap sum. -/
theorem body7 (c : Dev nD) (t : Fin cfg7.N) (ht : t.val < 2) (y1 y2 : Fin 56) (y3 : Fin 512) :
  k7_pay3 (F := Ideal)
        (k7_pay2
          (k7_pay1 (View.ld (iblk7 V c 0 t) (Rect.unit (k7_off1 (grid7.coords t) 0#32) S1x56x56x128.size (k7_off1_inb _ 0)))
            (View.ld (iblk7 V c 1 t) (Rect.unit ![0, 0] S128x512.size inb_S1152x512_S128x512_0_0))
            (View.ld (iblk7 V c 0 t) (Rect.unit (k7_off2 (grid7.coords t) 0#32) S1x56x56x128.size (k7_off2_inb _ 0)))
            (View.ld (iblk7 V c 1 t) (Rect.unit ![128, 0] S128x512.size inb_S1152x512_S128x512_128_0))
            (View.ld (iblk7 V c 0 t) (Rect.unit (k7_off3 (grid7.coords t) 0#32) S1x56x56x128.size (k7_off3_inb _ 0)))
            (View.ld (iblk7 V c 1 t) (Rect.unit ![256, 0] S128x512.size inb_S1152x512_S128x512_256_0)))
          (View.ld (iblk7 V c 0 t) (Rect.unit (k7_off1 (grid7.coords t) 1#32) S1x56x56x128.size (k7_off1_inb _ 1)))
          (View.ld (iblk7 V c 1 t) (Rect.unit ![384, 0] S128x512.size inb_S1152x512_S128x512_384_0))
          (View.ld (iblk7 V c 0 t) (Rect.unit (k7_off2 (grid7.coords t) 1#32) S1x56x56x128.size (k7_off2_inb _ 1)))
          (View.ld (iblk7 V c 1 t) (Rect.unit ![512, 0] S128x512.size inb_S1152x512_S128x512_512_0))
          (View.ld (iblk7 V c 0 t) (Rect.unit (k7_off3 (grid7.coords t) 1#32) S1x56x56x128.size (k7_off3_inb _ 1)))
          (View.ld (iblk7 V c 1 t) (Rect.unit ![640, 0] S128x512.size inb_S1152x512_S128x512_640_0)))
        (View.ld (iblk7 V c 0 t) (Rect.unit (k7_off1 (grid7.coords t) 2#32) S1x56x56x128.size (k7_off1_inb _ 2)))
        (View.ld (iblk7 V c 1 t) (Rect.unit ![768, 0] S128x512.size inb_S1152x512_S128x512_768_0))
        (View.ld (iblk7 V c 0 t) (Rect.unit (k7_off2 (grid7.coords t) 2#32) S1x56x56x128.size (k7_off2_inb _ 2)))
        (View.ld (iblk7 V c 1 t) (Rect.unit ![896, 0] S128x512.size inb_S1152x512_S128x512_896_0))
        (View.ld (iblk7 V c 0 t) (Rect.unit (k7_off3 (grid7.coords t) 2#32) S1x56x56x128.size (k7_off3_inb _ 2)))
        (View.ld (iblk7 V c 1 t) (Rect.unit ![1024, 0] S128x512.size inb_S1152x512_S128x512_1024_0)) (iblk7 V c 2 t)
      (ix4 0 y1 y2 y3) = conv9 (V c main_v305) (V c main_v301) (V c main_v306) (⟨t.val, ht⟩ : Fin 2) y1.val y2.val y3 := by
  rw [pay7]
  unfold conv9 tap3
  obtain ⟨h10, h11, h12⟩ := off7_1 t
  obtain ⟨h20, h21, h22⟩ := off7_2 t
  obtain ⟨h30, h31, h32⟩ := off7_3 t
  rw [ldB7]
  simp only [ldA7 V c t ht _ 0 0 h10 (by decide) (by decide), ldA7 V c t ht _ 0 1 h20 (by decide) (by decide), ldA7 V c t ht _ 0 2 h30 (by decide) (by decide),
    ldA7 V c t ht _ 1 0 h11 (by decide) (by decide), ldA7 V c t ht _ 1 1 h21 (by decide) (by decide), ldA7 V c t ht _ 1 2 h31 (by decide) (by decide),
    ldA7 V c t ht _ 2 0 h12 (by decide) (by decide), ldA7 V c t ht _ 2 1 h22 (by decide) (by decide), ldA7 V c t ht _ 2 2 h32 (by decide) (by decide),
    ldW7 V c t 0 (by decide), ldW7 V c t 128 (by decide), ldW7 V c t 256 (by decide), ldW7 V c t 384 (by decide), ldW7 V c t 512 (by decide),
    ldW7 V c t 640 (by decide), ldW7 V c t 768 (by decide), ldW7 V c t 896 (by decide), ldW7 V c t 1024 (by decide)]

set_option maxHeartbeats 1000000 in
/-- What the launch leaves in its output array. -/
theorem reg7 (c : Dev nD) : (dat7 V c).arrAt 3 cfg7.N = (conv9G (V c main_v305) (V c main_v301) (V c main_v306) : S2x56x56x512.Idx → EReal) := by
  refine (dat7 V c).arrAt_eq_of_covers 3 (conv9G (V c main_v305) (V c main_v301) (V c main_v306) : S2x56x56x512.Idx → EReal) (by decide +kernel) fun t hf y => ?_
  blk_simp
  rw [after7_3]
  unfold outsAt7 out7_A_3 kernelRun7_A
  frame_out
  idx_vars y
  obtain rfl : y0 = 0 := Subsingleton.elim _ _
  have ht : t.val < 2 := lt_of_lt_of_eq t.isLt N_7
  have he : ((win7_3.blk t).view.emb (ix4 0 y1 y2 y3)) = ix4 ⟨t.val, ht⟩ y1 y2 y3 := by blk_ext [idx7 t]
  refine Eq.trans ?_ (congrArg (conv9G (V c main_v305) (V c main_v301) (V c main_v306) : S2x56x56x512.Idx → EReal) he).symm
  rw [conv9G_ix4]
  exact body7 V c t ht y1 y2 y3
end Cert.Own
end
-- ==== Proof.Region8.lean ====
/- The third transposed convolution's launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

/-- What the body stores at one output position, from the values it read. -/
theorem pay8 (v4 v14 v24 v34 v44 v54 v64 v74 v84 : Vec Ideal S1x56x112x128 .bf16) (w0 w1 w2 w3 w4 w5 w6 w7 w8: Vec Ideal S128x512 .bf16) (b : Vec Ideal S1x512 .f32) (r : Fin 56) (s : Fin 112) (o : Fin 512) :
    k8_pay3 (F := Ideal) (k8_pay2 (k8_pay1 v4 w0 v14 w1 v24 w2) v34 w3 v44 w4 v54 w5) v64 w6 v74 w7 v84 w8 b (ix4 0 r s o) = max (∑ x : Fin 128, v4 (ix4 0 r s x) * w0 (ix2 x o) + ∑ x : Fin 128, v14 (ix4 0 r s x) * w1 (ix2 x o)
     + ∑ x : Fin 128, v24 (ix4 0 r s x) * w2 (ix2 x o) + ∑ x : Fin 128, v34 (ix4 0 r s x) * w3 (ix2 x o) + ∑ x : Fin 128, v44 (ix4 0 r s x) * w4 (ix2 x o) + ∑ x : Fin 128, v54 (ix4 0 r s x) * w5 (ix2 x o)
     + ∑ x : Fin 128, v64 (ix4 0 r s x) * w6 (ix2 x o) + ∑ x : Fin 128, v74 (ix4 0 r s x) * w7 (ix2 x o) + ∑ x : Fin 128, v84 (ix4 0 r s x) * w8 (ix2 x o) + b (ix2 0 o)) 0 := by
  pointwise [k8_pay1, k8_pay2, k8_pay3]

variable (V : (c : Dev nD) → (b : Ref sig .tc) → Buf (Elt Ideal) ((c : Thread nD τ).loc b))

/-- The block every grid point takes of each array. -/
theorem idx8 : ∀ t : Fin cfg8.N, win8_0.index t = ![t.val / 2, 0, 0, 0] ∧ win8_1.index t = ![0, 0] ∧ win8_2.index t = ![0, 0] ∧ win8_3.index t = ![t.val / 2, t.val % 2, 0, 0] := by decide +kernel
/-- Where the left column of windows starts. -/
theorem off8_1 : ∀ t : Fin cfg8.N, k8_off1 (grid8.coords t) 0#32 = ![0, 56 * (t.val % 2) + 0, 0, 0] ∧ k8_off1 (grid8.coords t) 1#32 = ![0, 56 * (t.val % 2) + 1, 0, 0] ∧ k8_off1 (grid8.coords t) 2#32 = ![0, 56 * (t.val % 2) + 2, 0, 0] := by decide +kernel
/-- Where the middle column of windows starts. -/
theorem off8_2 : ∀ t : Fin cfg8.N, k8_off2 (grid8.coords t) 0#32 = ![0, 56 * (t.val % 2) + 0, 1, 0] ∧ k8_off2 (grid8.coords t) 1#32 = ![0, 56 * (t.val % 2) + 1, 1, 0] ∧ k8_off2 (grid8.coords t) 2#32 = ![0, 56 * (t.val % 2) + 2, 1, 0] := by decide +kernel
/-- Where the right column of windows starts. -/
theorem off8_3 : ∀ t : Fin cfg8.N, k8_off3 (grid8.coords t) 0#32 = ![0, 56 * (t.val % 2) + 0, 2, 0] ∧ k8_off3 (grid8.coords t) 1#32 = ![0, 56 * (t.val % 2) + 1, 2, 0] ∧ k8_off3 (grid8.coords t) 2#32 = ![0, 56 * (t.val % 2) + 2, 2, 0] := by decide +kernel

/-- A window read from the block, as an entry of the padded array. -/
theorem ldA8 (c : Dev nD) (t : Fin cfg8.N) (ht : t.val < 4) (off : Fin 4 → ℕ) (u v : ℕ) (ho : off = ![0, 56 * (t.val % 2) + u, v, 0]) (hu : u + 112 ≤ 114) (hv : v + 112 ≤ 114) (h) (r : Fin 56) (s : Fin 112) (x : Fin 128) :
    View.ld (iblk8 V c 0 t) (Rect.unit off S1x56x112x128.size h) (ix4 0 r s x) = at4 (V c main_v337) (⟨t.val / 2, by omega⟩ : Fin 2) (56 * (t.val % 2) + r.val + u) (s.val + v) x := by
  subst ho
  rw [at4_lt _ _ _ _ _ (by omega) (by omega)]
  refine (View.ld_unit_apply_of _ _ _ _ _ (ix4 0 ⟨56 * (t.val % 2) + r.val + u, by omega⟩ ⟨s.val + v, by omega⟩ x) (fun a => by fin_cases a <;> simp <;> omega)).trans ?_
  blk_ext [iblk8, idx8 t]

/-- A slab of weights read from the block. -/
theorem ldW8 (c : Dev nD) (t : Fin cfg8.N) (q : ℕ) (hq : q + 128 ≤ 1152) (h) (x : Fin 128) (o : Fin 512) :
    View.ld (iblk8 V c 1 t) (Rect.unit ![q, 0] S128x512.size h) (ix2 x o) = V c main_v333 (ix2 (⟨q + x.val, by omega⟩ : Fin 1152) o) := by
  refine (View.ld_unit_apply_of _ _ _ _ _ (ix2 (⟨q + x.val, by omega⟩ : Fin 1152) o) (fun a => by fin_cases a <;> simp <;> omega)).trans ?_
  blk_ext [iblk8, idx8 t]

/-- The bias row read from the block. -/
theorem ldB8 (c : Dev nD) (t : Fin cfg8.N) (o : Fin 512) :
    iblk8 V c 2 t (ix2 0 o) = V c main_v338 (ix2 0 o) := by
  blk_ext [iblk8, idx8 t]

/-- The stored value at one position is the nine-tap sum. -/
theorem body8 (c : Dev nD) (t : Fin cfg8.N) (ht : t.val < 4) (y1 : Fin 56) (y2 : Fin 112) (y3 : Fin 512) :
  k8_pay3 (F := Ideal)
        (k8_pay2
          (k8_pay1 (View.ld (iblk8 V c 0 t) (Rect.unit (k8_off1 (grid8.coords t) 0#32) S1x56x112x128.size (k8_off1_inb _ 0)))
            (View.ld (iblk8 V c 1 t) (Rect.unit ![0, 0] S128x512.size inb_S1152x512_S128x512_0_0))
            (View.ld (iblk8 V c 0 t) (Rect.unit (k8_off2 (grid8.coords t) 0#32) S1x56x112x128.size (k8_off2_inb _ 0)))
            (View.ld (iblk8 V c 1 t) (Rect.unit ![128, 0] S128x512.size inb_S1152x512_S128x512_128_0))
            (View.ld (iblk8 V c 0 t) (Rect.unit (k8_off3 (grid8.coords t) 0#32) S1x56x112x128.size (k8_off3_inb _ 0)))
            (View.ld (iblk8 V c 1 t) (Rect.unit ![256, 0] S128x512.size inb_S1152x512_S128x512_256_0)))
          (View.ld (iblk8 V c 0 t) (Rect.unit (k8_off1 (grid8.coords t) 1#32) S1x56x112x128.size (k8_off1_inb _ 1)))
          (View.ld (iblk8 V c 1 t) (Rect.unit ![384, 0] S128x512.size inb_S1152x512_S128x512_384_0))
          (View.ld (iblk8 V c 0 t) (Rect.unit (k8_off2 (grid8.coords t) 1#32) S1x56x112x128.size (k8_off2_inb _ 1)))
          (View.ld (iblk8 V c 1 t) (Rect.unit ![512, 0] S128x512.size inb_S1152x512_S128x512_512_0))
          (View.ld (iblk8 V c 0 t) (Rect.unit (k8_off3 (grid8.coords t) 1#32) S1x56x112x128.size (k8_off3_inb _ 1)))
          (View.ld (iblk8 V c 1 t) (Rect.unit ![640, 0] S128x512.size inb_S1152x512_S128x512_640_0)))
        (View.ld (iblk8 V c 0 t) (Rect.unit (k8_off1 (grid8.coords t) 2#32) S1x56x112x128.size (k8_off1_inb _ 2)))
        (View.ld (iblk8 V c 1 t) (Rect.unit ![768, 0] S128x512.size inb_S1152x512_S128x512_768_0))
        (View.ld (iblk8 V c 0 t) (Rect.unit (k8_off2 (grid8.coords t) 2#32) S1x56x112x128.size (k8_off2_inb _ 2)))
        (View.ld (iblk8 V c 1 t) (Rect.unit ![896, 0] S128x512.size inb_S1152x512_S128x512_896_0))
        (View.ld (iblk8 V c 0 t) (Rect.unit (k8_off3 (grid8.coords t) 2#32) S1x56x112x128.size (k8_off3_inb _ 2)))
        (View.ld (iblk8 V c 1 t) (Rect.unit ![1024, 0] S128x512.size inb_S1152x512_S128x512_1024_0)) (iblk8 V c 2 t)
      (ix4 0 y1 y2 y3) = conv9 (V c main_v337) (V c main_v333) (V c main_v338) (⟨t.val / 2, by omega⟩ : Fin 2) (56 * (t.val % 2) + y1.val) y2.val y3 := by
  rw [pay8]
  unfold conv9 tap3
  obtain ⟨h10, h11, h12⟩ := off8_1 t
  obtain ⟨h20, h21, h22⟩ := off8_2 t
  obtain ⟨h30, h31, h32⟩ := off8_3 t
  rw [ldB8]
  simp only [ldA8 V c t ht _ 0 0 h10 (by decide) (by decide), ldA8 V c t ht _ 0 1 h20 (by decide) (by decide), ldA8 V c t ht _ 0 2 h30 (by decide) (by decide),
    ldA8 V c t ht _ 1 0 h11 (by decide) (by decide), ldA8 V c t ht _ 1 1 h21 (by decide) (by decide), ldA8 V c t ht _ 1 2 h31 (by decide) (by decide),
    ldA8 V c t ht _ 2 0 h12 (by decide) (by decide), ldA8 V c t ht _ 2 1 h22 (by decide) (by decide), ldA8 V c t ht _ 2 2 h32 (by decide) (by decide),
    ldW8 V c t 0 (by decide), ldW8 V c t 128 (by decide), ldW8 V c t 256 (by decide), ldW8 V c t 384 (by decide), ldW8 V c t 512 (by decide),
    ldW8 V c t 640 (by decide), ldW8 V c t 768 (by decide), ldW8 V c t 896 (by decide), ldW8 V c t 1024 (by decide)]

set_option maxHeartbeats 1000000 in
/-- What the launch leaves in its output array. -/
theorem reg8 (c : Dev nD) : (dat8 V c).arrAt 3 cfg8.N = (conv9G (V c main_v337) (V c main_v333) (V c main_v338) : S2x112x112x512.Idx → EReal) := by
  refine (dat8 V c).arrAt_eq_of_covers 3 (conv9G (V c main_v337) (V c main_v333) (V c main_v338) : S2x112x112x512.Idx → EReal) (by decide +kernel) fun t hf y => ?_
  blk_simp
  rw [after8_3]
  unfold outsAt8 out8_A_3 kernelRun8_A
  frame_out
  idx_vars y
  obtain rfl : y0 = 0 := Subsingleton.elim _ _
  have ht : t.val < 4 := lt_of_lt_of_eq t.isLt N_8
  have he : ((win8_3.blk t).view.emb (ix4 0 y1 y2 y3)) = ix4 ⟨t.val / 2, by omega⟩ ⟨56 * (t.val % 2) + y1.val, by omega⟩ y2 y3 := by blk_ext [idx8 t]
  refine Eq.trans ?_ (congrArg (conv9G (V c main_v337) (V c main_v333) (V c main_v338) : S2x112x112x512.Idx → EReal) he).symm
  rw [conv9G_ix4]
  exact body8 V c t ht y1 y2 y3
end Cert.Own
end
-- ==== Proof.Region9.lean ====
/- The decoder's last launch: the array it leaves. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block every grid point takes of each array. -/
theorem idx9 : ∀ t : Fin cfg9.N, win9_0.index t = ![t.val, 0] ∧ win9_1.index t = ![0, 0] ∧ win9_2.index t = ![0, 0] ∧ win9_3.index t = ![t.val, 0] := by decide +kernel

/-- An entry of the activations read from the block. -/
theorem ldA9 (c : Dev nD) (t : Fin cfg9.N) (ht : t.val < 8) (r : Fin 12544) (x : Fin 128) :
    iblk9 V c 0 t (ix2 r x) = V c main_v347 (ix2 (⟨12544 * t.val + r.val, by omega⟩ : Fin 100352) x) := by
  blk_ext [iblk9, idx9 t]

/-- A weight read from the block. -/
theorem ldW9 (c : Dev nD) (t : Fin cfg9.N) (x : Fin 128) (o : Fin 8) : iblk9 V c 1 t (ix2 x o) = V c main_v348 (ix2 x o) := by
  blk_ext [iblk9, idx9 t]

/-- A bias read from the block. -/
theorem ldB9 (c : Dev nD) (t : Fin cfg9.N) (o : Fin 8) : iblk9 V c 2 t (ix2 0 o) = V c main_v349 (ix2 0 o) := by
  blk_ext [iblk9, idx9 t]

set_option maxHeartbeats 1000000 in
/-- What the launch leaves in its output array. -/
theorem reg9 (c : Dev nD) : (dat9 V c).arrAt 3 cfg9.N = (mmsG (V c main_v347) (V c main_v348) (V c main_v349) : S100352x8.Idx → EReal) := by
  refine (dat9 V c).arrAt_eq_of_covers 3 (mmsG (V c main_v347) (V c main_v348) (V c main_v349) : S100352x8.Idx → EReal) (by decide +kernel) fun t hf y => ?_
  blk_simp
  rw [after9_3]
  frame_out
  idx_vars y
  have ht : t.val < 8 := lt_of_lt_of_eq t.isLt N_9
  have he : ((win9_3.blk t).view.emb (ix2 y0 y1)) = ix2 (⟨12544 * t.val + y0.val, by omega⟩ : Fin 100352) y1 := by blk_ext [idx9 t]
  refine Eq.trans ?_ (congrArg (mmsG (V c main_v347) (V c main_v348) (V c main_v349) : S100352x8.Idx → EReal) he).symm
  rw [mmsG_ix2]
  pointwise [k9_pay1]
  simp only [ldA9 V c t ht, ldW9 V c t, ldB9 V c t]
end Cert.Own
end
-- ==== Proof.KerValB.lean ====
/- The contents of the kernel's buffers through the decoder, and its three results, as the network's arrays of the arguments. -/
module

public import proofs.«01_k».proof.Proof.KerValA
public import proofs.«01_k».proof.Proof.KerDec
public import proofs.«01_k».proof.Proof.Region6
public import proofs.«01_k».proof.Proof.Region7
public import proofs.«01_k».proof.Proof.Region8
public import proofs.«01_k».proof.Proof.Region9

@[expose] public section

set_option maxRecDepth 16384

noncomputable section

namespace Cert.Own.Ker

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The second layer of the decoder. -/
abbrev dec2 : Pix 56 56 128 := convTS 56 56 (dec1 m c) (arg m c main_arg12) (arg m c main_arg13)

/-- The third layer of the decoder. -/
abbrev dec3 : Pix 112 112 128 := convTS 112 112 (dec2 m c) (arg m c main_arg14) (arg m c main_arg15)

/-- The fourth layer of the decoder. -/
abbrev dec4 : Pix 224 224 128 := convTS 224 224 (dec3 m c) (arg m c main_arg16) (arg m c main_arg17)

/-- The decoded image of the launch's arguments. -/
abbrev img : Pix 224 224 3 := decoded (cod m c) (arg m c main_arg10) (arg m c main_arg11) (arg m c main_arg12) (arg m c main_arg13) (arg m c main_arg14) (arg m c main_arg15)
  (arg m c main_arg16) (arg m c main_arg17) (arg m c main_arg18) (arg m c main_arg19)

/-- The table of rows after its writing. -/
theorem rows_table : W1 m ρ c (Proc.devRef .tc main_c) = fun i => lit0 (S3x2.rowMajor i) := by
  after_reads_simp
  rfl

/-- The table of rows before launch 6. -/
theorem table6 : W18 m ρ c (Proc.devRef .tc main_c) = fun i => lit0 (S3x2.rowMajor i) := ((W18_of m ρ c _ (by decide)).trans ((W17_of m ρ c _ (by decide)).trans ((W16_of m ρ c _ (by decide)).trans ((W15_of m ρ c _ (by decide)).trans ((W14_of m ρ c _ (by decide)).trans ((W13_of m ρ c _ (by decide)).trans ((W12_of m ρ c _ (by decide)).trans ((W11_of m ρ c _ (by decide)).trans ((W10_of m ρ c _ (by decide)).trans ((W9_of m ρ c _ (by decide)).trans ((W8_of m ρ c _ (by decide)).trans ((W7_of m ρ c _ (by decide)).trans ((W6_of m ρ c _ (by decide)).trans ((W5_of m ρ c _ (by decide)).trans ((W4_of m ρ c _ (by decide)).trans ((W3_of m ρ c _ (by decide)).trans (W2_of m ρ c _ (by decide)))))))))))))))))).trans (rows_table m ρ c)

/-- The table of rows before launch 7. -/
theorem table7 : W24 m ρ c (Proc.devRef .tc main_c) = fun i => lit0 (S3x2.rowMajor i) := ((W24_of m ρ c _ (by decide)).trans ((W23_of m ρ c _ (by decide)).trans ((W22_of m ρ c _ (by decide)).trans ((W21_of m ρ c _ (by decide)).trans ((W20_of m ρ c _ (by decide)).trans (W19_of m ρ c _ (by decide))))))).trans (table6 m ρ c)

/-- The table of rows before launch 8. -/
theorem table8 : W30 m ρ c (Proc.devRef .tc main_c) = fun i => lit0 (S3x2.rowMajor i) := ((W30_of m ρ c _ (by decide)).trans ((W29_of m ρ c _ (by decide)).trans ((W28_of m ρ c _ (by decide)).trans ((W27_of m ρ c _ (by decide)).trans ((W26_of m ρ c _ (by decide)).trans (W25_of m ρ c _ (by decide))))))).trans (table7 m ρ c)

/-- The decoder's first layer as an array of images. -/
theorem img6 : (W19 m ρ c (Proc.devRef .tc main_v246) : S2x28x28x128.Idx → EReal) = dec1 m c := by
  funext y
  obtain ⟨n, i, j, o, rfl⟩ : ∃ n i j o, y = ix4 n i j o := ⟨_, _, _, _, eq_ix4 y⟩
  exact (fold6 (W18 m ρ c) n i j o).trans (val5 m ρ c n i j o)

/-- Launch 6 and the interleaving after it leave the decoder's next layer. -/
theorem img7 : (W25 m ρ c (Proc.devRef .tc main_v278) : S2x56x56x128.Idx → EReal) = dec2 m c := by
  refine conv9_convT rfl rfl rfl rfl (W23 m ρ c (Proc.devRef .tc main_v273)) _ (W23 m ρ c (Proc.devRef .tc main_v269)) (W23 m ρ c (Proc.devRef .tc main_v274)) _ _ _
    (fun n r s ch => (border6 (W18 m ρ c) n r s ch).trans (pad1_eq (img6 m ρ c) n rfl rfl ch))
    (fun u v ch a e o => (rows6 (W18 m ρ c) (table6 m ρ c) u v ch a e o).trans (congrArg (fun w => wz w (tapRow u a) (tapRow v e) ch o) (W18_args m ρ c main_arg12 (by decide))))
    (fun a e o => (bias6 (W18 m ρ c) a e o).trans (congrFun (W18_args m ρ c main_arg13 (by decide)) _))
    (fun n i j a e o => (unphase7 (W24 m ρ c) n i j a e o).trans (congrFun ((W24_arr m ρ c 3).trans (reg6 (V23 m ρ) c)) _))

/-- Launch 7 and the interleaving after it leave the decoder's next layer. -/
theorem img8 : (W31 m ρ c (Proc.devRef .tc main_v310) : S2x112x112x128.Idx → EReal) = dec3 m c := by
  refine conv9_convT rfl rfl rfl rfl (W29 m ρ c (Proc.devRef .tc main_v305)) _ (W29 m ρ c (Proc.devRef .tc main_v301)) (W29 m ρ c (Proc.devRef .tc main_v306)) _ _ _
    (fun n r s ch => (border7 (W24 m ρ c) n r s ch).trans (pad1_eq (img7 m ρ c) n rfl rfl ch))
    (fun u v ch a e o => (rows7 (W24 m ρ c) (table7 m ρ c) u v ch a e o).trans (congrArg (fun w => wz w (tapRow u a) (tapRow v e) ch o) (W24_args m ρ c main_arg14 (by decide))))
    (fun a e o => (bias7 (W24 m ρ c) a e o).trans (congrFun (W24_args m ρ c main_arg15 (by decide)) _))
    (fun n i j a e o => (unphase8 (W30 m ρ c) n i j a e o).trans (congrFun ((W30_arr m ρ c 3).trans (reg7 (V29 m ρ) c)) _))

/-- Launch 8 and the interleaving after it leave the decoder's next layer. -/
theorem img9 : (W37 m ρ c (Proc.devRef .tc main_v342) : S2x224x224x128.Idx → EReal) = dec4 m c := by
  refine conv9_convT rfl rfl rfl rfl (W35 m ρ c (Proc.devRef .tc main_v337)) _ (W35 m ρ c (Proc.devRef .tc main_v333)) (W35 m ρ c (Proc.devRef .tc main_v338)) _ _ _
    (fun n r s ch => (border8 (W30 m ρ c) n r s ch).trans (pad1_eq (img8 m ρ c) n rfl rfl ch))
    (fun u v ch a e o => (rows8 (W30 m ρ c) (table8 m ρ c) u v ch a e o).trans (congrArg (fun w => wz w (tapRow u a) (tapRow v e) ch o) (W30_args m ρ c main_arg16 (by decide))))
    (fun a e o => (bias8 (W30 m ρ c) a e o).trans (congrFun (W30_args m ρ c main_arg17 (by decide)) _))
    (fun n i j a e o => (unphase9 (W36 m ρ c) n i j a e o).trans (congrFun ((W36_arr m ρ c 3).trans (reg8 (V35 m ρ) c)) _))

/-- The last launch leaves the image. -/
theorem val9 (n : Fin 2) (p q : Fin 224) (o : Fin 3) : W42 m ρ c (Proc.devRef .tc main_v350) (ix2 ⟨n.val * 50176 + p.val * 224 + q.val, by omega⟩ ⟨o.val, by omega⟩) = img m c (ix4 n p q o) := by
  refine (congrFun ((W42_arr m ρ c 3).trans (reg9 (V41 m ρ) c)) _).trans ?_
  exact mms_dense _ (dec4 m c) _ _ _ _ _ n p q (fun ch => (flat9 (W36 m ρ c) n p q ch).trans (congrFun (img9 m ρ c) _))
    (fun ch o => (mat9 (W36 m ρ c) ch o).trans (congrFun (W36_args m ρ c main_arg18 (by decide)) _))
    (fun o => (bias9 (W36 m ρ c) o).trans (congrFun (W36_args m ρ c main_arg19 (by decide)) _)) o

/-- The kernel's first result is the decoded image. -/
theorem ker_image : (W43 m ρ c (Proc.devRef .tc main_v353) : S2x3x224x224.Idx → EReal) = nchw (img m c) := by
  funext y
  obtain ⟨n, o, p, q, rfl⟩ : ∃ n o p q, y = ix4 n o p q := ⟨_, _, _, _, eq_ix4 y⟩
  exact (res10 (W42 m ρ c) n o p q).trans (val9 m ρ c n p q o)

/-- The kernel's second result is the latent. -/
theorem ker_latent : (W43 m ρ c (Proc.devRef .tc main_v236) : S2x128x28x28.Idx → EReal) = nchw (lat m c) :=
  ((W43_of m ρ c _ (by decide)).trans ((W42_of m ρ c _ (by decide)).trans ((W41_of m ρ c _ (by decide)).trans ((W40_of m ρ c _ (by decide)).trans ((W39_of m ρ c _ (by decide)).trans ((W38_of m ρ c _ (by decide)).trans ((W37_of m ρ c _ (by decide)).trans ((W36_of m ρ c _ (by decide)).trans ((W35_of m ρ c _ (by decide)).trans ((W34_of m ρ c _ (by decide)).trans ((W33_of m ρ c _ (by decide)).trans ((W32_of m ρ c _ (by decide)).trans ((W31_of m ρ c _ (by decide)).trans ((W30_of m ρ c _ (by decide)).trans ((W29_of m ρ c _ (by decide)).trans ((W28_of m ρ c _ (by decide)).trans ((W27_of m ρ c _ (by decide)).trans ((W26_of m ρ c _ (by decide)).trans ((W25_of m ρ c _ (by decide)).trans ((W24_of m ρ c _ (by decide)).trans ((W23_of m ρ c _ (by decide)).trans ((W22_of m ρ c _ (by decide)).trans ((W21_of m ρ c _ (by decide)).trans ((W20_of m ρ c _ (by decide)).trans ((W19_of m ρ c _ (by decide)).trans ((W18_of m ρ c _ (by decide)).trans ((W17_of m ρ c _ (by decide)).trans (W16_of m ρ c _ (by decide))))))))))))))))))))))))))))).trans (out1 m ρ c)

/-- The kernel's third result is the codes. -/
theorem ker_codes : (W43 m ρ c (Proc.devRef .tc main_v239) : S2x128x28x28.Idx → EReal) = nchw (cod m c) :=
  ((W43_of m ρ c _ (by decide)).trans ((W42_of m ρ c _ (by decide)).trans ((W41_of m ρ c _ (by decide)).trans ((W40_of m ρ c _ (by decide)).trans ((W39_of m ρ c _ (by decide)).trans ((W38_of m ρ c _ (by decide)).trans ((W37_of m ρ c _ (by decide)).trans ((W36_of m ρ c _ (by decide)).trans ((W35_of m ρ c _ (by decide)).trans ((W34_of m ρ c _ (by decide)).trans ((W33_of m ρ c _ (by decide)).trans ((W32_of m ρ c _ (by decide)).trans ((W31_of m ρ c _ (by decide)).trans ((W30_of m ρ c _ (by decide)).trans ((W29_of m ρ c _ (by decide)).trans ((W28_of m ρ c _ (by decide)).trans ((W27_of m ρ c _ (by decide)).trans ((W26_of m ρ c _ (by decide)).trans ((W25_of m ρ c _ (by decide)).trans ((W24_of m ρ c _ (by decide)).trans ((W23_of m ρ c _ (by decide)).trans ((W22_of m ρ c _ (by decide)).trans ((W21_of m ρ c _ (by decide)).trans ((W20_of m ρ c _ (by decide)).trans ((W19_of m ρ c _ (by decide)).trans (W18_of m ρ c _ (by decide))))))))))))))))))))))))))).trans (out2 m ρ c)

end Cert.Own.Ker
-- ==== Proof.Agree.lean ====
/- The kernel and the reference agree: from finite arguments of the encoder both end with the network's three arrays. -/
module

public import proofs.«01_k».proof.Defs
public import proofs.«01_k».proof.Proof.Finite
public import proofs.«01_k».proof.Proof.RefRun
public import proofs.«01_k».proof.Proof.KerRun
public import proofs.«01_k».proof.Proof.KerValB

@[expose] public section

set_option maxRecDepth 16384

noncomputable section

namespace Cert.Own.Ref

open Idealize.ShloMosaic Idealize.ShloMosaic.TcCoe Idealize.SL.Sem Idealize.ShloMosaic.StableHlo
open Cert.ReferenceIdeal Cert.ReferenceIdeal.Facts₀

/-- The reference's three results, when the latent is real. -/
theorem ref_results (V : Valuation τ sig (Elt Ideal)) {a0 : (⟨4, ![2, 3, 224, 224]⟩ : Shape).Idx → EReal} {a1 : Wt 128 3} {a2 : Bs 128} {a3 : Wt 128 128} {a4 : Bs 128}
    {a5 : Wt 128 128} {a6 : Bs 128} {a7 : Wd 128 128} {a8 : Bs 128} {a9 : (⟨2, ![128, 128]⟩ : Shape).Idx → EReal} {a10 : Wd 128 128} {a11 : Bs 128} {a12 : Wt 128 128} {a13 : Bs 128}
    {a14 : Wt 128 128} {a15 : Bs 128} {a16 : Wt 128 128} {a17 : Bs 128} {a18 : Wd 3 128} {a19 : Bs 3}
    (h0 : V (Proc.devRef .tc main_arg0) = a0) (h1 : V (Proc.devRef .tc main_arg1) = a1) (h2 : V (Proc.devRef .tc main_arg2) = a2) (h3 : V (Proc.devRef .tc main_arg3) = a3)
    (h4 : V (Proc.devRef .tc main_arg4) = a4) (h5 : V (Proc.devRef .tc main_arg5) = a5) (h6 : V (Proc.devRef .tc main_arg6) = a6) (h7 : V (Proc.devRef .tc main_arg7) = a7)
    (h8 : V (Proc.devRef .tc main_arg8) = a8) (h9 : V (Proc.devRef .tc main_arg9) = a9) (h10 : V (Proc.devRef .tc main_arg10) = a10) (h11 : V (Proc.devRef .tc main_arg11) = a11)
    (h12 : V (Proc.devRef .tc main_arg12) = a12) (h13 : V (Proc.devRef .tc main_arg13) = a13) (h14 : V (Proc.devRef .tc main_arg14) = a14) (h15 : V (Proc.devRef .tc main_arg15) = a15)
    (h16 : V (Proc.devRef .tc main_arg16) = a16) (h17 : V (Proc.devRef .tc main_arg17) = a17) (h18 : V (Proc.devRef .tc main_arg18) = a18) (h19 : V (Proc.devRef .tc main_arg19) = a19)
    (hf : ∀ y, Real1 (latent a0 a1 a2 a3 a4 a5 a6 a7 a8 y)) :
    U10 V (Proc.devRef .tc main_v93) = nchw (decoded (codesOf (latent a0 a1 a2 a3 a4 a5 a6 a7 a8) a9) a10 a11 a12 a13 a14 a15 a16 a17 a18 a19)
      ∧ U10 V (Proc.devRef .tc main_v94) = nchw (latent a0 a1 a2 a3 a4 a5 a6 a7 a8)
      ∧ U10 V (Proc.devRef .tc main_v95) = nchw (codesOf (latent a0 a1 a2 a3 a4 a5 a6 a7 a8) a9) := by
  subst h0 h1 h2 h3 h4 h5 h6 h7 h8 h9 h10 h11 h12 h13 h14 h15 h16 h17 h18 h19
  have e := ref_latent V
  have q := ref_codes V
  rw [e] at q
  refine ⟨?_, ?_, ?_⟩
  · refine (ref_image V fun y => ?_).trans ?_
    · rw [e]
      exact hf y
    · rw [q]
  · exact (ref_res1 V).trans (congrArg (fun x => nchw x) e)
  · exact (ref_res2 V).trans (congrArg (fun x => nchw x) q)

end Cert.Own.Ref

namespace Cert.Own

open Idealize.ShloMosaic Idealize.ShloMosaic.TcCoe Idealize.SL.Sem
open Cert.KernelIdeal Cert.KernelIdeal.Gen Cert.Own.Ker

set_option maxHeartbeats 2000000 in
/-- The kernel and the reference end with equal results, and with their arguments unchanged. -/
theorem agree : Cert.algebraic_KernelIdeal_ReferenceIdeal_pre_finite_encoder := by
  intro m g m' g' hpre hag
  refine ⟨fun c => nchw (img m c), fun c => nchw (lat m c), fun c => nchw (cod m c), ?_, ?_⟩
  · refine θ_run_mono (runAll m g) fun r h c => ?_
    have k : ∀ a : Ref sig .tc, Proc.devRef .tc a ∈ Pipeline.ucRefs τ sig → a ∈ argRefs → r.2.mem ((c.tc : Thread nD τ).loc a) = m ((c.tc : Thread nD τ).loc a) :=
      fun a hu ha => (h c _ hu).trans (W43_args m g c a ha)
    exact ⟨(h c _ (mem_uc main_v353 (by decide))).trans (ker_image m g c), (h c _ (mem_uc main_v236 (by decide))).trans (ker_latent m g c),
      (h c _ (mem_uc main_v239 (by decide))).trans (ker_codes m g c),
      k main_arg0 (mem_uc main_arg0 (by decide)) (by decide), k main_arg1 (mem_uc main_arg1 (by decide)) (by decide), k main_arg2 (mem_uc main_arg2 (by decide)) (by decide), k main_arg3 (mem_uc main_arg3 (by decide)) (by decide), k main_arg4 (mem_uc main_arg4 (by decide)) (by decide), k main_arg5 (mem_uc main_arg5 (by decide)) (by decide), k main_arg6 (mem_uc main_arg6 (by decide)) (by decide), k main_arg7 (mem_uc main_arg7 (by decide)) (by decide), k main_arg8 (mem_uc main_arg8 (by decide)) (by decide), k main_arg9 (mem_uc main_arg9 (by decide)) (by decide), k main_arg10 (mem_uc main_arg10 (by decide)) (by decide), k main_arg11 (mem_uc main_arg11 (by decide)) (by decide), k main_arg12 (mem_uc main_arg12 (by decide)) (by decide), k main_arg13 (mem_uc main_arg13 (by decide)) (by decide), k main_arg14 (mem_uc main_arg14 (by decide)) (by decide), k main_arg15 (mem_uc main_arg15 (by decide)) (by decide), k main_arg16 (mem_uc main_arg16 (by decide)) (by decide), k main_arg17 (mem_uc main_arg17 (by decide)) (by decide), k main_arg18 (mem_uc main_arg18 (by decide)) (by decide), k main_arg19 (mem_uc main_arg19 (by decide)) (by decide)⟩
  · refine θ_run_mono (Ref.ref_run m' g') fun r h c => ?_
    obtain ⟨p0, p1, p2, p3, p4, p5, p6, p7, p8⟩ := pre_real _ _ _ _ _ _ _ _ _ _ _ _ _ _ _ _ _ _ _ _ (hpre c)
    obtain ⟨h0, h1, h2, h3, h4, h5, h6, h7, h8, h9, h10, h11, h12, h13, h14, h15, h16, h17, h18, h19⟩ := hag c
    obtain ⟨r0, r1, r2⟩ := Ref.ref_results (StableHlo.launchContents m' c) h0 h1 h2 h3 h4 h5 h6 h7 h8 h9 h10 h11 h12 h13 h14 h15 h16 h17 h18 h19 (latent_real p0 p1 p2 p3 p4 p5 p6 p7 p8)
    have k : ∀ a : Ref Cert.ReferenceIdeal.sig .tc, a ∉ Ref.wr0 ++ Ref.wr1 ++ Ref.wr2 ++ Ref.wr3 ++ Ref.wr4 ++ Ref.wr5 ++ Ref.wr6 ++ Ref.wr7 ++ Ref.wr8 ++ Ref.wr9 →
        r.2.mem ((c.tc : Thread Cert.ReferenceIdeal.nD Cert.ReferenceIdeal.τ).loc a) = m' ((c.tc : Thread Cert.ReferenceIdeal.nD Cert.ReferenceIdeal.τ).loc a) :=
      fun a ha => (h c a).trans (Ref.keepAll _ a ha).2.2.2.2.2
    exact ⟨(h c _).trans r0, (h c _).trans r1, (h c _).trans r2,
      k Cert.ReferenceIdeal.main_arg0 (by decide +kernel), k Cert.ReferenceIdeal.main_arg1 (by decide +kernel), k Cert.ReferenceIdeal.main_arg2 (by decide +kernel), k Cert.ReferenceIdeal.main_arg3 (by decide +kernel), k Cert.ReferenceIdeal.main_arg4 (by decide +kernel), k Cert.ReferenceIdeal.main_arg5 (by decide +kernel), k Cert.ReferenceIdeal.main_arg6 (by decide +kernel), k Cert.ReferenceIdeal.main_arg7 (by decide +kernel), k Cert.ReferenceIdeal.main_arg8 (by decide +kernel), k Cert.ReferenceIdeal.main_arg9 (by decide +kernel), k Cert.ReferenceIdeal.main_arg10 (by decide +kernel), k Cert.ReferenceIdeal.main_arg11 (by decide +kernel), k Cert.ReferenceIdeal.main_arg12 (by decide +kernel), k Cert.ReferenceIdeal.main_arg13 (by decide +kernel), k Cert.ReferenceIdeal.main_arg14 (by decide +kernel), k Cert.ReferenceIdeal.main_arg15 (by decide +kernel), k Cert.ReferenceIdeal.main_arg16 (by decide +kernel), k Cert.ReferenceIdeal.main_arg17 (by decide +kernel), k Cert.ReferenceIdeal.main_arg18 (by decide +kernel), k Cert.ReferenceIdeal.main_arg19 (by decide +kernel)⟩

end Cert.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.Own.refFacts, Cert.Own.preFacts, by
  exact ⟨fun m ρ _ => Cert.Kernel.Gen.frame m ρ, fun m ρ _ => Cert.KernelIdeal.Gen.frame m ρ, fun m ρ _ => Cert.KernelIdeal.Gen.frame m ρ,
    Cert.Own.frame_ref, fun m ρ _ => Cert.Own.frame_ref m ρ trivial, trivial, Cert.Own.agree⟩⟩

end Cert.Proof

end
